-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Dh2 (m : (ℓ : Loc Cert.Dh2.nD Cert.Dh2.τ Cert.Dh2.sig) → Buf (Elt Bits) ℓ) : Prop :=
  True

def Pre_Dh2Ideal (m : (ℓ : Loc Cert.Dh2Ideal.nD Cert.Dh2Ideal.τ Cert.Dh2Ideal.sig) → Buf (Elt Ideal) ℓ) : Prop :=
  True

def Pre_Dh2RefIdeal (m : (ℓ : Loc Cert.Dh2RefIdeal.nD Cert.Dh2RefIdeal.τ Cert.Dh2RefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactRefIdeal (m : (ℓ : Loc Cert.DactRefIdeal.nD Cert.DactRefIdeal.τ Cert.DactRefIdeal.sig) → Buf (Elt Ideal) ℓ) : Prop :=
  True

def Pre_DwUpA (m : (ℓ : Loc Cert.DwUpA.nD Cert.DwUpA.τ Cert.DwUpA.sig) → Buf (Elt Bits) ℓ) : Prop :=
  True

def Pre_DwUpAIdeal (m : (ℓ : Loc Cert.DwUpAIdeal.nD Cert.DwUpAIdeal.τ Cert.DwUpAIdeal.sig) → Buf (Elt Ideal) ℓ) : Prop :=
  True

def Pre_DwUpARefIdeal (m : (ℓ : Loc Cert.DwUpARefIdeal.nD Cert.DwUpARefIdeal.τ Cert.DwUpARefIdeal.sig) → Buf (Elt Ideal) ℓ) : Prop :=
  True

def Pre_DwUpV (m : (ℓ : Loc Cert.DwUpV.nD Cert.DwUpV.τ Cert.DwUpV.sig) → Buf (Elt Bits) ℓ) : Prop :=
  True

def Pre_DwUpVIdeal (m : (ℓ : Loc Cert.DwUpVIdeal.nD Cert.DwUpVIdeal.τ Cert.DwUpVIdeal.sig) → Buf (Elt Ideal) ℓ) : Prop :=
  True

def Pre_DwUpVRefIdeal (m : (ℓ : Loc Cert.DwUpVRefIdeal.nD Cert.DwUpVRefIdeal.τ Cert.DwUpVRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_Docat (m : (ℓ : Loc Cert.Docat.nD Cert.Docat.τ Cert.Docat.sig) → Buf (Elt Bits) ℓ) : Prop :=
  True

def Pre_DocatIdeal (m : (ℓ : Loc Cert.DocatIdeal.nD Cert.DocatIdeal.τ Cert.DocatIdeal.sig) → Buf (Elt Ideal) ℓ) : Prop :=
  True

def Pre_DocatRefIdeal (m : (ℓ : Loc Cert.DocatRefIdeal.nD Cert.DocatRefIdeal.τ Cert.DocatRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_finite_mix [hPre_finite_mix : Cert.Pre_finite_mix.Facts] (m : (ℓ : Loc Cert.MixIdeal.nD Cert.MixIdeal.τ Cert.MixIdeal.sig) → Buf (Elt Ideal) ℓ) : Prop :=
  ∀ c : Dev Cert.MixIdeal.nD,
    (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5))).1 = (fun _ => 1#1)
    ∧ (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5))).2.1 = (fun _ => 1#1)
    ∧ (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5))).2.2.1 = (fun _ => 1#1)
    ∧ (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5))).2.2.2.1 = (fun _ => 1#1)
    ∧ (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5))).2.2.2.2.1 = (fun _ => 1#1)
    ∧ (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5))).2.2.2.2.2 = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_finite_mix [hPre_finite_mix : Cert.Pre_finite_mix.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5))).1 = (fun _ => 1#1)
    ∧ (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5))).2.1 = (fun _ => 1#1)
    ∧ (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5))).2.2.1 = (fun _ => 1#1)
    ∧ (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5))).2.2.2.1 = (fun _ => 1#1)
    ∧ (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5))).2.2.2.2.1 = (fun _ => 1#1)
    ∧ (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Dh2 [hDh2 : Cert.Dh2.Facts] : Prop :=
  ∀ (m : (ℓ : Loc Cert.Dh2.nD Cert.Dh2.τ Cert.Dh2.sig) → Buf (Elt Bits) ℓ) (g : Dev Cert.Dh2.nD → PrngReg), Pre_Dh2 m →
    θ_run (Cert.Dh2.defs (F := Bits)) (onTc (τ := Cert.Dh2.τ) (Cert.Dh2.main (F := Bits))) ⟨m, fun _ => 0, g⟩ (fun r => (∀ c : Dev Cert.Dh2.nD,
      r.2.mem ((c.tc : Thread Cert.Dh2.nD Cert.Dh2.τ).loc Cert.Dh2.main_arg0) = m ((c.tc : Thread Cert.Dh2.nD Cert.Dh2.τ).loc Cert.Dh2.main_arg0)
      ∧ r.2.mem ((c.tc : Thread Cert.Dh2.nD Cert.Dh2.τ).loc Cert.Dh2.main_arg1) = m ((c.tc : Thread Cert.Dh2.nD Cert.Dh2.τ).loc Cert.Dh2.main_arg1)
      ∧ r.2.mem ((c.tc : Thread Cert.Dh2.nD Cert.Dh2.τ).loc Cert.Dh2.main_arg2) = m ((c.tc : Thread Cert.Dh2.nD Cert.Dh2.τ).loc Cert.Dh2.main_arg2)
      ∧ r.2.mem ((c.tc : Thread Cert.Dh2.nD Cert.Dh2.τ).loc Cert.Dh2.main_arg3) = m ((c.tc : Thread Cert.Dh2.nD Cert.Dh2.τ).loc Cert.Dh2.main_arg3)
      ∧ r.2.mem ((c.tc : Thread Cert.Dh2.nD Cert.Dh2.τ).loc Cert.Dh2.main_arg4) = m ((c.tc : Thread Cert.Dh2.nD Cert.Dh2.τ).loc Cert.Dh2.main_arg4)
      ∧ r.2.mem ((c.tc : Thread Cert.Dh2.nD Cert.Dh2.τ).loc Cert.Dh2.main_arg5) = m ((c.tc : Thread Cert.Dh2.nD Cert.Dh2.τ).loc Cert.Dh2.main_arg5))
      ∧ r.2.sem = fun _ => 0)

def quiescent_Dh2Ideal [hDh2Ideal : Cert.Dh2Ideal.Facts] : Prop :=
  ∀ (m : (ℓ : Loc Cert.Dh2Ideal.nD Cert.Dh2Ideal.τ Cert.Dh2Ideal.sig) → Buf (Elt Ideal) ℓ) (g : Dev Cert.Dh2Ideal.nD → PrngReg), Pre_Dh2Ideal m →
    θ_run (Cert.Dh2Ideal.defs (F := Ideal)) (onTc (τ := Cert.Dh2Ideal.τ) (Cert.Dh2Ideal.main (F := Ideal))) ⟨m, fun _ => 0, g⟩ (fun r => (∀ c : Dev Cert.Dh2Ideal.nD,
      r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
      ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1)
      ∧ r.2.mem ((c.tc : Thread Cert.Dh2Ideal.nD Cert.Dh2Ideal.τ).loc Cert.Dh2Ideal.main_arg2) = m ((c.tc : Thread Cert.Dh2Ideal.nD Cert.Dh2Ideal.τ).loc Cert.Dh2Ideal.main_arg2)
      ∧ r.2.mem ((c.tc : Thread Cert.Dh2Ideal.nD Cert.Dh2Ideal.τ).loc Cert.Dh2Ideal.main_arg3) = m ((c.tc : Thread Cert.Dh2Ideal.nD Cert.Dh2Ideal.τ).loc Cert.Dh2Ideal.main_arg3)
      ∧ r.2.mem ((c.tc : Thread Cert.Dh2Ideal.nD Cert.Dh2Ideal.τ).loc Cert.Dh2Ideal.main_arg4) = m ((c.tc : Thread Cert.Dh2Ideal.nD Cert.Dh2Ideal.τ).loc Cert.Dh2Ideal.main_arg4)
      ∧ r.2.mem ((c.tc : Thread Cert.Dh2Ideal.nD Cert.Dh2Ideal.τ).loc Cert.Dh2Ideal.main_arg5) = m ((c.tc : Thread Cert.Dh2Ideal.nD Cert.Dh2Ideal.τ).loc Cert.Dh2Ideal.main_arg5))
      ∧ r.2.sem = fun _ => 0)

def quiescent_Dh2RefIdeal [hDh2RefIdeal : Cert.Dh2RefIdeal.Facts] : Prop :=
  ∀ (m : (ℓ : Loc Cert.Dh2RefIdeal.nD Cert.Dh2RefIdeal.τ Cert.Dh2RefIdeal.sig) → Buf (Elt Ideal) ℓ) (g : Dev Cert.Dh2RefIdeal.nD → PrngReg), Pre_Dh2RefIdeal m →
    θ_run (Cert.Dh2RefIdeal.defs (F := Ideal)) (onTc (τ := Cert.Dh2RefIdeal.τ) (Cert.Dh2RefIdeal.main (F := Ideal))) ⟨m, fun _ => 0, g⟩ (fun r => (∀ c : Dev Cert.Dh2RefIdeal.nD,
      r.2.mem ((c.tc : Thread Cert.Dh2RefIdeal.nD Cert.Dh2RefIdeal.τ).loc Cert.Dh2RefIdeal.main_arg0) = m ((c.tc : Thread Cert.Dh2RefIdeal.nD Cert.Dh2RefIdeal.τ).loc Cert.Dh2RefIdeal.main_arg0)
      ∧ r.2.mem ((c.tc : Thread Cert.Dh2RefIdeal.nD Cert.Dh2RefIdeal.τ).loc Cert.Dh2RefIdeal.main_arg1) = m ((c.tc : Thread Cert.Dh2RefIdeal.nD Cert.Dh2RefIdeal.τ).loc Cert.Dh2RefIdeal.main_arg1)
      ∧ r.2.mem ((c.tc : Thread Cert.Dh2RefIdeal.nD Cert.Dh2RefIdeal.τ).loc Cert.Dh2RefIdeal.main_arg2) = m ((c.tc : Thread Cert.Dh2RefIdeal.nD Cert.Dh2RefIdeal.τ).loc Cert.Dh2RefIdeal.main_arg2)
      ∧ r.2.mem ((c.tc : Thread Cert.Dh2RefIdeal.nD Cert.Dh2RefIdeal.τ).loc Cert.Dh2RefIdeal.main_arg3) = m ((c.tc : Thread Cert.Dh2RefIdeal.nD Cert.Dh2RefIdeal.τ).loc Cert.Dh2RefIdeal.main_arg3)
      ∧ r.2.mem ((c.tc : Thread Cert.Dh2RefIdeal.nD Cert.Dh2RefIdeal.τ).loc Cert.Dh2RefIdeal.main_arg4) = m ((c.tc : Thread Cert.Dh2RefIdeal.nD Cert.Dh2RefIdeal.τ).loc Cert.Dh2RefIdeal.main_arg4)
      ∧ r.2.mem ((c.tc : Thread Cert.Dh2RefIdeal.nD Cert.Dh2RefIdeal.τ).loc Cert.Dh2RefIdeal.main_arg5) = m ((c.tc : Thread Cert.Dh2RefIdeal.nD Cert.Dh2RefIdeal.τ).loc Cert.Dh2RefIdeal.main_arg5))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1))
      ∧ r.2.sem = fun _ => 0)

def quiescent_DactRefIdeal [hDactRefIdeal : Cert.DactRefIdeal.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1))
      ∧ r.2.sem = fun _ => 0)

def quiescent_DwUpA [hDwUpA : Cert.DwUpA.Facts] : Prop :=
  ∀ (m : (ℓ : Loc Cert.DwUpA.nD Cert.DwUpA.τ Cert.DwUpA.sig) → Buf (Elt Bits) ℓ) (g : Dev Cert.DwUpA.nD → PrngReg), Pre_DwUpA m →
    θ_run (Cert.DwUpA.defs (F := Bits)) (onTc (τ := Cert.DwUpA.τ) (Cert.DwUpA.main (F := Bits))) ⟨m, fun _ => 0, g⟩ (fun r => (∀ c : Dev Cert.DwUpA.nD,
      r.2.mem ((c.tc : Thread Cert.DwUpA.nD Cert.DwUpA.τ).loc Cert.DwUpA.main_arg0) = m ((c.tc : Thread Cert.DwUpA.nD Cert.DwUpA.τ).loc Cert.DwUpA.main_arg0)
      ∧ r.2.mem ((c.tc : Thread Cert.DwUpA.nD Cert.DwUpA.τ).loc Cert.DwUpA.main_arg1) = m ((c.tc : Thread Cert.DwUpA.nD Cert.DwUpA.τ).loc Cert.DwUpA.main_arg1))
      ∧ r.2.sem = fun _ => 0)

def quiescent_DwUpAIdeal [hDwUpAIdeal : Cert.DwUpAIdeal.Facts] : Prop :=
  ∀ (m : (ℓ : Loc Cert.DwUpAIdeal.nD Cert.DwUpAIdeal.τ Cert.DwUpAIdeal.sig) → Buf (Elt Ideal) ℓ) (g : Dev Cert.DwUpAIdeal.nD → PrngReg), Pre_DwUpAIdeal m →
    θ_run (Cert.DwUpAIdeal.defs (F := Ideal)) (onTc (τ := Cert.DwUpAIdeal.τ) (Cert.DwUpAIdeal.main (F := Ideal))) ⟨m, fun _ => 0, g⟩ (fun r => (∀ c : Dev Cert.DwUpAIdeal.nD,
      r.2.mem ((c.tc : Thread Cert.DwUpAIdeal.nD Cert.DwUpAIdeal.τ).loc Cert.DwUpAIdeal.main_arg0) = m ((c.tc : Thread Cert.DwUpAIdeal.nD Cert.DwUpAIdeal.τ).loc Cert.DwUpAIdeal.main_arg0)
      ∧ r.2.mem ((c.tc : Thread Cert.DwUpAIdeal.nD Cert.DwUpAIdeal.τ).loc Cert.DwUpAIdeal.main_arg1) = m ((c.tc : Thread Cert.DwUpAIdeal.nD Cert.DwUpAIdeal.τ).loc Cert.DwUpAIdeal.main_arg1))
      ∧ r.2.sem = fun _ => 0)

def quiescent_DwUpARefIdeal [hDwUpARefIdeal : Cert.DwUpARefIdeal.Facts] : Prop :=
  ∀ (m : (ℓ : Loc Cert.DwUpARefIdeal.nD Cert.DwUpARefIdeal.τ Cert.DwUpARefIdeal.sig) → Buf (Elt Ideal) ℓ) (g : Dev Cert.DwUpARefIdeal.nD → PrngReg), Pre_DwUpARefIdeal m →
    θ_run (Cert.DwUpARefIdeal.defs (F := Ideal)) (onTc (τ := Cert.DwUpARefIdeal.τ) (Cert.DwUpARefIdeal.main (F := Ideal))) ⟨m, fun _ => 0, g⟩ (fun r => (∀ c : Dev Cert.DwUpARefIdeal.nD,
      r.2.mem ((c.tc : Thread Cert.DwUpARefIdeal.nD Cert.DwUpARefIdeal.τ).loc Cert.DwUpARefIdeal.main_arg0) = m ((c.tc : Thread Cert.DwUpARefIdeal.nD Cert.DwUpARefIdeal.τ).loc Cert.DwUpARefIdeal.main_arg0)
      ∧ r.2.mem ((c.tc : Thread Cert.DwUpARefIdeal.nD Cert.DwUpARefIdeal.τ).loc Cert.DwUpARefIdeal.main_arg1) = m ((c.tc : Thread Cert.DwUpARefIdeal.nD Cert.DwUpARefIdeal.τ).loc Cert.DwUpARefIdeal.main_arg1))
      ∧ r.2.sem = fun _ => 0)

def quiescent_DwUpV [hDwUpV : Cert.DwUpV.Facts] : Prop :=
  ∀ (m : (ℓ : Loc Cert.DwUpV.nD Cert.DwUpV.τ Cert.DwUpV.sig) → Buf (Elt Bits) ℓ) (g : Dev Cert.DwUpV.nD → PrngReg), Pre_DwUpV m →
    θ_run (Cert.DwUpV.defs (F := Bits)) (onTc (τ := Cert.DwUpV.τ) (Cert.DwUpV.main (F := Bits))) ⟨m, fun _ => 0, g⟩ (fun r => (∀ c : Dev Cert.DwUpV.nD,
      r.2.mem ((c.tc : Thread Cert.DwUpV.nD Cert.DwUpV.τ).loc Cert.DwUpV.main_arg0) = m ((c.tc : Thread Cert.DwUpV.nD Cert.DwUpV.τ).loc Cert.DwUpV.main_arg0)
      ∧ r.2.mem ((c.tc : Thread Cert.DwUpV.nD Cert.DwUpV.τ).loc Cert.DwUpV.main_arg1) = m ((c.tc : Thread Cert.DwUpV.nD Cert.DwUpV.τ).loc Cert.DwUpV.main_arg1)
      ∧ r.2.mem ((c.tc : Thread Cert.DwUpV.nD Cert.DwUpV.τ).loc Cert.DwUpV.main_arg2) = m ((c.tc : Thread Cert.DwUpV.nD Cert.DwUpV.τ).loc Cert.DwUpV.main_arg2))
      ∧ r.2.sem = fun _ => 0)

def quiescent_DwUpVIdeal [hDwUpVIdeal : Cert.DwUpVIdeal.Facts] : Prop :=
  ∀ (m : (ℓ : Loc Cert.DwUpVIdeal.nD Cert.DwUpVIdeal.τ Cert.DwUpVIdeal.sig) → Buf (Elt Ideal) ℓ) (g : Dev Cert.DwUpVIdeal.nD → PrngReg), Pre_DwUpVIdeal m →
    θ_run (Cert.DwUpVIdeal.defs (F := Ideal)) (onTc (τ := Cert.DwUpVIdeal.τ) (Cert.DwUpVIdeal.main (F := Ideal))) ⟨m, fun _ => 0, g⟩ (fun r => (∀ c : Dev Cert.DwUpVIdeal.nD,
      r.2.mem ((c.tc : Thread Cert.DwUpVIdeal.nD Cert.DwUpVIdeal.τ).loc Cert.DwUpVIdeal.main_arg0) = m ((c.tc : Thread Cert.DwUpVIdeal.nD Cert.DwUpVIdeal.τ).loc Cert.DwUpVIdeal.main_arg0)
      ∧ r.2.mem ((c.tc : Thread Cert.DwUpVIdeal.nD Cert.DwUpVIdeal.τ).loc Cert.DwUpVIdeal.main_arg1) = m ((c.tc : Thread Cert.DwUpVIdeal.nD Cert.DwUpVIdeal.τ).loc Cert.DwUpVIdeal.main_arg1)
      ∧ r.2.mem ((c.tc : Thread Cert.DwUpVIdeal.nD Cert.DwUpVIdeal.τ).loc Cert.DwUpVIdeal.main_arg2) = m ((c.tc : Thread Cert.DwUpVIdeal.nD Cert.DwUpVIdeal.τ).loc Cert.DwUpVIdeal.main_arg2))
      ∧ r.2.sem = fun _ => 0)

def quiescent_DwUpVRefIdeal [hDwUpVRefIdeal : Cert.DwUpVRefIdeal.Facts] : Prop :=
  ∀ (m : (ℓ : Loc Cert.DwUpVRefIdeal.nD Cert.DwUpVRefIdeal.τ Cert.DwUpVRefIdeal.sig) → Buf (Elt Ideal) ℓ) (g : Dev Cert.DwUpVRefIdeal.nD → PrngReg), Pre_DwUpVRefIdeal m →
    θ_run (Cert.DwUpVRefIdeal.defs (F := Ideal)) (onTc (τ := Cert.DwUpVRefIdeal.τ) (Cert.DwUpVRefIdeal.main (F := Ideal))) ⟨m, fun _ => 0, g⟩ (fun r => (∀ c : Dev Cert.DwUpVRefIdeal.nD,
      r.2.mem ((c.tc : Thread Cert.DwUpVRefIdeal.nD Cert.DwUpVRefIdeal.τ).loc Cert.DwUpVRefIdeal.main_arg0) = m ((c.tc : Thread Cert.DwUpVRefIdeal.nD Cert.DwUpVRefIdeal.τ).loc Cert.DwUpVRefIdeal.main_arg0)
      ∧ r.2.mem ((c.tc : Thread Cert.DwUpVRefIdeal.nD Cert.DwUpVRefIdeal.τ).loc Cert.DwUpVRefIdeal.main_arg1) = m ((c.tc : Thread Cert.DwUpVRefIdeal.nD Cert.DwUpVRefIdeal.τ).loc Cert.DwUpVRefIdeal.main_arg1)
      ∧ r.2.mem ((c.tc : Thread Cert.DwUpVRefIdeal.nD Cert.DwUpVRefIdeal.τ).loc Cert.DwUpVRefIdeal.main_arg2) = m ((c.tc : Thread Cert.DwUpVRefIdeal.nD Cert.DwUpVRefIdeal.τ).loc Cert.DwUpVRefIdeal.main_arg2))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_Docat [hDocat : Cert.Docat.Facts] : Prop :=
  ∀ (m : (ℓ : Loc Cert.Docat.nD Cert.Docat.τ Cert.Docat.sig) → Buf (Elt Bits) ℓ) (g : Dev Cert.Docat.nD → PrngReg), Pre_Docat m →
    θ_run (Cert.Docat.defs (F := Bits)) (onTc (τ := Cert.Docat.τ) (Cert.Docat.main (F := Bits))) ⟨m, fun _ => 0, g⟩ (fun r => (∀ c : Dev Cert.Docat.nD,
      r.2.mem ((c.tc : Thread Cert.Docat.nD Cert.Docat.τ).loc Cert.Docat.main_arg0) = m ((c.tc : Thread Cert.Docat.nD Cert.Docat.τ).loc Cert.Docat.main_arg0)
      ∧ r.2.mem ((c.tc : Thread Cert.Docat.nD Cert.Docat.τ).loc Cert.Docat.main_arg1) = m ((c.tc : Thread Cert.Docat.nD Cert.Docat.τ).loc Cert.Docat.main_arg1))
      ∧ r.2.sem = fun _ => 0)

def quiescent_DocatIdeal [hDocatIdeal : Cert.DocatIdeal.Facts] : Prop :=
  ∀ (m : (ℓ : Loc Cert.DocatIdeal.nD Cert.DocatIdeal.τ Cert.DocatIdeal.sig) → Buf (Elt Ideal) ℓ) (g : Dev Cert.DocatIdeal.nD → PrngReg), Pre_DocatIdeal m →
    θ_run (Cert.DocatIdeal.defs (F := Ideal)) (onTc (τ := Cert.DocatIdeal.τ) (Cert.DocatIdeal.main (F := Ideal))) ⟨m, fun _ => 0, g⟩ (fun r => (∀ c : Dev Cert.DocatIdeal.nD,
      r.2.mem ((c.tc : Thread Cert.DocatIdeal.nD Cert.DocatIdeal.τ).loc Cert.DocatIdeal.main_arg0) = m ((c.tc : Thread Cert.DocatIdeal.nD Cert.DocatIdeal.τ).loc Cert.DocatIdeal.main_arg0)
      ∧ r.2.mem ((c.tc : Thread Cert.DocatIdeal.nD Cert.DocatIdeal.τ).loc Cert.DocatIdeal.main_arg1) = m ((c.tc : Thread Cert.DocatIdeal.nD Cert.DocatIdeal.τ).loc Cert.DocatIdeal.main_arg1))
      ∧ r.2.sem = fun _ => 0)

def quiescent_DocatRefIdeal [hDocatRefIdeal : Cert.DocatRefIdeal.Facts] : Prop :=
  ∀ (m : (ℓ : Loc Cert.DocatRefIdeal.nD Cert.DocatRefIdeal.τ Cert.DocatRefIdeal.sig) → Buf (Elt Ideal) ℓ) (g : Dev Cert.DocatRefIdeal.nD → PrngReg), Pre_DocatRefIdeal m →
    θ_run (Cert.DocatRefIdeal.defs (F := Ideal)) (onTc (τ := Cert.DocatRefIdeal.τ) (Cert.DocatRefIdeal.main (F := Ideal))) ⟨m, fun _ => 0, g⟩ (fun r => (∀ c : Dev Cert.DocatRefIdeal.nD,
      r.2.mem ((c.tc : Thread Cert.DocatRefIdeal.nD Cert.DocatRefIdeal.τ).loc Cert.DocatRefIdeal.main_arg0) = m ((c.tc : Thread Cert.DocatRefIdeal.nD Cert.DocatRefIdeal.τ).loc Cert.DocatRefIdeal.main_arg0)
      ∧ r.2.mem ((c.tc : Thread Cert.DocatRefIdeal.nD Cert.DocatRefIdeal.τ).loc Cert.DocatRefIdeal.main_arg1) = m ((c.tc : Thread Cert.DocatRefIdeal.nD Cert.DocatRefIdeal.τ).loc Cert.DocatRefIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixIdeal_pre_finite_mix [hMixIdeal : Cert.MixIdeal.Facts] [hPre_finite_mix : Cert.Pre_finite_mix.Facts] : Prop :=
  ∀ (m : (ℓ : Loc Cert.MixIdeal.nD Cert.MixIdeal.τ Cert.MixIdeal.sig) → Buf (Elt Ideal) ℓ) (g : Dev Cert.MixIdeal.nD → PrngReg), Pre_MixIdeal_finite_mix m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5))
      ∧ r.2.sem = fun _ => 0)

def quiescent_MixRefIdeal_pre_finite_mix [hMixRefIdeal : Cert.MixRefIdeal.Facts] [hPre_finite_mix : Cert.Pre_finite_mix.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_finite_mix m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v32_0)) (v1 : (c : Dev Cert.KernelIdeal.nD) → Buf (Elt Ideal) ((c.tc : Thread Cert.KernelIdeal.nD Cert.KernelIdeal.τ).loc Cert.KernelIdeal.main_v32_1)) (v2 : (c : Dev Cert.KernelIdeal.nD) → Buf (Elt Ideal) ((c.tc : Thread Cert.KernelIdeal.nD Cert.KernelIdeal.τ).loc Cert.KernelIdeal.main_v32_2)) (v3 : (c : Dev Cert.KernelIdeal.nD) → Buf (Elt Ideal) ((c.tc : Thread Cert.KernelIdeal.nD Cert.KernelIdeal.τ).loc Cert.KernelIdeal.main_v32_3)) (v4 : (c : Dev Cert.KernelIdeal.nD) → Buf (Elt Ideal) ((c.tc : Thread Cert.KernelIdeal.nD Cert.KernelIdeal.τ).loc Cert.KernelIdeal.main_v32_4)) (v5 : (c : Dev Cert.KernelIdeal.nD) → Buf (Elt Ideal) ((c.tc : Thread Cert.KernelIdeal.nD Cert.KernelIdeal.τ).loc Cert.KernelIdeal.main_v32_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32_0) = v0 c
          ∧ r.2.mem ((c.tc : Thread Cert.KernelIdeal.nD Cert.KernelIdeal.τ).loc Cert.KernelIdeal.main_v32_1) = v1 c
          ∧ r.2.mem ((c.tc : Thread Cert.KernelIdeal.nD Cert.KernelIdeal.τ).loc Cert.KernelIdeal.main_v32_2) = v2 c
          ∧ r.2.mem ((c.tc : Thread Cert.KernelIdeal.nD Cert.KernelIdeal.τ).loc Cert.KernelIdeal.main_v32_3) = v3 c
          ∧ r.2.mem ((c.tc : Thread Cert.KernelIdeal.nD Cert.KernelIdeal.τ).loc Cert.KernelIdeal.main_v32_4) = v4 c
          ∧ r.2.mem ((c.tc : Thread Cert.KernelIdeal.nD Cert.KernelIdeal.τ).loc Cert.KernelIdeal.main_v32_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_v78) = v2 c
          ∧ r.2.mem ((c.tc : Thread Cert.ReferenceIdeal.nD Cert.ReferenceIdeal.τ).loc Cert.ReferenceIdeal.main_v79) = v3 c
          ∧ r.2.mem ((c.tc : Thread Cert.ReferenceIdeal.nD Cert.ReferenceIdeal.τ).loc Cert.ReferenceIdeal.main_v80) = v4 c
          ∧ r.2.mem ((c.tc : Thread Cert.ReferenceIdeal.nD Cert.ReferenceIdeal.τ).loc Cert.ReferenceIdeal.main_v81) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Dh2_Dh2Ideal : Prop :=
  True

def algebraic_Dh2Ideal_Dh2RefIdeal [hDh2Ideal : Cert.Dh2Ideal.Facts] [hDh2RefIdeal : Cert.Dh2RefIdeal.Facts] : Prop :=
  ∀ (m : (ℓ : Loc Cert.Dh2Ideal.nD Cert.Dh2Ideal.τ Cert.Dh2Ideal.sig) → Buf (Elt Ideal) ℓ) (g : Dev Cert.Dh2Ideal.nD → PrngReg)
    (m' : (ℓ : Loc Cert.Dh2RefIdeal.nD Cert.Dh2RefIdeal.τ Cert.Dh2RefIdeal.sig) → Buf (Elt Ideal) ℓ) (g' : Dev Cert.Dh2RefIdeal.nD → PrngReg), Pre_Dh2Ideal m →
    (∀ c : Dev Cert.Dh2Ideal.nD,
      m' ((c.tc : Thread Cert.Dh2RefIdeal.nD Cert.Dh2RefIdeal.τ).loc Cert.Dh2RefIdeal.main_arg0) = m ((c.tc : Thread Cert.Dh2Ideal.nD Cert.Dh2Ideal.τ).loc Cert.Dh2Ideal.main_arg0)
      ∧ m' ((c.tc : Thread Cert.Dh2RefIdeal.nD Cert.Dh2RefIdeal.τ).loc Cert.Dh2RefIdeal.main_arg1) = m ((c.tc : Thread Cert.Dh2Ideal.nD Cert.Dh2Ideal.τ).loc Cert.Dh2Ideal.main_arg1)
      ∧ m' ((c.tc : Thread Cert.Dh2RefIdeal.nD Cert.Dh2RefIdeal.τ).loc Cert.Dh2RefIdeal.main_arg2) = m ((c.tc : Thread Cert.Dh2Ideal.nD Cert.Dh2Ideal.τ).loc Cert.Dh2Ideal.main_arg2)
      ∧ m' ((c.tc : Thread Cert.Dh2RefIdeal.nD Cert.Dh2RefIdeal.τ).loc Cert.Dh2RefIdeal.main_arg3) = m ((c.tc : Thread Cert.Dh2Ideal.nD Cert.Dh2Ideal.τ).loc Cert.Dh2Ideal.main_arg3)
      ∧ m' ((c.tc : Thread Cert.Dh2RefIdeal.nD Cert.Dh2RefIdeal.τ).loc Cert.Dh2RefIdeal.main_arg4) = m ((c.tc : Thread Cert.Dh2Ideal.nD Cert.Dh2Ideal.τ).loc Cert.Dh2Ideal.main_arg4)
      ∧ m' ((c.tc : Thread Cert.Dh2RefIdeal.nD Cert.Dh2RefIdeal.τ).loc Cert.Dh2RefIdeal.main_arg5) = m ((c.tc : Thread Cert.Dh2Ideal.nD Cert.Dh2Ideal.τ).loc Cert.Dh2Ideal.main_arg5)) →
    ∃ (v0 : (c : Dev Cert.Dh2Ideal.nD) → Buf (Elt Ideal) ((c.tc : Thread Cert.Dh2Ideal.nD Cert.Dh2Ideal.τ).loc Cert.Dh2Ideal.main_v0_0)) (v1 : (c : Dev Cert.Dh2Ideal.nD) → Buf (Elt Ideal) ((c.tc : Thread Cert.Dh2Ideal.nD Cert.Dh2Ideal.τ).loc Cert.Dh2Ideal.main_v0_1)),
      θ_run (Cert.Dh2Ideal.defs (F := Ideal)) (onTc (τ := Cert.Dh2Ideal.τ) (Cert.Dh2Ideal.main (F := Ideal))) ⟨m, fun _ => 0, g⟩ (fun r => ∀ c : Dev Cert.Dh2Ideal.nD,
          r.2.mem ((c.tc : Thread Cert.Dh2Ideal.nD Cert.Dh2Ideal.τ).loc Cert.Dh2Ideal.main_v0_0) = v0 c
          ∧ r.2.mem ((c.tc : Thread Cert.Dh2Ideal.nD Cert.Dh2Ideal.τ).loc Cert.Dh2Ideal.main_v0_1) = v1 c
          ∧ r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
          ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1)
          ∧ r.2.mem ((c.tc : Thread Cert.Dh2Ideal.nD Cert.Dh2Ideal.τ).loc Cert.Dh2Ideal.main_arg2) = m ((c.tc : Thread Cert.Dh2Ideal.nD Cert.Dh2Ideal.τ).loc Cert.Dh2Ideal.main_arg2)
          ∧ r.2.mem ((c.tc : Thread Cert.Dh2Ideal.nD Cert.Dh2Ideal.τ).loc Cert.Dh2Ideal.main_arg3) = m ((c.tc : Thread Cert.Dh2Ideal.nD Cert.Dh2Ideal.τ).loc Cert.Dh2Ideal.main_arg3)
          ∧ r.2.mem ((c.tc : Thread Cert.Dh2Ideal.nD Cert.Dh2Ideal.τ).loc Cert.Dh2Ideal.main_arg4) = m ((c.tc : Thread Cert.Dh2Ideal.nD Cert.Dh2Ideal.τ).loc Cert.Dh2Ideal.main_arg4)
          ∧ r.2.mem ((c.tc : Thread Cert.Dh2Ideal.nD Cert.Dh2Ideal.τ).loc Cert.Dh2Ideal.main_arg5) = m ((c.tc : Thread Cert.Dh2Ideal.nD Cert.Dh2Ideal.τ).loc Cert.Dh2Ideal.main_arg5))
      ∧ θ_run (Cert.Dh2RefIdeal.defs (F := Ideal)) (onTc (τ := Cert.Dh2RefIdeal.τ) (Cert.Dh2RefIdeal.main (F := Ideal))) ⟨m', fun _ => 0, g'⟩ (fun r => ∀ c : Dev Cert.Dh2RefIdeal.nD,
          r.2.mem ((c.tc : Thread Cert.Dh2RefIdeal.nD Cert.Dh2RefIdeal.τ).loc Cert.Dh2RefIdeal.main_v43) = v0 c
          ∧ r.2.mem ((c.tc : Thread Cert.Dh2RefIdeal.nD Cert.Dh2RefIdeal.τ).loc Cert.Dh2RefIdeal.main_v44) = v1 c
          ∧ r.2.mem ((c.tc : Thread Cert.Dh2RefIdeal.nD Cert.Dh2RefIdeal.τ).loc Cert.Dh2RefIdeal.main_arg0) = m' ((c.tc : Thread Cert.Dh2RefIdeal.nD Cert.Dh2RefIdeal.τ).loc Cert.Dh2RefIdeal.main_arg0)
          ∧ r.2.mem ((c.tc : Thread Cert.Dh2RefIdeal.nD Cert.Dh2RefIdeal.τ).loc Cert.Dh2RefIdeal.main_arg1) = m' ((c.tc : Thread Cert.Dh2RefIdeal.nD Cert.Dh2RefIdeal.τ).loc Cert.Dh2RefIdeal.main_arg1)
          ∧ r.2.mem ((c.tc : Thread Cert.Dh2RefIdeal.nD Cert.Dh2RefIdeal.τ).loc Cert.Dh2RefIdeal.main_arg2) = m' ((c.tc : Thread Cert.Dh2RefIdeal.nD Cert.Dh2RefIdeal.τ).loc Cert.Dh2RefIdeal.main_arg2)
          ∧ r.2.mem ((c.tc : Thread Cert.Dh2RefIdeal.nD Cert.Dh2RefIdeal.τ).loc Cert.Dh2RefIdeal.main_arg3) = m' ((c.tc : Thread Cert.Dh2RefIdeal.nD Cert.Dh2RefIdeal.τ).loc Cert.Dh2RefIdeal.main_arg3)
          ∧ r.2.mem ((c.tc : Thread Cert.Dh2RefIdeal.nD Cert.Dh2RefIdeal.τ).loc Cert.Dh2RefIdeal.main_arg4) = m' ((c.tc : Thread Cert.Dh2RefIdeal.nD Cert.Dh2RefIdeal.τ).loc Cert.Dh2RefIdeal.main_arg4)
          ∧ r.2.mem ((c.tc : Thread Cert.Dh2RefIdeal.nD Cert.Dh2RefIdeal.τ).loc Cert.Dh2RefIdeal.main_arg5) = m' ((c.tc : Thread Cert.Dh2RefIdeal.nD Cert.Dh2RefIdeal.τ).loc Cert.Dh2RefIdeal.main_arg5))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v55) = v0 c
          ∧ r.2.mem ((c.tc : Thread Cert.LossRefIdeal.nD Cert.LossRefIdeal.τ).loc Cert.LossRefIdeal.main_v56) = v1 c
          ∧ r.2.mem ((c.tc : Thread Cert.LossRefIdeal.nD Cert.LossRefIdeal.τ).loc Cert.LossRefIdeal.main_v57) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v5) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_Dact_DactIdeal : Prop :=
  True

def algebraic_DactIdeal_DactRefIdeal [hDactIdeal : Cert.DactIdeal.Facts] [hDactRefIdeal : Cert.DactRefIdeal.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactRefIdeal.nD Cert.DactRefIdeal.τ Cert.DactRefIdeal.sig) → Buf (Elt Ideal) ℓ) (g' : Dev Cert.DactRefIdeal.nD → PrngReg), Pre_DactIdeal m →
    (∀ c : Dev Cert.DactIdeal.nD,
      m' ((c.tc : Thread Cert.DactRefIdeal.nD Cert.DactRefIdeal.τ).loc Cert.DactRefIdeal.main_arg0) = m ((c.tc : Thread Cert.DactIdeal.nD Cert.DactIdeal.τ).loc Cert.DactIdeal.main_arg0)
      ∧ m' ((c.tc : Thread Cert.DactRefIdeal.nD Cert.DactRefIdeal.τ).loc Cert.DactRefIdeal.main_arg1) = m ((c.tc : Thread Cert.DactIdeal.nD Cert.DactIdeal.τ).loc Cert.DactIdeal.main_arg1)) →
    ∃ (v0 : (c : Dev Cert.DactIdeal.nD) → Buf (Elt Ideal) ((c.tc : Thread Cert.DactIdeal.nD Cert.DactIdeal.τ).loc Cert.DactIdeal.main_v0)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v0) = v0 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1))
      ∧ θ_run (Cert.DactRefIdeal.defs (F := Ideal)) (onTc (τ := Cert.DactRefIdeal.τ) (Cert.DactRefIdeal.main (F := Ideal))) ⟨m', fun _ => 0, g'⟩ (fun r => ∀ c : Dev Cert.DactRefIdeal.nD,
          r.2.mem ((c.tc : Thread Cert.DactRefIdeal.nD Cert.DactRefIdeal.τ).loc Cert.DactRefIdeal.main_v3) = v0 c
          ∧ r.2.mem ((c.tc : Thread Cert.DactRefIdeal.nD Cert.DactRefIdeal.τ).loc Cert.DactRefIdeal.main_arg0) = m' ((c.tc : Thread Cert.DactRefIdeal.nD Cert.DactRefIdeal.τ).loc Cert.DactRefIdeal.main_arg0)
          ∧ r.2.mem ((c.tc : Thread Cert.DactRefIdeal.nD Cert.DactRefIdeal.τ).loc Cert.DactRefIdeal.main_arg1) = m' ((c.tc : Thread Cert.DactRefIdeal.nD Cert.DactRefIdeal.τ).loc Cert.DactRefIdeal.main_arg1))

def preserves_DwUpA_DwUpAIdeal : Prop :=
  True

def algebraic_DwUpAIdeal_DwUpARefIdeal_on_rows_written [hDwUpAIdeal : Cert.DwUpAIdeal.Facts] [hDwUpARefIdeal : Cert.DwUpARefIdeal.Facts] [hOn_rows_written : Cert.On_rows_written.Facts] : Prop :=
  ∀ (m : (ℓ : Loc Cert.DwUpAIdeal.nD Cert.DwUpAIdeal.τ Cert.DwUpAIdeal.sig) → Buf (Elt Ideal) ℓ) (g : Dev Cert.DwUpAIdeal.nD → PrngReg)
    (m' : (ℓ : Loc Cert.DwUpARefIdeal.nD Cert.DwUpARefIdeal.τ Cert.DwUpARefIdeal.sig) → Buf (Elt Ideal) ℓ) (g' : Dev Cert.DwUpARefIdeal.nD → PrngReg), Pre_DwUpAIdeal m →
    (∀ c : Dev Cert.DwUpAIdeal.nD,
      m' ((c.tc : Thread Cert.DwUpARefIdeal.nD Cert.DwUpARefIdeal.τ).loc Cert.DwUpARefIdeal.main_arg0) = m ((c.tc : Thread Cert.DwUpAIdeal.nD Cert.DwUpAIdeal.τ).loc Cert.DwUpAIdeal.main_arg0)
      ∧ m' ((c.tc : Thread Cert.DwUpARefIdeal.nD Cert.DwUpARefIdeal.τ).loc Cert.DwUpARefIdeal.main_arg1) = m ((c.tc : Thread Cert.DwUpAIdeal.nD Cert.DwUpAIdeal.τ).loc Cert.DwUpAIdeal.main_arg1)) →
    ∃ (v0 : (c : Dev Cert.DwUpAIdeal.nD) → Buf (Elt Ideal) ((c.tc : Thread Cert.DwUpAIdeal.nD Cert.DwUpAIdeal.τ).loc Cert.DwUpAIdeal.main_v0)),
      θ_run (Cert.DwUpAIdeal.defs (F := Ideal)) (onTc (τ := Cert.DwUpAIdeal.τ) (Cert.DwUpAIdeal.main (F := Ideal))) ⟨m, fun _ => 0, g⟩ (fun r => ∀ c : Dev Cert.DwUpAIdeal.nD,
          (∀ i : (⟨2, ![5632, 1024]⟩ : Shape).Idx, (Cert.On_rows_written.fn (F := Ideal) (m ((c.tc : Thread Cert.DwUpAIdeal.nD Cert.DwUpAIdeal.τ).loc Cert.DwUpAIdeal.main_arg0)) (m ((c.tc : Thread Cert.DwUpAIdeal.nD Cert.DwUpAIdeal.τ).loc Cert.DwUpAIdeal.main_arg1))) i = 1#1 → r.2.mem ((c.tc : Thread Cert.DwUpAIdeal.nD Cert.DwUpAIdeal.τ).loc Cert.DwUpAIdeal.main_v0) i = v0 c i)
          ∧ r.2.mem ((c.tc : Thread Cert.DwUpAIdeal.nD Cert.DwUpAIdeal.τ).loc Cert.DwUpAIdeal.main_arg0) = m ((c.tc : Thread Cert.DwUpAIdeal.nD Cert.DwUpAIdeal.τ).loc Cert.DwUpAIdeal.main_arg0)
          ∧ r.2.mem ((c.tc : Thread Cert.DwUpAIdeal.nD Cert.DwUpAIdeal.τ).loc Cert.DwUpAIdeal.main_arg1) = m ((c.tc : Thread Cert.DwUpAIdeal.nD Cert.DwUpAIdeal.τ).loc Cert.DwUpAIdeal.main_arg1))
      ∧ θ_run (Cert.DwUpARefIdeal.defs (F := Ideal)) (onTc (τ := Cert.DwUpARefIdeal.τ) (Cert.DwUpARefIdeal.main (F := Ideal))) ⟨m', fun _ => 0, g'⟩ (fun r => ∀ c : Dev Cert.DwUpARefIdeal.nD,
          (∀ i : (⟨2, ![5632, 1024]⟩ : Shape).Idx, (Cert.On_rows_written.fn (F := Ideal) (m ((c.tc : Thread Cert.DwUpAIdeal.nD Cert.DwUpAIdeal.τ).loc Cert.DwUpAIdeal.main_arg0)) (m ((c.tc : Thread Cert.DwUpAIdeal.nD Cert.DwUpAIdeal.τ).loc Cert.DwUpAIdeal.main_arg1))) i = 1#1 → r.2.mem ((c.tc : Thread Cert.DwUpARefIdeal.nD Cert.DwUpARefIdeal.τ).loc Cert.DwUpARefIdeal.main_v9) i = v0 c i)
          ∧ r.2.mem ((c.tc : Thread Cert.DwUpARefIdeal.nD Cert.DwUpARefIdeal.τ).loc Cert.DwUpARefIdeal.main_arg0) = m' ((c.tc : Thread Cert.DwUpARefIdeal.nD Cert.DwUpARefIdeal.τ).loc Cert.DwUpARefIdeal.main_arg0)
          ∧ r.2.mem ((c.tc : Thread Cert.DwUpARefIdeal.nD Cert.DwUpARefIdeal.τ).loc Cert.DwUpARefIdeal.main_arg1) = m' ((c.tc : Thread Cert.DwUpARefIdeal.nD Cert.DwUpARefIdeal.τ).loc Cert.DwUpARefIdeal.main_arg1))

def preserves_DwUpV_DwUpVIdeal : Prop :=
  True

def algebraic_DwUpVIdeal_DwUpVRefIdeal [hDwUpVIdeal : Cert.DwUpVIdeal.Facts] [hDwUpVRefIdeal : Cert.DwUpVRefIdeal.Facts] : Prop :=
  ∀ (m : (ℓ : Loc Cert.DwUpVIdeal.nD Cert.DwUpVIdeal.τ Cert.DwUpVIdeal.sig) → Buf (Elt Ideal) ℓ) (g : Dev Cert.DwUpVIdeal.nD → PrngReg)
    (m' : (ℓ : Loc Cert.DwUpVRefIdeal.nD Cert.DwUpVRefIdeal.τ Cert.DwUpVRefIdeal.sig) → Buf (Elt Ideal) ℓ) (g' : Dev Cert.DwUpVRefIdeal.nD → PrngReg), Pre_DwUpVIdeal m →
    (∀ c : Dev Cert.DwUpVIdeal.nD,
      m' ((c.tc : Thread Cert.DwUpVRefIdeal.nD Cert.DwUpVRefIdeal.τ).loc Cert.DwUpVRefIdeal.main_arg0) = m ((c.tc : Thread Cert.DwUpVIdeal.nD Cert.DwUpVIdeal.τ).loc Cert.DwUpVIdeal.main_arg0)
      ∧ m' ((c.tc : Thread Cert.DwUpVRefIdeal.nD Cert.DwUpVRefIdeal.τ).loc Cert.DwUpVRefIdeal.main_arg1) = m ((c.tc : Thread Cert.DwUpVIdeal.nD Cert.DwUpVIdeal.τ).loc Cert.DwUpVIdeal.main_arg1)
      ∧ m' ((c.tc : Thread Cert.DwUpVRefIdeal.nD Cert.DwUpVRefIdeal.τ).loc Cert.DwUpVRefIdeal.main_arg2) = m ((c.tc : Thread Cert.DwUpVIdeal.nD Cert.DwUpVIdeal.τ).loc Cert.DwUpVIdeal.main_arg2)) →
    ∃ (v0 : (c : Dev Cert.DwUpVIdeal.nD) → Buf (Elt Ideal) ((c.tc : Thread Cert.DwUpVIdeal.nD Cert.DwUpVIdeal.τ).loc Cert.DwUpVIdeal.main_v0)),
      θ_run (Cert.DwUpVIdeal.defs (F := Ideal)) (onTc (τ := Cert.DwUpVIdeal.τ) (Cert.DwUpVIdeal.main (F := Ideal))) ⟨m, fun _ => 0, g⟩ (fun r => ∀ c : Dev Cert.DwUpVIdeal.nD,
          r.2.mem ((c.tc : Thread Cert.DwUpVIdeal.nD Cert.DwUpVIdeal.τ).loc Cert.DwUpVIdeal.main_v0) = v0 c
          ∧ r.2.mem ((c.tc : Thread Cert.DwUpVIdeal.nD Cert.DwUpVIdeal.τ).loc Cert.DwUpVIdeal.main_arg0) = m ((c.tc : Thread Cert.DwUpVIdeal.nD Cert.DwUpVIdeal.τ).loc Cert.DwUpVIdeal.main_arg0)
          ∧ r.2.mem ((c.tc : Thread Cert.DwUpVIdeal.nD Cert.DwUpVIdeal.τ).loc Cert.DwUpVIdeal.main_arg1) = m ((c.tc : Thread Cert.DwUpVIdeal.nD Cert.DwUpVIdeal.τ).loc Cert.DwUpVIdeal.main_arg1)
          ∧ r.2.mem ((c.tc : Thread Cert.DwUpVIdeal.nD Cert.DwUpVIdeal.τ).loc Cert.DwUpVIdeal.main_arg2) = m ((c.tc : Thread Cert.DwUpVIdeal.nD Cert.DwUpVIdeal.τ).loc Cert.DwUpVIdeal.main_arg2))
      ∧ θ_run (Cert.DwUpVRefIdeal.defs (F := Ideal)) (onTc (τ := Cert.DwUpVRefIdeal.τ) (Cert.DwUpVRefIdeal.main (F := Ideal))) ⟨m', fun _ => 0, g'⟩ (fun r => ∀ c : Dev Cert.DwUpVRefIdeal.nD,
          r.2.mem ((c.tc : Thread Cert.DwUpVRefIdeal.nD Cert.DwUpVRefIdeal.τ).loc Cert.DwUpVRefIdeal.main_v9) = v0 c
          ∧ r.2.mem ((c.tc : Thread Cert.DwUpVRefIdeal.nD Cert.DwUpVRefIdeal.τ).loc Cert.DwUpVRefIdeal.main_arg0) = m' ((c.tc : Thread Cert.DwUpVRefIdeal.nD Cert.DwUpVRefIdeal.τ).loc Cert.DwUpVRefIdeal.main_arg0)
          ∧ r.2.mem ((c.tc : Thread Cert.DwUpVRefIdeal.nD Cert.DwUpVRefIdeal.τ).loc Cert.DwUpVRefIdeal.main_arg1) = m' ((c.tc : Thread Cert.DwUpVRefIdeal.nD Cert.DwUpVRefIdeal.τ).loc Cert.DwUpVRefIdeal.main_arg1)
          ∧ r.2.mem ((c.tc : Thread Cert.DwUpVRefIdeal.nD Cert.DwUpVRefIdeal.τ).loc Cert.DwUpVRefIdeal.main_arg2) = m' ((c.tc : Thread Cert.DwUpVRefIdeal.nD Cert.DwUpVRefIdeal.τ).loc Cert.DwUpVRefIdeal.main_arg2))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v5) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_Docat_DocatIdeal : Prop :=
  True

def algebraic_DocatIdeal_DocatRefIdeal [hDocatIdeal : Cert.DocatIdeal.Facts] [hDocatRefIdeal : Cert.DocatRefIdeal.Facts] : Prop :=
  ∀ (m : (ℓ : Loc Cert.DocatIdeal.nD Cert.DocatIdeal.τ Cert.DocatIdeal.sig) → Buf (Elt Ideal) ℓ) (g : Dev Cert.DocatIdeal.nD → PrngReg)
    (m' : (ℓ : Loc Cert.DocatRefIdeal.nD Cert.DocatRefIdeal.τ Cert.DocatRefIdeal.sig) → Buf (Elt Ideal) ℓ) (g' : Dev Cert.DocatRefIdeal.nD → PrngReg), Pre_DocatIdeal m →
    (∀ c : Dev Cert.DocatIdeal.nD,
      m' ((c.tc : Thread Cert.DocatRefIdeal.nD Cert.DocatRefIdeal.τ).loc Cert.DocatRefIdeal.main_arg0) = m ((c.tc : Thread Cert.DocatIdeal.nD Cert.DocatIdeal.τ).loc Cert.DocatIdeal.main_arg0)
      ∧ m' ((c.tc : Thread Cert.DocatRefIdeal.nD Cert.DocatRefIdeal.τ).loc Cert.DocatRefIdeal.main_arg1) = m ((c.tc : Thread Cert.DocatIdeal.nD Cert.DocatIdeal.τ).loc Cert.DocatIdeal.main_arg1)) →
    ∃ (v0 : (c : Dev Cert.DocatIdeal.nD) → Buf (Elt Ideal) ((c.tc : Thread Cert.DocatIdeal.nD Cert.DocatIdeal.τ).loc Cert.DocatIdeal.main_v0)),
      θ_run (Cert.DocatIdeal.defs (F := Ideal)) (onTc (τ := Cert.DocatIdeal.τ) (Cert.DocatIdeal.main (F := Ideal))) ⟨m, fun _ => 0, g⟩ (fun r => ∀ c : Dev Cert.DocatIdeal.nD,
          r.2.mem ((c.tc : Thread Cert.DocatIdeal.nD Cert.DocatIdeal.τ).loc Cert.DocatIdeal.main_v0) = v0 c
          ∧ r.2.mem ((c.tc : Thread Cert.DocatIdeal.nD Cert.DocatIdeal.τ).loc Cert.DocatIdeal.main_arg0) = m ((c.tc : Thread Cert.DocatIdeal.nD Cert.DocatIdeal.τ).loc Cert.DocatIdeal.main_arg0)
          ∧ r.2.mem ((c.tc : Thread Cert.DocatIdeal.nD Cert.DocatIdeal.τ).loc Cert.DocatIdeal.main_arg1) = m ((c.tc : Thread Cert.DocatIdeal.nD Cert.DocatIdeal.τ).loc Cert.DocatIdeal.main_arg1))
      ∧ θ_run (Cert.DocatRefIdeal.defs (F := Ideal)) (onTc (τ := Cert.DocatRefIdeal.τ) (Cert.DocatRefIdeal.main (F := Ideal))) ⟨m', fun _ => 0, g'⟩ (fun r => ∀ c : Dev Cert.DocatRefIdeal.nD,
          r.2.mem ((c.tc : Thread Cert.DocatRefIdeal.nD Cert.DocatRefIdeal.τ).loc Cert.DocatRefIdeal.main_v3) = v0 c
          ∧ r.2.mem ((c.tc : Thread Cert.DocatRefIdeal.nD Cert.DocatRefIdeal.τ).loc Cert.DocatRefIdeal.main_arg0) = m' ((c.tc : Thread Cert.DocatRefIdeal.nD Cert.DocatRefIdeal.τ).loc Cert.DocatRefIdeal.main_arg0)
          ∧ r.2.mem ((c.tc : Thread Cert.DocatRefIdeal.nD Cert.DocatRefIdeal.τ).loc Cert.DocatRefIdeal.main_arg1) = m' ((c.tc : Thread Cert.DocatRefIdeal.nD Cert.DocatRefIdeal.τ).loc Cert.DocatRefIdeal.main_arg1))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v7) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v0_0)) (v1 : (c : Dev Cert.GateIdeal.nD) → Buf (Elt Ideal) ((c.tc : Thread Cert.GateIdeal.nD Cert.GateIdeal.τ).loc Cert.GateIdeal.main_v0_1)) (v2 : (c : Dev Cert.GateIdeal.nD) → Buf (Elt Ideal) ((c.tc : Thread Cert.GateIdeal.nD Cert.GateIdeal.τ).loc Cert.GateIdeal.main_v0_2)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0_0) = v0 c
          ∧ r.2.mem ((c.tc : Thread Cert.GateIdeal.nD Cert.GateIdeal.τ).loc Cert.GateIdeal.main_v0_1) = v1 c
          ∧ r.2.mem ((c.tc : Thread Cert.GateIdeal.nD Cert.GateIdeal.τ).loc Cert.GateIdeal.main_v0_2) = v2 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v17) = v0 c
          ∧ r.2.mem ((c.tc : Thread Cert.GateRefIdeal.nD Cert.GateRefIdeal.τ).loc Cert.GateRefIdeal.main_v13) = v1 c
          ∧ r.2.mem ((c.tc : Thread Cert.GateRefIdeal.nD Cert.GateRefIdeal.τ).loc Cert.GateRefIdeal.main_v11) = v2 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v3) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v0_0)) (v1 : (c : Dev Cert.ProjIdeal.nD) → Buf (Elt Ideal) ((c.tc : Thread Cert.ProjIdeal.nD Cert.ProjIdeal.τ).loc Cert.ProjIdeal.main_v0_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0_0) = v0 c
          ∧ r.2.mem ((c.tc : Thread Cert.ProjIdeal.nD Cert.ProjIdeal.τ).loc Cert.ProjIdeal.main_v0_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v16) = v0 c
          ∧ r.2.mem ((c.tc : Thread Cert.ProjRefIdeal.nD Cert.ProjRefIdeal.τ).loc Cert.ProjRefIdeal.main_v17) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Mix_MixIdeal : Prop :=
  True

def algebraic_MixIdeal_MixRefIdeal_on_gate_written_pre_finite_mix [hMixIdeal : Cert.MixIdeal.Facts] [hMixRefIdeal : Cert.MixRefIdeal.Facts] [hPre_finite_mix : Cert.Pre_finite_mix.Facts] [hOn_gate_written : Cert.On_gate_written.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_finite_mix m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)) →
    ∃ (v0 : (c : Dev Cert.MixIdeal.nD) → Buf (Elt Ideal) ((c.tc : Thread Cert.MixIdeal.nD Cert.MixIdeal.τ).loc Cert.MixIdeal.main_v0_0)) (v1 : (c : Dev Cert.MixIdeal.nD) → Buf (Elt Ideal) ((c.tc : Thread Cert.MixIdeal.nD Cert.MixIdeal.τ).loc Cert.MixIdeal.main_v0_1)) (v2 : (c : Dev Cert.MixIdeal.nD) → Buf (Elt Ideal) ((c.tc : Thread Cert.MixIdeal.nD Cert.MixIdeal.τ).loc Cert.MixIdeal.main_v0_2)) (v3 : (c : Dev Cert.MixIdeal.nD) → Buf (Elt Ideal) ((c.tc : Thread Cert.MixIdeal.nD Cert.MixIdeal.τ).loc Cert.MixIdeal.main_v0_3)) (v4 : (c : Dev Cert.MixIdeal.nD) → Buf (Elt Ideal) ((c.tc : Thread Cert.MixIdeal.nD Cert.MixIdeal.τ).loc Cert.MixIdeal.main_v0_4)),
      θ_run (Cert.MixIdeal.defs (F := Ideal)) (onTc (τ := Cert.MixIdeal.τ) (Cert.MixIdeal.main (F := Ideal))) ⟨m, fun _ => 0, g⟩ (fun r => ∀ c : Dev Cert.MixIdeal.nD,
          (∀ i : (⟨2, ![8192, 512]⟩ : Shape).Idx, (Cert.On_gate_written.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5))).1 i = 1#1 → r.2.mem ((c.tc : Thread Cert.MixIdeal.nD Cert.MixIdeal.τ).loc Cert.MixIdeal.main_v0_0) i = v0 c i)
          ∧ (∀ i : (⟨2, ![8192, 512]⟩ : Shape).Idx, (Cert.On_gate_written.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5))).2.1 i = 1#1 → r.2.mem ((c.tc : Thread Cert.MixIdeal.nD Cert.MixIdeal.τ).loc Cert.MixIdeal.main_v0_1) i = v1 c i)
          ∧ (∀ i : (⟨2, ![8192, 3200]⟩ : Shape).Idx, (Cert.On_gate_written.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5))).2.2.1 i = 1#1 → r.2.mem ((c.tc : Thread Cert.MixIdeal.nD Cert.MixIdeal.τ).loc Cert.MixIdeal.main_v0_2) i = v2 c i)
          ∧ (∀ i : (⟨2, ![1, 512]⟩ : Shape).Idx, (Cert.On_gate_written.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5))).2.2.2.1 i = 1#1 → r.2.mem ((c.tc : Thread Cert.MixIdeal.nD Cert.MixIdeal.τ).loc Cert.MixIdeal.main_v0_3) i = v3 c i)
          ∧ (∀ i : (⟨2, ![1, 512]⟩ : Shape).Idx, (Cert.On_gate_written.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5))).2.2.2.2 i = 1#1 → r.2.mem ((c.tc : Thread Cert.MixIdeal.nD Cert.MixIdeal.τ).loc Cert.MixIdeal.main_v0_4) i = v4 c i)
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          (∀ i : (⟨2, ![8192, 512]⟩ : Shape).Idx, (Cert.On_gate_written.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5))).1 i = 1#1 → r.2.mem ((c.tc : Thread Cert.MixRefIdeal.nD Cert.MixRefIdeal.τ).loc Cert.MixRefIdeal.main_v91) i = v0 c i)
          ∧ (∀ i : (⟨2, ![8192, 512]⟩ : Shape).Idx, (Cert.On_gate_written.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5))).2.1 i = 1#1 → r.2.mem ((c.tc : Thread Cert.MixRefIdeal.nD Cert.MixRefIdeal.τ).loc Cert.MixRefIdeal.main_v68) i = v1 c i)
          ∧ (∀ i : (⟨2, ![8192, 3200]⟩ : Shape).Idx, (Cert.On_gate_written.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5))).2.2.1 i = 1#1 → r.2.mem ((c.tc : Thread Cert.MixRefIdeal.nD Cert.MixRefIdeal.τ).loc Cert.MixRefIdeal.main_v96) i = v2 c i)
          ∧ (∀ i : (⟨2, ![1, 512]⟩ : Shape).Idx, (Cert.On_gate_written.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5))).2.2.2.1 i = 1#1 → r.2.mem ((c.tc : Thread Cert.MixRefIdeal.nD Cert.MixRefIdeal.τ).loc Cert.MixRefIdeal.main_v92) i = v3 c i)
          ∧ (∀ i : (⟨2, ![1, 512]⟩ : Shape).Idx, (Cert.On_gate_written.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5))).2.2.2.2 i = 1#1 → r.2.mem ((c.tc : Thread Cert.MixRefIdeal.nD Cert.MixRefIdeal.τ).loc Cert.MixRefIdeal.main_v69) i = v4 c i)
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5))

def Claim : Prop :=
  ∃ (hKernel : Cert.Kernel.Facts) (hKernelIdeal : Cert.KernelIdeal.Facts) (hReferenceIdeal : Cert.ReferenceIdeal.Facts) (hDh2 : Cert.Dh2.Facts) (hDh2Ideal : Cert.Dh2Ideal.Facts) (hDh2RefIdeal : Cert.Dh2RefIdeal.Facts) (hLoss : Cert.Loss.Facts) (hLossIdeal : Cert.LossIdeal.Facts) (hLossRefIdeal : Cert.LossRefIdeal.Facts) (hDwDown : Cert.DwDown.Facts) (hDwDownIdeal : Cert.DwDownIdeal.Facts) (hDwDownRefIdeal : Cert.DwDownRefIdeal.Facts) (hDact : Cert.Dact.Facts) (hDactIdeal : Cert.DactIdeal.Facts) (hDactRefIdeal : Cert.DactRefIdeal.Facts) (hDwUpA : Cert.DwUpA.Facts) (hDwUpAIdeal : Cert.DwUpAIdeal.Facts) (hDwUpARefIdeal : Cert.DwUpARefIdeal.Facts) (hDwUpV : Cert.DwUpV.Facts) (hDwUpVIdeal : Cert.DwUpVIdeal.Facts) (hDwUpVRefIdeal : Cert.DwUpVRefIdeal.Facts) (hDwOut : Cert.DwOut.Facts) (hDwOutIdeal : Cert.DwOutIdeal.Facts) (hDwOutRefIdeal : Cert.DwOutRefIdeal.Facts) (hDocat : Cert.Docat.Facts) (hDocatIdeal : Cert.DocatIdeal.Facts) (hDocatRefIdeal : Cert.DocatRefIdeal.Facts) (hDwIn : Cert.DwIn.Facts) (hDwInIdeal : Cert.DwInIdeal.Facts) (hDwInRefIdeal : Cert.DwInRefIdeal.Facts) (hGate : Cert.Gate.Facts) (hGateIdeal : Cert.GateIdeal.Facts) (hGateRefIdeal : Cert.GateRefIdeal.Facts) (hUp : Cert.Up.Facts) (hUpIdeal : Cert.UpIdeal.Facts) (hUpRefIdeal : Cert.UpRefIdeal.Facts) (hProj : Cert.Proj.Facts) (hProjIdeal : Cert.ProjIdeal.Facts) (hProjRefIdeal : Cert.ProjRefIdeal.Facts) (hMix : Cert.Mix.Facts) (hMixIdeal : Cert.MixIdeal.Facts) (hMixRefIdeal : Cert.MixRefIdeal.Facts) (hPre_finite : Cert.Pre_finite.Facts) (hPre_finite_mix : Cert.Pre_finite_mix.Facts) (hOn_rows_written : Cert.On_rows_written.Facts) (hOn_gate_written : Cert.On_gate_written.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Dh2 (hDh2 := hDh2)
    ∧ quiescent_Dh2Ideal (hDh2Ideal := hDh2Ideal)
    ∧ quiescent_Dh2RefIdeal (hDh2RefIdeal := hDh2RefIdeal)
    ∧ quiescent_Loss (hLoss := hLoss)
    ∧ quiescent_LossIdeal (hLossIdeal := hLossIdeal)
    ∧ quiescent_LossRefIdeal (hLossRefIdeal := hLossRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_Dact (hDact := hDact)
    ∧ quiescent_DactIdeal (hDactIdeal := hDactIdeal)
    ∧ quiescent_DactRefIdeal (hDactRefIdeal := hDactRefIdeal)
    ∧ quiescent_DwUpA (hDwUpA := hDwUpA)
    ∧ quiescent_DwUpAIdeal (hDwUpAIdeal := hDwUpAIdeal)
    ∧ quiescent_DwUpARefIdeal (hDwUpARefIdeal := hDwUpARefIdeal)
    ∧ quiescent_DwUpV (hDwUpV := hDwUpV)
    ∧ quiescent_DwUpVIdeal (hDwUpVIdeal := hDwUpVIdeal)
    ∧ quiescent_DwUpVRefIdeal (hDwUpVRefIdeal := hDwUpVRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_Docat (hDocat := hDocat)
    ∧ quiescent_DocatIdeal (hDocatIdeal := hDocatIdeal)
    ∧ quiescent_DocatRefIdeal (hDocatRefIdeal := hDocatRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_Gate (hGate := hGate)
    ∧ quiescent_GateIdeal (hGateIdeal := hGateIdeal)
    ∧ quiescent_GateRefIdeal (hGateRefIdeal := hGateRefIdeal)
    ∧ quiescent_Up (hUp := hUp)
    ∧ quiescent_UpIdeal (hUpIdeal := hUpIdeal)
    ∧ quiescent_UpRefIdeal (hUpRefIdeal := hUpRefIdeal)
    ∧ quiescent_Proj (hProj := hProj)
    ∧ quiescent_ProjIdeal (hProjIdeal := hProjIdeal)
    ∧ quiescent_ProjRefIdeal (hProjRefIdeal := hProjRefIdeal)
    ∧ quiescent_Mix (hMix := hMix)
    ∧ quiescent_MixIdeal (hMixIdeal := hMixIdeal)
    ∧ quiescent_MixIdeal_pre_finite_mix (hMixIdeal := hMixIdeal) (hPre_finite_mix := hPre_finite_mix)
    ∧ quiescent_MixRefIdeal (hMixRefIdeal := hMixRefIdeal)
    ∧ quiescent_MixRefIdeal_pre_finite_mix (hMixRefIdeal := hMixRefIdeal) (hPre_finite_mix := hPre_finite_mix)
    ∧ preserves_Kernel_KernelIdeal
    ∧ algebraic_KernelIdeal_ReferenceIdeal_pre_finite (hKernelIdeal := hKernelIdeal) (hReferenceIdeal := hReferenceIdeal) (hPre_finite := hPre_finite)
    ∧ preserves_Dh2_Dh2Ideal
    ∧ algebraic_Dh2Ideal_Dh2RefIdeal (hDh2Ideal := hDh2Ideal) (hDh2RefIdeal := hDh2RefIdeal)
    ∧ preserves_Loss_LossIdeal
    ∧ algebraic_LossIdeal_LossRefIdeal (hLossIdeal := hLossIdeal) (hLossRefIdeal := hLossRefIdeal)
    ∧ preserves_DwDown_DwDownIdeal
    ∧ algebraic_DwDownIdeal_DwDownRefIdeal (hDwDownIdeal := hDwDownIdeal) (hDwDownRefIdeal := hDwDownRefIdeal)
    ∧ preserves_Dact_DactIdeal
    ∧ algebraic_DactIdeal_DactRefIdeal (hDactIdeal := hDactIdeal) (hDactRefIdeal := hDactRefIdeal)
    ∧ preserves_DwUpA_DwUpAIdeal
    ∧ algebraic_DwUpAIdeal_DwUpARefIdeal_on_rows_written (hDwUpAIdeal := hDwUpAIdeal) (hDwUpARefIdeal := hDwUpARefIdeal) (hOn_rows_written := hOn_rows_written)
    ∧ preserves_DwUpV_DwUpVIdeal
    ∧ algebraic_DwUpVIdeal_DwUpVRefIdeal (hDwUpVIdeal := hDwUpVIdeal) (hDwUpVRefIdeal := hDwUpVRefIdeal)
    ∧ preserves_DwOut_DwOutIdeal
    ∧ algebraic_DwOutIdeal_DwOutRefIdeal (hDwOutIdeal := hDwOutIdeal) (hDwOutRefIdeal := hDwOutRefIdeal)
    ∧ preserves_Docat_DocatIdeal
    ∧ algebraic_DocatIdeal_DocatRefIdeal (hDocatIdeal := hDocatIdeal) (hDocatRefIdeal := hDocatRefIdeal)
    ∧ preserves_DwIn_DwInIdeal
    ∧ algebraic_DwInIdeal_DwInRefIdeal (hDwInIdeal := hDwInIdeal) (hDwInRefIdeal := hDwInRefIdeal)
    ∧ preserves_Gate_GateIdeal
    ∧ algebraic_GateIdeal_GateRefIdeal (hGateIdeal := hGateIdeal) (hGateRefIdeal := hGateRefIdeal)
    ∧ preserves_Up_UpIdeal
    ∧ algebraic_UpIdeal_UpRefIdeal (hUpIdeal := hUpIdeal) (hUpRefIdeal := hUpRefIdeal)
    ∧ preserves_Proj_ProjIdeal
    ∧ algebraic_ProjIdeal_ProjRefIdeal (hProjIdeal := hProjIdeal) (hProjRefIdeal := hProjRefIdeal)
    ∧ preserves_Mix_MixIdeal
    ∧ algebraic_MixIdeal_MixRefIdeal_on_gate_written_pre_finite_mix (hMixIdeal := hMixIdeal) (hMixRefIdeal := hMixRefIdeal) (hPre_finite_mix := hPre_finite_mix) (hOn_gate_written := hOn_gate_written)
-- ==== On_gate_written.lean ====
abbrev S8192x1024 : Shape := ⟨2, ![8192, 1024]⟩
abbrev S8192x512 : Shape := ⟨2, ![8192, 512]⟩
abbrev S8192x3200 : Shape := ⟨2, ![8192, 3200]⟩
abbrev S1x512 : Shape := ⟨2, ![1, 512]⟩
abbrev S_ : Shape := ⟨0, ![]⟩

class Facts : Prop where
  bcast_S_S8192x512 : S_.BroadcastsInDim S8192x512 (![] : Fin 0 → Fin S8192x512.rank)
  bcast_S_S8192x3200 : S_.BroadcastsInDim S8192x3200 (![] : Fin 0 → Fin S8192x3200.rank)
  bcast_S_S1x512 : S_.BroadcastsInDim S1x512 (![] : Fin 0 → Fin S1x512.rank)

variable [Facts]

def fn {F : FTy → Type} [FloatOps F] (main_arg0 : FVec F S8192x1024 .f32) (main_arg1 : FVec F S8192x512 .f32) (main_arg2 : FVec F S8192x512 .f32) (main_arg3 : FVec F S8192x3200 .f32) (main_arg4 : FVec F S1x512 .f32) (main_arg5 : FVec F S1x512 .f32) : IVec S8192x512 1 × IVec S8192x512 1 × IVec S8192x3200 1 × IVec S1x512 1 × IVec S1x512 1 :=
  let main_v0 : IVec S8192x3200 32 := iotaInDim S8192x3200 32 1
  let main_v1 : IVec S8192x512 32 := iotaInDim S8192x512 32 0
  let main_v2 : IVec S1x512 32 := iotaInDim S1x512 32 0
  let main_c : IVec S_ 32 := constantI S_ 32 0#32
  let main_v3 : IVec S8192x512 32 := broadcastInDim S8192x512 ![] bcast_S_S8192x512 main_c
  let main_v4 : IVec S8192x512 1 := cmpi .sge main_v1 main_v3
  let main_c_0 : IVec S_ 32 := constantI S_ 32 0#32
  let main_v5 : IVec S8192x512 32 := broadcastInDim S8192x512 ![] bcast_S_S8192x512 main_c_0
  let main_v6 : IVec S8192x512 1 := cmpi .sge main_v1 main_v5
  let main_c_1 : IVec S_ 32 := constantI S_ 32 2560#32
  let main_v7 : IVec S8192x3200 32 := broadcastInDim S8192x3200 ![] bcast_S_S8192x3200 main_c_1
  let main_v8 : IVec S8192x3200 1 := cmpi .sge main_v0 main_v7
  let main_c_2 : IVec S_ 32 := constantI S_ 32 3072#32
  let main_v9 : IVec S8192x3200 32 := broadcastInDim S8192x3200 ![] bcast_S_S8192x3200 main_c_2
  let main_v10 : IVec S8192x3200 1 := cmpi .slt main_v0 main_v9
  let main_v11 : IVec S8192x3200 1 := andi main_v8 main_v10
  let main_c_3 : IVec S_ 32 := constantI S_ 32 0#32
  let main_v12 : IVec S1x512 32 := broadcastInDim S1x512 ![] bcast_S_S1x512 main_c_3
  let main_v13 : IVec S1x512 1 := cmpi .sge main_v2 main_v12
  let main_c_4 : IVec S_ 32 := constantI S_ 32 0#32
  let main_v14 : IVec S1x512 32 := broadcastInDim S1x512 ![] bcast_S_S1x512 main_c_4
  let main_v15 : IVec S1x512 1 := cmpi .sge main_v2 main_v14
  (main_v4, main_v6, main_v11, main_v13, main_v15)
-- ==== On_rows_written.lean ====
abbrev S8192x2816 : Shape := ⟨2, ![8192, 2816]⟩
abbrev S8192x1024 : Shape := ⟨2, ![8192, 1024]⟩
abbrev S5632x1024 : Shape := ⟨2, ![5632, 1024]⟩
abbrev S_ : Shape := ⟨0, ![]⟩

class Facts : Prop where
  bcast_S_S5632x1024 : S_.BroadcastsInDim S5632x1024 (![] : Fin 0 → Fin S5632x1024.rank)

variable [Facts]

def fn {F : FTy → Type} [FloatOps F] (main_arg0 : FVec F S8192x2816 .bf16) (main_arg1 : FVec F S8192x1024 .bf16) : IVec S5632x1024 1 :=
  let main_v0 : IVec S5632x1024 32 := iotaInDim S5632x1024 32 0
  let main_c : IVec S_ 32 := constantI S_ 32 2816#32
  let main_v1 : IVec S5632x1024 32 := broadcastInDim S5632x1024 ![] bcast_S_S5632x1024 main_c
  let main_v2 : IVec S5632x1024 1 := cmpi .slt main_v0 main_v1
  main_v2
-- ==== Pre_finite.lean ====
abbrev S8192x5632 : Shape := ⟨2, ![8192, 5632]⟩
abbrev S3x5632 : Shape := ⟨2, ![3, 5632]⟩
abbrev S1x5632 : Shape := ⟨2, ![1, 5632]⟩
abbrev S8192x2816 : Shape := ⟨2, ![8192, 2816]⟩
abbrev S_ : Shape := ⟨0, ![]⟩

class Facts : Prop where
  bcast_S_S8192x5632 : S_.BroadcastsInDim S8192x5632 (![] : Fin 0 → Fin S8192x5632.rank)
  bcast_S_S3x5632 : S_.BroadcastsInDim S3x5632 (![] : Fin 0 → Fin S3x5632.rank)
  bcast_S_S1x5632 : S_.BroadcastsInDim S1x5632 (![] : Fin 0 → Fin S1x5632.rank)
  bcast_S_S8192x2816 : S_.BroadcastsInDim S8192x2816 (![] : Fin 0 → Fin S8192x2816.rank)

variable [Facts]

def fn {F : FTy → Type} [FloatOps F] (main_arg0 : FVec F S8192x5632 .f32) (main_arg1 : FVec F S3x5632 .f32) (main_arg2 : FVec F S1x5632 .f32) (main_arg3 : FVec F S8192x2816 .f32) : IVec S8192x5632 1 × IVec S3x5632 1 × IVec S1x5632 1 × IVec S8192x2816 1 :=
  let main_v0 : FVec F S8192x5632 .f32 := Host.absf main_arg0
  let main_cst : FVec F S_ .f32 := constant S_ .f32 0x7F800000#32
  let main_v1 : FVec F S8192x5632 .f32 := broadcastInDim S8192x5632 ![] bcast_S_S8192x5632 main_cst
  let main_v2 : IVec S8192x5632 1 := cmpf .olt main_v0 main_v1
  let main_v3 : FVec F S3x5632 .f32 := Host.absf main_arg1
  let main_cst_0 : FVec F S_ .f32 := constant S_ .f32 0x7F800000#32
  let main_v4 : FVec F S3x5632 .f32 := broadcastInDim S3x5632 ![] bcast_S_S3x5632 main_cst_0
  let main_v5 : IVec S3x5632 1 := cmpf .olt main_v3 main_v4
  let main_v6 : FVec F S1x5632 .f32 := Host.absf main_arg2
  let main_cst_1 : FVec F S_ .f32 := constant S_ .f32 0x7F800000#32
  let main_v7 : FVec F S1x5632 .f32 := broadcastInDim S1x5632 ![] bcast_S_S1x5632 main_cst_1
  let main_v8 : IVec S1x5632 1 := cmpf .olt main_v6 main_v7
  let main_v9 : FVec F S8192x2816 .f32 := Host.absf main_arg3
  let main_cst_2 : FVec F S_ .f32 := constant S_ .f32 0x7F800000#32
  let main_v10 : FVec F S8192x2816 .f32 := broadcastInDim S8192x2816 ![] bcast_S_S8192x2816 main_cst_2
  let main_v11 : IVec S8192x2816 1 := cmpf .olt main_v9 main_v10
  (main_v2, main_v5, main_v8, main_v11)
-- ==== Pre_finite_mix.lean ====
abbrev S8192x1024 : Shape := ⟨2, ![8192, 1024]⟩
abbrev S8192x512 : Shape := ⟨2, ![8192, 512]⟩
abbrev S8192x3200 : Shape := ⟨2, ![8192, 3200]⟩
abbrev S1x512 : Shape := ⟨2, ![1, 512]⟩
abbrev S_ : Shape := ⟨0, ![]⟩

class Facts : Prop where
  bcast_S_S8192x1024 : S_.BroadcastsInDim S8192x1024 (![] : Fin 0 → Fin S8192x1024.rank)
  bcast_S_S8192x512 : S_.BroadcastsInDim S8192x512 (![] : Fin 0 → Fin S8192x512.rank)
  slices_S8192x3200_S8192x512_0_2560 : S8192x3200.Slices ![0, 2560] S8192x512
  bcast_S_S1x512 : S_.BroadcastsInDim S1x512 (![] : Fin 0 → Fin S1x512.rank)

variable [Facts]

def fn_part1 {F : FTy → Type} [FloatOps F] (main_v2 : IVec S8192x1024 1) (main_v5 : IVec S8192x512 1) (main_v8 : IVec S8192x512 1) (main_v12 : IVec S8192x512 1) (main_v15 : IVec S1x512 1) (main_v16 : FVec F S1x512 .f32) (main_v17 : FVec F S1x512 .f32) : IVec S8192x1024 1 × IVec S8192x512 1 × IVec S8192x512 1 × IVec S8192x512 1 × IVec S1x512 1 × IVec S1x512 1 :=
  let main_v18 : IVec S1x512 1 := cmpf .olt main_v16 main_v17
  (main_v2, main_v5, main_v8, main_v12, main_v15, main_v18)

def fn {F : FTy → Type} [FloatOps F] (main_arg0 : FVec F S8192x1024 .f32) (main_arg1 : FVec F S8192x512 .f32) (main_arg2 : FVec F S8192x512 .f32) (main_arg3 : FVec F S8192x3200 .f32) (main_arg4 : FVec F S1x512 .f32) (main_arg5 : FVec F S1x512 .f32) : IVec S8192x1024 1 × IVec S8192x512 1 × IVec S8192x512 1 × IVec S8192x512 1 × IVec S1x512 1 × IVec S1x512 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S8192x512 .f32 := Host.absf main_arg2
  let main_cst_1 : FVec F S_ .f32 := constant S_ .f32 0x7F800000#32
  let main_v7 : FVec F S8192x512 .f32 := broadcastInDim S8192x512 ![] bcast_S_S8192x512 main_cst_1
  let main_v8 : IVec S8192x512 1 := cmpf .olt main_v6 main_v7
  let main_v9 : FVec F S8192x512 .f32 := (extractStridedSlice S8192x512 ![0, 2560] · slices_S8192x3200_S8192x512_0_2560) main_arg3
  let main_v10 : FVec F S8192x512 .f32 := Host.absf main_v9
  let main_cst_2 : FVec F S_ .f32 := constant S_ .f32 0x7F800000#32
  let main_v11 : FVec F S8192x512 .f32 := broadcastInDim S8192x512 ![] bcast_S_S8192x512 main_cst_2
  let main_v12 : IVec S8192x512 1 := cmpf .olt main_v10 main_v11
  let main_v13 : FVec F S1x512 .f32 := Host.absf main_arg4
  let main_cst_3 : FVec F S_ .f32 := constant S_ .f32 0x7F800000#32
  let main_v14 : FVec F S1x512 .f32 := broadcastInDim S1x512 ![] bcast_S_S1x512 main_cst_3
  let main_v15 : IVec S1x512 1 := cmpf .olt main_v13 main_v14
  let main_v16 : FVec F S1x512 .f32 := Host.absf main_arg5
  let main_cst_4 : FVec F S_ .f32 := constant S_ .f32 0x7F800000#32
  let main_v17 : FVec F S1x512 .f32 := broadcastInDim S1x512 ![] bcast_S_S1x512 main_cst_4
  fn_part1 (F := F) main_v2 main_v5 main_v8 main_v12 main_v15 main_v16 main_v17
-- ==== Kernel.lean ====
abbrev S8192x5632 : Shape := ⟨2, ![8192, 5632]⟩
abbrev S3x5632 : Shape := ⟨2, ![3, 5632]⟩
abbrev S1x5632 : Shape := ⟨2, ![1, 5632]⟩
abbrev S8192x2816 : Shape := ⟨2, ![8192, 2816]⟩
abbrev S4x2048x5632 : Shape := ⟨3, ![4, 2048, 5632]⟩
abbrev S5632 : Shape := ⟨1, ![5632]⟩
abbrev S_ : Shape := ⟨0, ![]⟩
abbrev S4x2x5632 : Shape := ⟨3, ![4, 2, 5632]⟩
abbrev S4x2050x5632 : Shape := ⟨3, ![4, 2050, 5632]⟩
abbrev S1x1x5632 : Shape := ⟨3, ![1, 1, 5632]⟩
abbrev S3x2816 : Shape := ⟨2, ![3, 2816]⟩
abbrev S1x2816 : Shape := ⟨2, ![1, 2816]⟩
abbrev S2048x256 : Shape := ⟨2, ![2048, 256]⟩
abbrev S3x256 : Shape := ⟨2, ![3, 256]⟩
abbrev S1x256 : Shape := ⟨2, ![1, 256]⟩
abbrev S256x256 : Shape := ⟨2, ![256, 256]⟩
abbrev S16x256 : Shape := ⟨2, ![16, 256]⟩
abbrev S8x256 : Shape := ⟨2, ![8, 256]⟩
abbrev S264x256 : Shape := ⟨2, ![264, 256]⟩
abbrev S256 : Shape := ⟨1, ![256]⟩

abbrev nBuf : Space → Nat
  | .hbm => 43
  | .vmem => 26
  | .smem => 0
  | _ => 0

abbrev bufTy : (tb : Table) → Fin (tcTables nBuf tb) → BufTy
  | .hbm, ⟨0, _⟩ => ⟨S8192x5632, .f32⟩
  | .hbm, ⟨1, _⟩ => ⟨S3x5632, .f32⟩
  | .hbm, ⟨2, _⟩ => ⟨S1x5632, .f32⟩
  | .hbm, ⟨3, _⟩ => ⟨S8192x2816, .f32⟩
  | .hbm, ⟨4, _⟩ => ⟨S4x2048x5632, .f32⟩
  | .hbm, ⟨5, _⟩ => ⟨S5632, .f32⟩
  | .hbm, ⟨6, _⟩ => ⟨S_, .f32⟩
  | .hbm, ⟨7, _⟩ => ⟨S4x2x5632, .f32⟩
  | .hbm, ⟨8, _⟩ => ⟨S4x2050x5632, .f32⟩
  | .hbm, ⟨9, _⟩ => ⟨S1x5632, .f32⟩
  | .hbm, ⟨10, _⟩ => ⟨S5632, .f32⟩
  | .hbm, ⟨11, _⟩ => ⟨S4x2048x5632, .f32⟩
  | .hbm, ⟨12, _⟩ => ⟨S1x1x5632, .f32⟩
  | .hbm, ⟨13, _⟩ => ⟨S4x2048x5632, .f32⟩
  | .hbm, ⟨14, _⟩ => ⟨S4x2048x5632, .f32⟩
  | .hbm, ⟨15, _⟩ => ⟨S1x1x5632, .f32⟩
  | .hbm, ⟨16, _⟩ => ⟨S4x2048x5632, .f32⟩
  | .hbm, ⟨17, _⟩ => ⟨S4x2048x5632, .f32⟩
  | .hbm, ⟨18, _⟩ => ⟨S1x5632, .f32⟩
  | .hbm, ⟨19, _⟩ => ⟨S5632, .f32⟩
  | .hbm, ⟨20, _⟩ => ⟨S4x2048x5632, .f32⟩
  | .hbm, ⟨21, _⟩ => ⟨S1x1x5632, .f32⟩
  | .hbm, ⟨22, _⟩ => ⟨S4x2048x5632, .f32⟩
  | .hbm, ⟨23, _⟩ => ⟨S4x2048x5632, .f32⟩
  | .hbm, ⟨24, _⟩ => ⟨S4x2048x5632, .f32⟩
  | .hbm, ⟨25, _⟩ => ⟨S1x5632, .f32⟩
  | .hbm, ⟨26, _⟩ => ⟨S5632, .f32⟩
  | .hbm, ⟨27, _⟩ => ⟨S4x2048x5632, .f32⟩
  | .hbm, ⟨28, _⟩ => ⟨S1x1x5632, .f32⟩
  | .hbm, ⟨29, _⟩ => ⟨S4x2048x5632, .f32⟩
  | .hbm, ⟨30, _⟩ => ⟨S4x2048x5632, .f32⟩
  | .hbm, ⟨31, _⟩ => ⟨S4x2048x5632, .f32⟩
  | .hbm, ⟨32, _⟩ => ⟨S8192x5632, .f32⟩
  | .hbm, ⟨33, _⟩ => ⟨S8192x2816, .f32⟩
  | .hbm, ⟨34, _⟩ => ⟨S8192x2816, .f32⟩
  | .hbm, ⟨35, _⟩ => ⟨S8192x2816, .bf16⟩
  | .hbm, ⟨36, _⟩ => ⟨S8192x2816, .bf16⟩
  | .hbm, ⟨37, _⟩ => ⟨S8192x2816, .bf16⟩
  | .hbm, ⟨38, _⟩ => ⟨S8192x2816, .bf16⟩
  | .hbm, ⟨39, _⟩ => ⟨S3x2816, .f32⟩
  | .hbm, ⟨40, _⟩ => ⟨S3x2816, .f32⟩
  | .hbm, ⟨41, _⟩ => ⟨S1x2816, .f32⟩
  | .hbm, ⟨42, _⟩ => ⟨S1x2816, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .f32⟩
  | .local _ .vmem, ⟨9, _⟩ => ⟨S2048x256, .f32⟩
  | .local _ .vmem, ⟨10, _⟩ => ⟨S3x256, .f32⟩
  | .local _ .vmem, ⟨11, _⟩ => ⟨S3x256, .f32⟩
  | .local _ .vmem, ⟨12, _⟩ => ⟨S3x256, .f32⟩
  | .local _ .vmem, ⟨13, _⟩ => ⟨S3x256, .f32⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S3x256, .f32⟩
  | .local _ .vmem, ⟨19, _⟩ => ⟨S3x256, .f32⟩
  | .local _ .vmem, ⟨20, _⟩ => ⟨S3x256, .f32⟩
  | .local _ .vmem, ⟨21, _⟩ => ⟨S3x256, .f32⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32_0 : Ref sig .tc := ⟨.hbm, 37, rfl⟩
abbrev main_v32_1 : Ref sig .tc := ⟨.hbm, 38, rfl⟩
abbrev main_v32_2 : Ref sig .tc := ⟨.hbm, 39, rfl⟩
abbrev main_v32_3 : Ref sig .tc := ⟨.hbm, 40, rfl⟩
abbrev main_v32_4 : Ref sig .tc := ⟨.hbm, 41, rfl⟩
abbrev main_v32_5 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![11, 4], ![false, false]⟩

@[reducible] def k0_t1_loop : Scf.Loop 32 :=
  let c0_i32_4 : BitVec 32 := 0#32
  let c8_i32 : BitVec 32 := 8#32
  let v5 : BitVec 32 := Scalar.addi c0_i32_4 c8_i32
  let c1_i32 : BitVec 32 := 1#32
  ⟨c0_i32_4, v5, c1_i32⟩
def k0_mult1 (k0_t1 : Fin k0_t1_loop.trips) : BitVec 32 :=
  let c0_i32_4 : BitVec 32 := 0#32
  let c1_i32 : BitVec 32 := 1#32
  let arg15 : BitVec 32 := Scf.iv c0_i32_4 c1_i32 k0_t1
  let c256_i32 : BitVec 32 := 256#32
  let v6 : BitVec 32 := Scalar.muli arg15 c256_i32
  v6
def k0_off1 (k0_t1 : Fin k0_t1_loop.trips) : Fin 2 → Nat :=
  let c0_i32_4 : BitVec 32 := 0#32
  let c1_i32 : BitVec 32 := 1#32
  let arg15 : BitVec 32 := Scf.iv c0_i32_4 c1_i32 k0_t1
  let c256_i32 : BitVec 32 := 256#32
  let v6 : BitVec 32 := Scalar.muli arg15 c256_i32
  let v7 : BitVec 32 := v6
  let v9 : Index := Scalar.indexCast v7
  let c0_6 : Index := 0#32
  ![v9.toNat, 0]
def k0_mult2 (k0_t1 : Fin k0_t1_loop.trips) : BitVec 32 :=
  let c0_i32_4 : BitVec 32 := 0#32
  let c1_i32 : BitVec 32 := 1#32
  let arg15 : BitVec 32 := Scf.iv c0_i32_4 c1_i32 k0_t1
  let c256_i32 : BitVec 32 := 256#32
  let v6 : BitVec 32 := Scalar.muli arg15 c256_i32
  let v7 : BitVec 32 := v6
  let c256_i32_10 : BitVec 32 := 256#32
  let v30 : BitVec 32 := Scalar.addi v7 c256_i32_10
  let c2032_i32 : BitVec 32 := 2032#32
  let v31 : BitVec 32 := Scalar.minsi v30 c2032_i32
  v31
def k0_off2 (k0_t1 : Fin k0_t1_loop.trips) : Fin 2 → Nat :=
  let c0_i32_4 : BitVec 32 := 0#32
  let c1_i32 : BitVec 32 := 1#32
  let arg15 : BitVec 32 := Scf.iv c0_i32_4 c1_i32 k0_t1
  let c256_i32 : BitVec 32 := 256#32
  let v6 : BitVec 32 := Scalar.muli arg15 c256_i32
  let v7 : BitVec 32 := v6
  let c256_i32_10 : BitVec 32 := 256#32
  let v30 : BitVec 32 := Scalar.addi v7 c256_i32_10
  let c2032_i32 : BitVec 32 := 2032#32
  let v31 : BitVec 32 := Scalar.minsi v30 c2032_i32
  let v32 : BitVec 32 := v31
  let v33 : Index := Scalar.indexCast v32
  let c0_11 : Index := 0#32
  ![v33.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S3x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S3x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceIdeal.lean ====
abbrev S8192x5632 : Shape := ⟨2, ![8192, 5632]⟩
abbrev S3x5632 : Shape := ⟨2, ![3, 5632]⟩
abbrev S1x5632 : Shape := ⟨2, ![1, 5632]⟩
abbrev S8192x2816 : Shape := ⟨2, ![8192, 2816]⟩
abbrev S4x2048x5632 : Shape := ⟨3, ![4, 2048, 5632]⟩
abbrev S5632 : Shape := ⟨1, ![5632]⟩
abbrev S_ : Shape := ⟨0, ![]⟩
abbrev S4x2x5632 : Shape := ⟨3, ![4, 2, 5632]⟩
abbrev S4x2050x5632 : Shape := ⟨3, ![4, 2050, 5632]⟩
abbrev S1x1x5632 : Shape := ⟨3, ![1, 1, 5632]⟩
abbrev S4x2048x2816 : Shape := ⟨3, ![4, 2048, 2816]⟩
abbrev S3x2816 : Shape := ⟨2, ![3, 2816]⟩
abbrev S1x2816 : Shape := ⟨2, ![1, 2816]⟩

abbrev nBuf : Space → Nat
  | .hbm => 117
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S3x5632, .f32⟩
  | .hbm, ⟨2, _⟩ => ⟨S1x5632, .f32⟩
  | .hbm, ⟨3, _⟩ => ⟨S8192x2816, .f32⟩
  | .hbm, ⟨4, _⟩ => ⟨S4x2048x5632, .f32⟩
  | .hbm, ⟨5, _⟩ => ⟨S5632, .f32⟩
  | .hbm, ⟨6, _⟩ => ⟨S_, .f32⟩
  | .hbm, ⟨7, _⟩ => ⟨S4x2x5632, .f32⟩
  | .hbm, ⟨8, _⟩ => ⟨S4x2050x5632, .f32⟩
  | .hbm, ⟨9, _⟩ => ⟨S_, .f32⟩
  | .hbm, ⟨10, _⟩ => ⟨S4x2x5632, .f32⟩
  | .hbm, ⟨11, _⟩ => ⟨S1x5632, .f32⟩
  | .hbm, ⟨12, _⟩ => ⟨S5632, .f32⟩
  | .hbm, ⟨13, _⟩ => ⟨S4x2048x5632, .f32⟩
  | .hbm, ⟨14, _⟩ => ⟨S1x1x5632, .f32⟩
  | .hbm, ⟨15, _⟩ => ⟨S4x2048x5632, .f32⟩
  | .hbm, ⟨16, _⟩ => ⟨S4x2048x5632, .f32⟩
  | .hbm, ⟨17, _⟩ => ⟨S1x1x5632, .f32⟩
  | .hbm, ⟨18, _⟩ => ⟨S4x2048x5632, .f32⟩
  | .hbm, ⟨19, _⟩ => ⟨S4x2048x5632, .f32⟩
  | .hbm, ⟨20, _⟩ => ⟨S1x5632, .f32⟩
  | .hbm, ⟨21, _⟩ => ⟨S5632, .f32⟩
  | .hbm, ⟨22, _⟩ => ⟨S4x2048x5632, .f32⟩
  | .hbm, ⟨23, _⟩ => ⟨S1x1x5632, .f32⟩
  | .hbm, ⟨24, _⟩ => ⟨S4x2048x5632, .f32⟩
  | .hbm, ⟨25, _⟩ => ⟨S4x2048x5632, .f32⟩
  | .hbm, ⟨26, _⟩ => ⟨S4x2048x5632, .f32⟩
  | .hbm, ⟨27, _⟩ => ⟨S1x5632, .f32⟩
  | .hbm, ⟨28, _⟩ => ⟨S5632, .f32⟩
  | .hbm, ⟨29, _⟩ => ⟨S4x2048x5632, .f32⟩
  | .hbm, ⟨30, _⟩ => ⟨S1x1x5632, .f32⟩
  | .hbm, ⟨31, _⟩ => ⟨S4x2048x5632, .f32⟩
  | .hbm, ⟨32, _⟩ => ⟨S4x2048x5632, .f32⟩
  | .hbm, ⟨33, _⟩ => ⟨S4x2048x5632, .f32⟩
  | .hbm, ⟨34, _⟩ => ⟨S4x2048x2816, .f32⟩
  | .hbm, ⟨35, _⟩ => ⟨S4x2048x2816, .f32⟩
  | .hbm, ⟨36, _⟩ => ⟨S4x2048x2816, .f32⟩
  | .hbm, ⟨37, _⟩ => ⟨S4x2048x2816, .f32⟩
  | .hbm, ⟨38, _⟩ => ⟨S_, .f32⟩
  | .hbm, ⟨39, _⟩ => ⟨S4x2048x2816, .f32⟩
  | .hbm, ⟨40, _⟩ => ⟨S4x2048x2816, .f32⟩
  | .hbm, ⟨41, _⟩ => ⟨S_, .f32⟩
  | .hbm, ⟨42, _⟩ => ⟨S4x2048x2816, .f32⟩
  | .hbm, ⟨43, _⟩ => ⟨S4x2048x2816, .f32⟩
  | .hbm, ⟨44, _⟩ => ⟨S_, .f32⟩
  | .hbm, ⟨45, _⟩ => ⟨S4x2048x2816, .f32⟩
  | .hbm, ⟨46, _⟩ => ⟨S4x2048x2816, .f32⟩
  | .hbm, ⟨47, _⟩ => ⟨S4x2048x2816, .f32⟩
  | .hbm, ⟨48, _⟩ => ⟨S4x2048x2816, .f32⟩
  | .hbm, ⟨49, _⟩ => ⟨S4x2048x2816, .f32⟩
  | .hbm, ⟨50, _⟩ => ⟨S4x2048x2816, .f32⟩
  | .hbm, ⟨51, _⟩ => ⟨S4x2048x2816, .f32⟩
  | .hbm, ⟨52, _⟩ => ⟨S4x2048x2816, .f32⟩
  | .hbm, ⟨53, _⟩ => ⟨S4x2048x2816, .f32⟩
  | .hbm, ⟨54, _⟩ => ⟨S4x2048x2816, .f32⟩
  | .hbm, ⟨55, _⟩ => ⟨S4x2048x2816, .f32⟩
  | .hbm, ⟨56, _⟩ => ⟨S4x2048x2816, .f32⟩
  | .hbm, ⟨57, _⟩ => ⟨S4x2048x5632, .f32⟩
  | .hbm, ⟨58, _⟩ => ⟨S4x2048x5632, .f32⟩
  | .hbm, ⟨59, _⟩ => ⟨S4x2048x5632, .f32⟩
  | .hbm, ⟨60, _⟩ => ⟨S4x2048x5632, .f32⟩
  | .hbm, ⟨61, _⟩ => ⟨S_, .f32⟩
  | .hbm, ⟨62, _⟩ => ⟨S5632, .f32⟩
  | .hbm, ⟨63, _⟩ => ⟨S1x1x5632, .f32⟩
  | .hbm, ⟨64, _⟩ => ⟨S_, .f32⟩
  | .hbm, ⟨65, _⟩ => ⟨S5632, .f32⟩
  | .hbm, ⟨66, _⟩ => ⟨S_, .f32⟩
  | .hbm, ⟨67, _⟩ => ⟨S4x2050x5632, .f32⟩
  | .hbm, ⟨68, _⟩ => ⟨S1x5632, .f32⟩
  | .hbm, ⟨69, _⟩ => ⟨S_, .f32⟩
  | .hbm, ⟨70, _⟩ => ⟨S3x5632, .f32⟩
  | .hbm, ⟨71, _⟩ => ⟨S4x2048x5632, .f32⟩
  | .hbm, ⟨72, _⟩ => ⟨S4x2048x5632, .f32⟩
  | .hbm, ⟨73, _⟩ => ⟨S4x2048x5632, .f32⟩
  | .hbm, ⟨74, _⟩ => ⟨S_, .f32⟩
  | .hbm, ⟨75, _⟩ => ⟨S5632, .f32⟩
  | .hbm, ⟨76, _⟩ => ⟨S1x1x5632, .f32⟩
  | .hbm, ⟨77, _⟩ => ⟨S_, .f32⟩
  | .hbm, ⟨78, _⟩ => ⟨S5632, .f32⟩
  | .hbm, ⟨79, _⟩ => ⟨S_, .f32⟩
  | .hbm, ⟨80, _⟩ => ⟨S4x2050x5632, .f32⟩
  | .hbm, ⟨81, _⟩ => ⟨S4x2050x5632, .f32⟩
  | .hbm, ⟨82, _⟩ => ⟨S1x5632, .f32⟩
  | .hbm, ⟨83, _⟩ => ⟨S_, .f32⟩
  | .hbm, ⟨84, _⟩ => ⟨S3x5632, .f32⟩
  | .hbm, ⟨85, _⟩ => ⟨S3x5632, .f32⟩
  | .hbm, ⟨86, _⟩ => ⟨S_, .f32⟩
  | .hbm, ⟨87, _⟩ => ⟨S5632, .f32⟩
  | .hbm, ⟨88, _⟩ => ⟨S1x1x5632, .f32⟩
  | .hbm, ⟨89, _⟩ => ⟨S_, .f32⟩
  | .hbm, ⟨90, _⟩ => ⟨S5632, .f32⟩
  | .hbm, ⟨91, _⟩ => ⟨S4x2048x5632, .f32⟩
  | .hbm, ⟨92, _⟩ => ⟨S4x2048x5632, .f32⟩
  | .hbm, ⟨93, _⟩ => ⟨S4x2048x5632, .f32⟩
  | .hbm, ⟨94, _⟩ => ⟨S_, .f32⟩
  | .hbm, ⟨95, _⟩ => ⟨S5632, .f32⟩
  | .hbm, ⟨96, _⟩ => ⟨S1x1x5632, .f32⟩
  | .hbm, ⟨97, _⟩ => ⟨S_, .f32⟩
  | .hbm, ⟨98, _⟩ => ⟨S5632, .f32⟩
  | .hbm, ⟨99, _⟩ => ⟨S_, .f32⟩
  | .hbm, ⟨100, _⟩ => ⟨S4x2050x5632, .f32⟩
  | .hbm, ⟨101, _⟩ => ⟨S4x2050x5632, .f32⟩
  | .hbm, ⟨102, _⟩ => ⟨S1x5632, .f32⟩
  | .hbm, ⟨103, _⟩ => ⟨S_, .f32⟩
  | .hbm, ⟨104, _⟩ => ⟨S3x5632, .f32⟩
  | .hbm, ⟨105, _⟩ => ⟨S3x5632, .f32⟩
  | .hbm, ⟨106, _⟩ => ⟨S4x2x5632, .f32⟩
  | .hbm, ⟨107, _⟩ => ⟨S4x2048x5632, .f32⟩
  | .hbm, ⟨108, _⟩ => ⟨S8192x5632, .f32⟩
  | .hbm, ⟨109, _⟩ => ⟨S8192x5632, .bf16⟩
  | .hbm, ⟨110, _⟩ => ⟨S1x5632, .f32⟩
  | .hbm, ⟨111, _⟩ => ⟨S8192x2816, .bf16⟩
  | .hbm, ⟨112, _⟩ => ⟨S8192x2816, .bf16⟩
  | .hbm, ⟨113, _⟩ => ⟨S3x2816, .f32⟩
  | .hbm, ⟨114, _⟩ => ⟨S3x2816, .f32⟩
  | .hbm, ⟨115, _⟩ => ⟨S1x2816, .f32⟩
  | .hbm, ⟨116, _⟩ => ⟨S1x2816, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_v30_2 : Ref sig .tc := ⟨.hbm, 43, rfl⟩
abbrev main_call0_cst_1 : Ref sig .tc := ⟨.hbm, 44, rfl⟩
abbrev main_call0_v6 : Ref sig .tc := ⟨.hbm, 45, rfl⟩
abbrev main_call0_v7 : Ref sig .tc := ⟨.hbm, 46, rfl⟩
abbrev main_v30_1 : Ref sig .tc := ⟨.hbm, 47, rfl⟩
abbrev main_v30_0 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_1 : Ref sig .tc := ⟨.hbm, 61, rfl⟩
abbrev main_v40 : Ref sig .tc := ⟨.hbm, 62, rfl⟩
abbrev main_v41 : Ref sig .tc := ⟨.hbm, 63, rfl⟩
abbrev main_cst_2 : Ref sig .tc := ⟨.hbm, 64, rfl⟩
abbrev main_v42 : Ref sig .tc := ⟨.hbm, 65, rfl⟩
abbrev main_cst_3 : Ref sig .tc := ⟨.hbm, 66, rfl⟩
abbrev main_v43 : Ref sig .tc := ⟨.hbm, 67, rfl⟩
abbrev main_v44 : Ref sig .tc := ⟨.hbm, 68, rfl⟩
abbrev main_cst_4 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_5 : Ref sig .tc := ⟨.hbm, 74, rfl⟩
abbrev main_v49 : Ref sig .tc := ⟨.hbm, 75, rfl⟩
abbrev main_v50 : Ref sig .tc := ⟨.hbm, 76, rfl⟩
abbrev main_cst_6 : Ref sig .tc := ⟨.hbm, 77, rfl⟩
abbrev main_v51 : Ref sig .tc := ⟨.hbm, 78, rfl⟩
abbrev main_cst_7 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_8 : Ref sig .tc := ⟨.hbm, 83, rfl⟩
abbrev main_v55 : Ref sig .tc := ⟨.hbm, 84, rfl⟩
abbrev main_v56 : Ref sig .tc := ⟨.hbm, 85, rfl⟩
abbrev main_cst_9 : Ref sig .tc := ⟨.hbm, 86, rfl⟩
abbrev main_v57 : Ref sig .tc := ⟨.hbm, 87, rfl⟩
abbrev main_v58 : Ref sig .tc := ⟨.hbm, 88, rfl⟩
abbrev main_cst_10 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_11 : Ref sig .tc := ⟨.hbm, 94, rfl⟩
abbrev main_v63 : Ref sig .tc := ⟨.hbm, 95, rfl⟩
abbrev main_v64 : Ref sig .tc := ⟨.hbm, 96, rfl⟩
abbrev main_cst_12 : Ref sig .tc := ⟨.hbm, 97, rfl⟩
abbrev main_v65 : Ref sig .tc := ⟨.hbm, 98, rfl⟩
abbrev main_cst_13 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_14 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩

abbrev nD : Nat := 1
abbrev τ : Topo := Topo.v7x

variable {F : FTy → Type} [FloatOps F]
-- ==== Dh2.lean ====
abbrev S8192x2816 : Shape := ⟨2, ![8192, 2816]⟩
abbrev S5632x1024 : Shape := ⟨2, ![5632, 1024]⟩
abbrev S8192x1024 : Shape := ⟨2, ![8192, 1024]⟩
abbrev S1x1024 : Shape := ⟨2, ![1, 1024]⟩
abbrev S1024x1408 : Shape := ⟨2, ![1024, 1408]⟩
abbrev S1408x1024 : Shape := ⟨2, ![1408, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 8
  | .vmem => 15
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S5632x1024, .bf16⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S1x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1x1024, .f32⟩
  | .local _ .vmem, ⟨14, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨3, ![8, 1, 4], ![false, false, false]⟩

def k0_cond5 (i : grid0.Coords) : BitVec 1 :=
  let arg2 : BitVec 32 := BitVec.ofNat 32 (i 2).val
  let c3_i32 : BitVec 32 := 3#32
  let v16 : BitVec 1 := Scalar.cmpi .eq arg2 c3_i32
  let v17 : BitVec 32 := Scalar.extui v16
  let c0_i32_8 : BitVec 32 := 0#32
  let v18 : BitVec 1 := Scalar.cmpi .ne v17 c0_i32_8
  v18

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let arg2 : BitVec 32 := BitVec.ofNat 32 (i 2).val
  let c0_i32_1 : BitVec 32 := 0#32
  let v3 : BitVec 1 := Scalar.cmpi .eq arg2 c0_i32_1
  let v4 : BitVec 1 := Scalar.andi v2 v3
  let v5 : BitVec 32 := Scalar.extui v4
  let c0_i32_2 : BitVec 32 := 0#32
  let v6 : BitVec 1 := Scalar.cmpi .ne v5 c0_i32_2
  v6

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg2 c1_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let v1 : BitVec 32 := Scalar.maxsi v0 c0_i32
  let c0_i32_0 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== Dh2RefIdeal.lean ====
abbrev S8192x2816 : Shape := ⟨2, ![8192, 2816]⟩
abbrev S5632x1024 : Shape := ⟨2, ![5632, 1024]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x5632 : Shape := ⟨2, ![1024, 5632]⟩
abbrev S8192x5632 : Shape := ⟨2, ![8192, 5632]⟩

abbrev nBuf : Space → Nat
  | .hbm => 60
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S5632x1024, .bf16⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S5632x1024, .f32⟩
  | .hbm, ⟨28, _⟩ => ⟨S1024x5632, .f32⟩
  | .hbm, ⟨29, _⟩ => ⟨S8192x5632, .f32⟩
  | .hbm, ⟨30, _⟩ => ⟨S8192x5632, .bf16⟩
  | .hbm, ⟨31, _⟩ => ⟨S8192x5632, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S8192x1024, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S1x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Loss.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S1x128 : Shape := ⟨2, ![1, 128]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 8
  | .vmem => 12
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S1x1024, .f32⟩
  | .hbm, ⟨7, _⟩ => ⟨S1x128, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x128, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LossRefIdeal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x128 : Shape := ⟨2, ![1, 128]⟩

abbrev nBuf : Space → Nat
  | .hbm => 80
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x2816, .f32⟩
  | .hbm, ⟨6, _⟩ => ⟨S2816x1024, .f32⟩
  | .hbm, ⟨7, _⟩ => ⟨S8192x1024, .f32⟩
  | .hbm, ⟨8, _⟩ => ⟨S8192x1024, .f32⟩
  | .hbm, ⟨9, _⟩ => ⟨S1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S8192, .f32⟩
  | .hbm, ⟨48, _⟩ => ⟨S_, .f32⟩
  | .hbm, ⟨49, _⟩ => ⟨S8192, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S1024, .f32⟩
  | .hbm, ⟨61, _⟩ => ⟨S8192x1024, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S8192x1024, .f32⟩
  | .hbm, ⟨66, _⟩ => ⟨S8192x1024, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S8192, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S1x1024, .f32⟩
  | .hbm, ⟨79, _⟩ => ⟨S1x128, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_cst_8 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩
abbrev main_cst_10 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_11 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_12 : Ref sig .tc := ⟨.hbm, 59, rfl⟩
abbrev main_v41 : Ref sig .tc := ⟨.hbm, 60, rfl⟩
abbrev main_v42 : Ref sig .tc := ⟨.hbm, 61, rfl⟩
abbrev main_cst_13 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_14 : Ref sig .tc := ⟨.hbm, 68, rfl⟩
abbrev main_v48 : Ref sig .tc := ⟨.hbm, 69, rfl⟩
abbrev main_v49 : Ref sig .tc := ⟨.hbm, 70, rfl⟩
abbrev main_cst_15 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]
-- ==== DwDown.lean ====
abbrev S8192x2816 : Shape := ⟨2, ![8192, 2816]⟩
abbrev S8192x1024 : Shape := ⟨2, ![8192, 1024]⟩
abbrev S2816x1024 : Shape := ⟨2, ![2816, 1024]⟩
abbrev S1024x2816 : Shape := ⟨2, ![1024, 2816]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .f32⟩
  | .local _ .vmem, ⟨3, _⟩ => ⟨S1024x1024, .f32⟩
  | .local _ .vmem, ⟨4, _⟩ => ⟨S2816x1024, .bf16⟩
  | .local _ .vmem, ⟨5, _⟩ => ⟨S2816x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwDownRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dact.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x2816, .f32⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DactRefIdeal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S_, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x2816, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwUpA.lean ====
abbrev S8192x2816 : Shape := ⟨2, ![8192, 2816]⟩
abbrev S8192x1024 : Shape := ⟨2, ![8192, 1024]⟩
abbrev S5632x1024 : Shape := ⟨2, ![5632, 1024]⟩
abbrev S1024x2816 : Shape := ⟨2, ![1024, 2816]⟩
abbrev S1024x1024 : Shape := ⟨2, ![1024, 1024]⟩
abbrev S2816x1024 : Shape := ⟨2, ![2816, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S5632x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S2816x1024, .bf16⟩
  | .local _ .vmem, ⟨5, _⟩ => ⟨S2816x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwUpARefIdeal.lean ====
abbrev S8192x2816 : Shape := ⟨2, ![8192, 2816]⟩
abbrev S8192x1024 : Shape := ⟨2, ![8192, 1024]⟩
abbrev S_ : Shape := ⟨0, ![]⟩
abbrev S1024x2816 : Shape := ⟨2, ![1024, 2816]⟩
abbrev S2816x1024 : Shape := ⟨2, ![2816, 1024]⟩
abbrev S5632x1024 : Shape := ⟨2, ![5632, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S1024x2816, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | .hbm, ⟨11, _⟩ => ⟨S_, .bf16⟩
  | .hbm, ⟨12, _⟩ => ⟨S2816x1024, .bf16⟩
  | .hbm, ⟨13, _⟩ => ⟨S5632x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== DwUpV.lean ====
abbrev S8192x2816 : Shape := ⟨2, ![8192, 2816]⟩
abbrev S8192x1024 : Shape := ⟨2, ![8192, 1024]⟩
abbrev S5632x1024 : Shape := ⟨2, ![5632, 1024]⟩
abbrev S1024x2816 : Shape := ⟨2, ![1024, 2816]⟩
abbrev S1024x1024 : Shape := ⟨2, ![1024, 1024]⟩
abbrev S2816x1024 : Shape := ⟨2, ![2816, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S5632x1024, .bf16⟩
  | .hbm, ⟨3, _⟩ => ⟨S5632x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S2816x1024, .bf16⟩
  | .local _ .vmem, ⟨5, _⟩ => ⟨S2816x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg0 c1_i32
  let c0_i32 : BitVec 32 := 0#32
  ![v0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwUpVRefIdeal.lean ====
abbrev S8192x2816 : Shape := ⟨2, ![8192, 2816]⟩
abbrev S8192x1024 : Shape := ⟨2, ![8192, 1024]⟩
abbrev S5632x1024 : Shape := ⟨2, ![5632, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S5632x1024, .bf16⟩
  | .hbm, ⟨3, _⟩ => ⟨S_, .f32⟩
  | .hbm, ⟨4, _⟩ => ⟨S1024x2816, .f32⟩
  | .hbm, ⟨5, _⟩ => ⟨S8192x1024, .f32⟩
  | .hbm, ⟨6, _⟩ => ⟨S8192x2816, .f32⟩
  | .hbm, ⟨7, _⟩ => ⟨S8192x2816, .f32⟩
  | .hbm, ⟨8, _⟩ => ⟨S2816x1024, .f32⟩
  | .hbm, ⟨9, _⟩ => ⟨S1024x2816, .f32⟩
  | .hbm, ⟨10, _⟩ => ⟨S2816x1024, .bf16⟩
  | .hbm, ⟨11, _⟩ => ⟨S2816x1024, .f32⟩
  | .hbm, ⟨12, _⟩ => ⟨S2816x1024, .bf16⟩
  | .hbm, ⟨13, _⟩ => ⟨S5632x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== DwOut.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwOutRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Docat.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DocatRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwIn.lean ====
abbrev S8192x3200 : Shape := ⟨2, ![8192, 3200]⟩
abbrev S8192x1024 : Shape := ⟨2, ![8192, 1024]⟩
abbrev S3200x1024 : Shape := ⟨2, ![3200, 1024]⟩
abbrev S1024x3200 : Shape := ⟨2, ![1024, 3200]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x3200, .bf16⟩
  | .hbm, ⟨1, _⟩ => ⟨S8192x1024, .bf16⟩
  | .hbm, ⟨2, _⟩ => ⟨S3200x1024, .bf16⟩
  | .local _ .vmem, ⟨0, _⟩ => ⟨S1024x3200, .bf16⟩
  | .local _ .vmem, ⟨1, _⟩ => ⟨S1024x3200, .bf16⟩
  | .local _ .vmem, ⟨2, _⟩ => ⟨S1024x1024, .bf16⟩
  | .local _ .vmem, ⟨3, _⟩ => ⟨S1024x1024, .bf16⟩
  | .local _ .vmem, ⟨4, _⟩ => ⟨S3200x1024, .bf16⟩
  | .local _ .vmem, ⟨5, _⟩ => ⟨S3200x1024, .f32⟩
  | _, _ => ⟨S8192x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S3200x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwInRefIdeal.lean ====
abbrev S8192x3200 : Shape := ⟨2, ![8192, 3200]⟩
abbrev S8192x1024 : Shape := ⟨2, ![8192, 1024]⟩
abbrev S_ : Shape := ⟨0, ![]⟩
abbrev S1024x3200 : Shape := ⟨2, ![1024, 3200]⟩
abbrev S3200x1024 : Shape := ⟨2, ![3200, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x3200, .bf16⟩
  | .hbm, ⟨1, _⟩ => ⟨S8192x1024, .bf16⟩
  | .hbm, ⟨2, _⟩ => ⟨S_, .f32⟩
  | .hbm, ⟨3, _⟩ => ⟨S1024x3200, .f32⟩
  | .hbm, ⟨4, _⟩ => ⟨S8192x1024, .f32⟩
  | .hbm, ⟨5, _⟩ => ⟨S8192x3200, .f32⟩
  | .hbm, ⟨6, _⟩ => ⟨S8192x3200, .f32⟩
  | .hbm, ⟨7, _⟩ => ⟨S3200x1024, .f32⟩
  | .hbm, ⟨8, _⟩ => ⟨S1024x3200, .f32⟩
  | .hbm, ⟨9, _⟩ => ⟨S3200x1024, .f32⟩
  | .hbm, ⟨10, _⟩ => ⟨S3200x1024, .bf16⟩
  | _, _ => ⟨S8192x3200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Gate.lean ====
abbrev S8192x256 : Shape := ⟨2, ![8192, 256]⟩
abbrev S8192x3200 : Shape := ⟨2, ![8192, 3200]⟩
abbrev S128x256 : Shape := ⟨2, ![128, 256]⟩
abbrev S1x256 : Shape := ⟨2, ![1, 256]⟩
abbrev S512x256 : Shape := ⟨2, ![512, 256]⟩
abbrev S512x128 : Shape := ⟨2, ![512, 128]⟩
abbrev S256 : Shape := ⟨1, ![256]⟩

abbrev nBuf : Space → Nat
  | .hbm => 7
  | .vmem => 9
  | .smem => 0
  | _ => 0

abbrev bufTy : (tb : Table) → Fin (tcTables nBuf tb) → BufTy
  | .hbm, ⟨0, _⟩ => ⟨S8192x256, .f32⟩
  | .hbm, ⟨1, _⟩ => ⟨S8192x3200, .f32⟩
  | .hbm, ⟨2, _⟩ => ⟨S128x256, .f32⟩
  | .hbm, ⟨3, _⟩ => ⟨S8192x3200, .bf16⟩
  | .hbm, ⟨4, _⟩ => ⟨S8192x3200, .bf16⟩
  | .hbm, ⟨5, _⟩ => ⟨S128x256, .f32⟩
  | .hbm, ⟨6, _⟩ => ⟨S1x256, .f32⟩
  | .local _ .vmem, ⟨0, _⟩ => ⟨S512x256, .f32⟩
  | .local _ .vmem, ⟨1, _⟩ => ⟨S512x256, .f32⟩
  | .local _ .vmem, ⟨2, _⟩ => ⟨S512x128, .f32⟩
  | .local _ .vmem, ⟨3, _⟩ => ⟨S512x128, .f32⟩
  | .local _ .vmem, ⟨4, _⟩ => ⟨S128x256, .f32⟩
  | .local _ .vmem, ⟨5, _⟩ => ⟨S512x128, .bf16⟩
  | .local _ .vmem, ⟨6, _⟩ => ⟨S512x128, .bf16⟩
  | .local _ .vmem, ⟨7, _⟩ => ⟨S128x256, .f32⟩
  | .local _ .vmem, ⟨8, _⟩ => ⟨S1x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c24_i32 : BitVec 32 := 24#32
  let c0_i32 : BitVec 32 := 0#32
  ![arg0.toNat, c24_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c24_i32 : BitVec 32 := 24#32
  let c0_i32 : BitVec 32 := 0#32
  ![arg0.toNat, c24_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== GateRefIdeal.lean ====
abbrev S8192x256 : Shape := ⟨2, ![8192, 256]⟩
abbrev S8192x3200 : Shape := ⟨2, ![8192, 3200]⟩
abbrev S128x256 : Shape := ⟨2, ![128, 256]⟩
abbrev S8192x128 : Shape := ⟨2, ![8192, 128]⟩
abbrev S_ : Shape := ⟨0, ![]⟩
abbrev S1x256 : Shape := ⟨2, ![1, 256]⟩
abbrev S256 : Shape := ⟨1, ![256]⟩
abbrev S256x128 : Shape := ⟨2, ![256, 128]⟩
abbrev S8192x3072 : Shape := ⟨2, ![8192, 3072]⟩

abbrev nBuf : Space → Nat
  | .hbm => 25
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x3200, .f32⟩
  | .hbm, ⟨2, _⟩ => ⟨S128x256, .f32⟩
  | .hbm, ⟨3, _⟩ => ⟨S8192x3200, .bf16⟩
  | .hbm, ⟨4, _⟩ => ⟨S8192x128, .f32⟩
  | .hbm, ⟨5, _⟩ => ⟨S_, .f32⟩
  | .hbm, ⟨6, _⟩ => ⟨S1x256, .f32⟩
  | .hbm, ⟨7, _⟩ => ⟨S8192x256, .f32⟩
  | .hbm, ⟨8, _⟩ => ⟨S256, .f32⟩
  | .hbm, ⟨9, _⟩ => ⟨S1x256, .f32⟩
  | .hbm, ⟨10, _⟩ => ⟨S8192x256, .f32⟩
  | .hbm, ⟨11, _⟩ => ⟨S8192x256, .f32⟩
  | .hbm, ⟨12, _⟩ => ⟨S8192x256, .f32⟩
  | .hbm, ⟨13, _⟩ => ⟨S_, .f32⟩
  | .hbm, ⟨14, _⟩ => ⟨S256, .f32⟩
  | .hbm, ⟨15, _⟩ => ⟨S1x256, .f32⟩
  | .hbm, ⟨16, _⟩ => ⟨S_, .f32⟩
  | .hbm, ⟨17, _⟩ => ⟨S256, .f32⟩
  | .hbm, ⟨18, _⟩ => ⟨S1x256, .f32⟩
  | .hbm, ⟨19, _⟩ => ⟨S256x128, .f32⟩
  | .hbm, ⟨20, _⟩ => ⟨S128x256, .f32⟩
  | .hbm, ⟨21, _⟩ => ⟨S8192x128, .f32⟩
  | .hbm, ⟨22, _⟩ => ⟨S8192x3072, .bf16⟩
  | .hbm, ⟨23, _⟩ => ⟨S8192x128, .bf16⟩
  | .hbm, ⟨24, _⟩ => ⟨S8192x3200, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Up.lean ====
abbrev S8192x1024 : Shape := ⟨2, ![8192, 1024]⟩
abbrev S5632x1024 : Shape := ⟨2, ![5632, 1024]⟩
abbrev S8192x5632 : Shape := ⟨2, ![8192, 5632]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S5632x1024, .bf16⟩
  | .hbm, ⟨2, _⟩ => ⟨S8192x5632, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S8192x1024 : Shape := ⟨2, ![8192, 1024]⟩
abbrev S5632x1024 : Shape := ⟨2, ![5632, 1024]⟩
abbrev S1024x5632 : Shape := ⟨2, ![1024, 5632]⟩
abbrev S8192x5632 : Shape := ⟨2, ![8192, 5632]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S5632x1024, .bf16⟩
  | .hbm, ⟨2, _⟩ => ⟨S8192x1024, .f32⟩
  | .hbm, ⟨3, _⟩ => ⟨S5632x1024, .f32⟩
  | .hbm, ⟨4, _⟩ => ⟨S1024x5632, .f32⟩
  | .hbm, ⟨5, _⟩ => ⟨S8192x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proj.lean ====
abbrev S8192x1024 : Shape := ⟨2, ![8192, 1024]⟩
abbrev S1x1024 : Shape := ⟨2, ![1, 1024]⟩
abbrev S3200x1024 : Shape := ⟨2, ![3200, 1024]⟩
abbrev S8192x3200 : Shape := ⟨2, ![8192, 3200]⟩
abbrev S512x1024 : Shape := ⟨2, ![512, 1024]⟩
abbrev S512x3200 : Shape := ⟨2, ![512, 3200]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S3200x1024, .bf16⟩
  | .hbm, ⟨3, _⟩ => ⟨S8192x3200, .f32⟩
  | .hbm, ⟨4, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S3200x1024, .bf16⟩
  | .local _ .vmem, ⟨4, _⟩ => ⟨S512x3200, .f32⟩
  | .local _ .vmem, ⟨5, _⟩ => ⟨S512x3200, .f32⟩
  | .local _ .vmem, ⟨6, _⟩ => ⟨S512x1024, .bf16⟩
  | .local _ .vmem, ⟨7, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3200x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ProjRefIdeal.lean ====
abbrev S8192x1024 : Shape := ⟨2, ![8192, 1024]⟩
abbrev S1x1024 : Shape := ⟨2, ![1, 1024]⟩
abbrev S3200x1024 : Shape := ⟨2, ![3200, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x3200 : Shape := ⟨2, ![1024, 3200]⟩
abbrev S8192x3200 : Shape := ⟨2, ![8192, 3200]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S3200x1024, .bf16⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S3200x1024, .f32⟩
  | .hbm, ⟨21, _⟩ => ⟨S1024x3200, .f32⟩
  | .hbm, ⟨22, _⟩ => ⟨S8192x3200, .f32⟩
  | .hbm, ⟨23, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Mix.lean ====
abbrev S8192x1024 : Shape := ⟨2, ![8192, 1024]⟩
abbrev S8192x512 : Shape := ⟨2, ![8192, 512]⟩
abbrev S8192x3200 : Shape := ⟨2, ![8192, 3200]⟩
abbrev S1x512 : Shape := ⟨2, ![1, 512]⟩
abbrev S512x1024 : Shape := ⟨2, ![512, 1024]⟩
abbrev S512x512 : Shape := ⟨2, ![512, 512]⟩
abbrev S512 : Shape := ⟨1, ![512]⟩

abbrev nBuf : Space → Nat
  | .hbm => 11
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x3200, .f32⟩
  | .hbm, ⟨4, _⟩ => ⟨S1x512, .f32⟩
  | .hbm, ⟨5, _⟩ => ⟨S1x512, .f32⟩
  | .hbm, ⟨6, _⟩ => ⟨S8192x512, .f32⟩
  | .hbm, ⟨7, _⟩ => ⟨S8192x512, .f32⟩
  | .hbm, ⟨8, _⟩ => ⟨S8192x3200, .bf16⟩
  | .hbm, ⟨9, _⟩ => ⟨S1x512, .f32⟩
  | .hbm, ⟨10, _⟩ => ⟨S1x512, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S1x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .bf16⟩
  | .local _ .vmem, ⟨15, _⟩ => ⟨S512x512, .bf16⟩
  | .local _ .vmem, ⟨16, _⟩ => ⟨S1x512, .f32⟩
  | .local _ .vmem, ⟨17, _⟩ => ⟨S1x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== MixRefIdeal.lean ====
abbrev S8192x1024 : Shape := ⟨2, ![8192, 1024]⟩
abbrev S8192x512 : Shape := ⟨2, ![8192, 512]⟩
abbrev S8192x3200 : Shape := ⟨2, ![8192, 3200]⟩
abbrev S1x512 : Shape := ⟨2, ![1, 512]⟩
abbrev S512 : Shape := ⟨1, ![512]⟩
abbrev S8192x8x64 : Shape := ⟨3, ![8192, 8, 64]⟩
abbrev S_ : Shape := ⟨0, ![]⟩
abbrev S8192x8 : Shape := ⟨2, ![8192, 8]⟩
abbrev S8192x8x1 : Shape := ⟨3, ![8192, 8, 1]⟩
abbrev S8192x4x128 : Shape := ⟨3, ![8192, 4, 128]⟩
abbrev S8192x4 : Shape := ⟨2, ![8192, 4]⟩
abbrev S8192x4x1 : Shape := ⟨3, ![8192, 4, 1]⟩
abbrev S8192x2560 : Shape := ⟨2, ![8192, 2560]⟩
abbrev S8192x128 : Shape := ⟨2, ![8192, 128]⟩

abbrev nBuf : Space → Nat
  | .hbm => 138
  | .vmem => 0
  | .smem => 0
  | _ => 0

abbrev hbmTy0_0 (i : Nat) : BufTy := match i % 128 with
  | 0 => ⟨S8192x1024, .f32⟩
  | 1 => ⟨S8192x512, .f32⟩
  | 2 => ⟨S8192x512, .f32⟩
  | 3 => ⟨S8192x3200, .f32⟩
  | 4 => ⟨S1x512, .f32⟩
  | 5 => ⟨S1x512, .f32⟩
  | 6 => ⟨S8192x512, .f32⟩
  | 7 => ⟨S512, .f32⟩
  | 8 => ⟨S8192x8x64, .f32⟩
  | 9 => ⟨S8192x8x64, .f32⟩
  | 10 => ⟨S_, .f32⟩
  | 11 => ⟨S8192x8, .f32⟩
  | 12 => ⟨S8192x8x1, .f32⟩
  | 13 => ⟨S_, .f32⟩
  | 14 => ⟨S8192x8x1, .f32⟩
  | 15 => ⟨S8192x8x1, .f32⟩
  | 16 => ⟨S_, .f32⟩
  | 17 => ⟨S8192x8x1, .f32⟩
  | 18 => ⟨S8192x8x1, .f32⟩
  | 19 => ⟨S8192x8x1, .f32⟩
  | 20 => ⟨S8192x8x1, .f32⟩
  | 21 => ⟨S_, .f32⟩
  | 22 => ⟨S8192x8x1, .f32⟩
  | 23 => ⟨S8192x8x1, .f32⟩
  | 24 => ⟨S8192x8x64, .f32⟩
  | 25 => ⟨S8192x8x64, .f32⟩
  | 26 => ⟨S8192x512, .f32⟩
  | 27 => ⟨S1x512, .f32⟩
  | 28 => ⟨S8192x512, .f32⟩
  | 29 => ⟨S8192x512, .f32⟩
  | 30 => ⟨S512, .f32⟩
  | 31 => ⟨S8192x4x128, .f32⟩
  | 32 => ⟨S8192x4x128, .f32⟩
  | 33 => ⟨S_, .f32⟩
  | 34 => ⟨S8192x4, .f32⟩
  | 35 => ⟨S8192x4x1, .f32⟩
  | 36 => ⟨S_, .f32⟩
  | 37 => ⟨S8192x4x1, .f32⟩
  | 38 => ⟨S8192x4x1, .f32⟩
  | 39 => ⟨S_, .f32⟩
  | 40 => ⟨S8192x4x1, .f32⟩
  | 41 => ⟨S8192x4x1, .f32⟩
  | 42 => ⟨S8192x4x1, .f32⟩
  | 43 => ⟨S8192x4x1, .f32⟩
  | 44 => ⟨S_, .f32⟩
  | 45 => ⟨S8192x4x1, .f32⟩
  | 46 => ⟨S8192x4x1, .f32⟩
  | 47 => ⟨S8192x4x128, .f32⟩
  | 48 => ⟨S8192x4x128, .f32⟩
  | 49 => ⟨S8192x512, .f32⟩
  | 50 => ⟨S1x512, .f32⟩
  | 51 => ⟨S8192x512, .f32⟩
  | 52 => ⟨S8192x512, .f32⟩
  | 53 => ⟨S8192x512, .f32⟩
  | 54 => ⟨S8192x512, .f32⟩
  | 55 => ⟨S_, .f32⟩
  | 56 => ⟨S8192x512, .f32⟩
  | 57 => ⟨S8192x512, .f32⟩
  | 58 => ⟨S_, .f32⟩
  | 59 => ⟨S8192x512, .f32⟩
  | 60 => ⟨S8192x512, .f32⟩
  | 61 => ⟨S_, .f32⟩
  | 62 => ⟨S8192x512, .f32⟩
  | 63 => ⟨S8192x512, .f32⟩
  | 64 => ⟨S8192x512, .f32⟩
  | 65 => ⟨S8192x512, .f32⟩
  | 66 => ⟨S8192x512, .f32⟩
  | 67 => ⟨S8192x1024, .f32⟩
  | 68 => ⟨S8192x512, .f32⟩
  | 69 => ⟨S8192x512, .f32⟩
  | 70 => ⟨S8192x512, .f32⟩
  | 71 => ⟨S8192x512, .f32⟩
  | 72 => ⟨S8192x512, .f32⟩
  | 73 => ⟨S8192x512, .f32⟩
  | 74 => ⟨S8192x512, .f32⟩
  | 75 => ⟨S8192x512, .f32⟩
  | 76 => ⟨S8192x512, .f32⟩
  | 77 => ⟨S_, .f32⟩
  | 78 => ⟨S512, .f32⟩
  | 79 => ⟨S1x512, .f32⟩
  | 80 => ⟨S8192x512, .f32⟩
  | 81 => ⟨S8192x512, .f32⟩
  | 82 => ⟨S_, .f32⟩
  | 83 => ⟨S512, .f32⟩
  | 84 => ⟨S8192x4x128, .f32⟩
  | 85 => ⟨S8192x4x128, .f32⟩
  | 86 => ⟨S_, .f32⟩
  | 87 => ⟨S8192x4, .f32⟩
  | 88 => ⟨S8192x4x1, .f32⟩
  | 89 => ⟨S8192x4x128, .f32⟩
  | 90 => ⟨S8192x4x128, .f32⟩
  | 91 => ⟨S8192x4x1, .f32⟩
  | 92 => ⟨S_, .f32⟩
  | 93 => ⟨S8192x4x1, .f32⟩
  | 94 => ⟨S8192x4x1, .f32⟩
  | 95 => ⟨S_, .f32⟩
  | 96 => ⟨S8192x4, .f32⟩
  | 97 => ⟨S8192x4x128, .f32⟩
  | 98 => ⟨S8192x4x128, .f32⟩
  | 99 => ⟨S8192x4x128, .f32⟩
  | 100 => ⟨S8192x4x128, .f32⟩
  | 101 => ⟨S8192x4x128, .f32⟩
  | 102 => ⟨S8192x512, .f32⟩
  | 103 => ⟨S1x512, .f32⟩
  | 104 => ⟨S8192x512, .f32⟩
  | 105 => ⟨S_, .f32⟩
  | 106 => ⟨S512, .f32⟩
  | 107 => ⟨S1x512, .f32⟩
  | 108 => ⟨S8192x512, .f32⟩
  | 109 => ⟨S8192x512, .f32⟩
  | 110 => ⟨S_, .f32⟩
  | 111 => ⟨S512, .f32⟩
  | 112 => ⟨S8192x8x64, .f32⟩
  | 113 => ⟨S8192x8x64, .f32⟩
  | 114 => ⟨S_, .f32⟩
  | 115 => ⟨S8192x8, .f32⟩
  | 116 => ⟨S8192x8x1, .f32⟩
  | 117 => ⟨S8192x8x64, .f32⟩
  | 118 => ⟨S8192x8x64, .f32⟩
  | 119 => ⟨S8192x8x1, .f32⟩
  | 120 => ⟨S_, .f32⟩
  | 121 => ⟨S8192x8x1, .f32⟩
  | 122 => ⟨S8192x8x1, .f32⟩
  | 123 => ⟨S_, .f32⟩
  | 124 => ⟨S8192x8, .f32⟩
  | 125 => ⟨S8192x8x64, .f32⟩
  | 126 => ⟨S8192x8x64, .f32⟩
  | 127 => ⟨S8192x8x64, .f32⟩
  | _ => ⟨S8192x1024, .f32⟩

abbrev hbmTy0_1 (i : Nat) : BufTy := match i % 128 with
  | 0 => ⟨S8192x8x64, .f32⟩
  | 1 => ⟨S8192x8x64, .f32⟩
  | 2 => ⟨S8192x512, .f32⟩
  | 3 => ⟨S1x512, .f32⟩
  | 4 => ⟨S_, .bf16⟩
  | 5 => ⟨S8192x2560, .bf16⟩
  | 6 => ⟨S8192x512, .bf16⟩
  | 7 => ⟨S_, .bf16⟩
  | 8 => ⟨S8192x128, .bf16⟩
  | 9 => ⟨S8192x3200, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_v39_2 : Ref sig .tc := ⟨.hbm, 60, rfl⟩
abbrev main_call0_cst_1 : Ref sig .tc := ⟨.hbm, 61, rfl⟩
abbrev main_call0_v6 : Ref sig .tc := ⟨.hbm, 62, rfl⟩
abbrev main_call0_v7 : Ref sig .tc := ⟨.hbm, 63, rfl⟩
abbrev main_v39_1 : Ref sig .tc := ⟨.hbm, 64, rfl⟩
abbrev main_v39_0 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_v46 : Ref sig .tc := ⟨.hbm, 75, rfl⟩
abbrev main_v47 : Ref sig .tc := ⟨.hbm, 76, rfl⟩
abbrev main_cst_7 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_8 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_9 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_10 : Ref sig .tc := ⟨.hbm, 92, rfl⟩
abbrev main_v60 : Ref sig .tc := ⟨.hbm, 93, rfl⟩
abbrev main_v61 : Ref sig .tc := ⟨.hbm, 94, rfl⟩
abbrev main_cst_11 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_12 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_13 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_14 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_cst_15 : Ref sig .tc := ⟨.hbm, 120, rfl⟩
abbrev main_v83 : Ref sig .tc := ⟨.hbm, 121, rfl⟩
abbrev main_v84 : Ref sig .tc := ⟨.hbm, 122, rfl⟩
abbrev main_cst_16 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_cst_17 : Ref sig .tc := ⟨.hbm, 132, rfl⟩
abbrev main_v93 : Ref sig .tc := ⟨.hbm, 133, rfl⟩
abbrev main_v94 : Ref sig .tc := ⟨.hbm, 134, rfl⟩
abbrev main_cst_18 : Ref sig .tc := ⟨.hbm, 135, rfl⟩
abbrev main_v95 : Ref sig .tc := ⟨.hbm, 136, rfl⟩
abbrev main_v96 : Ref sig .tc := ⟨.hbm, 137, rfl⟩

abbrev nD : Nat := 1
abbrev τ : Topo := Topo.v7x

variable {F : FTy → Type} [FloatOps F]
-- ==== Proof.ConvSpec.lean ====
/- What the row loop of the convolution's gradient computes, trip by trip: the rows a trip reads, the rows of the
   gradient it writes, and what it adds to the gradients of the taps and of the bias. -/
module

public import proofs.«01_k».proof.Proof.Gen.KernelIdeal.Skeleton
public import Idealize.ShloMosaic.Lib.ValueIdxCore

@[expose] public section

set_option maxRecDepth 16384

noncomputable section

namespace Cert.KernelIdeal.Conv

open Cert.KernelIdeal Cert.KernelIdeal.Gen
open Idealize.ShloMosaic Idealize.ShloMosaic.TcCoe Idealize.ShloMosaic.ValueIdx

variable {F : FTy → Type} [FloatOps F]

/-- The 256 rows trip `k` works on. -/
def rowsOf {e : EltTy} (k : ℕ) (x : Vec F S2048x256 e) : Vec F S256x256 e :=
  fun z => x (ix2 ⟨(256 * k + (z 0).val) % 2048, Nat.mod_lt _ (by decide)⟩ (z 1))

/-- The 16 rows that follow them (of the last trip: the block's last 16, which it masks). -/
def nextOf {e : EltTy} (k : ℕ) (x : Vec F S2048x256 e) : Vec F S16x256 e :=
  fun z => x (ix2 ⟨(min (256 * k + 256) 2032 + (z 0).val) % 2048, Nat.mod_lt _ (by decide)⟩ (z 1))

/-- Whether trip `k` is the last of the 8. -/
def lastOf (k : ℕ) : BitVec 1 := if k = 7 then 1#1 else 0#1

/-- One row of three. -/
def rowOf (r : Fin 3) (y : Vec F S3x256 .f32) : Vec F S1x256 .f32 := fun z => y (ix2 r (z 1))

/-- Three rows. -/
def rows3 (a b c : Vec F S1x256 .f32) : Vec F S3x256 .f32 := fun z =>
  if (z 0).val = 0 then a (ix2 0 (z 1)) else if (z 0).val = 1 then b (ix2 0 (z 1)) else c (ix2 0 (z 1))

/-- `y` with trip `k`'s rows replaced by `w`. -/
def put {e : EltTy} (k : ℕ) (w : Vec F S256x256 e) (y : Vec F S2048x256 e) : Vec F S2048x256 e := fun z =>
  if 256 * k ≤ (z 0).val ∧ (z 0).val < 256 * k + 256 then
    w (ix2 ⟨((z 0).val - 256 * k) % 256, Nat.mod_lt _ (by decide)⟩ (z 1))
  else y z

variable (v3 v4 : Vec F S3x256 .f32) (x2 x3 : Vec F S2048x256 .f32) (x4 x5 : Vec F S2048x256 .bf16) (x6 : Vec F S2048x256 .f32) (k : ℕ)

/-- The gradient at the gate's rows and at the value's. -/
def duA : FVec F S256x256 .f32 := k0_pay11 (rowsOf k x4) (rowsOf k x5) (rowsOf k x6)
def duV : FVec F S256x256 .f32 := k0_pay12 (rowsOf k x4) (rowsOf k x6)
/-- The two factors of the gate's gradient at the rows that follow, and the value's gradient there. -/
def nxA : FVec F S16x256 .f32 := k0_pay15 (nextOf k x5) (nextOf k x6)
def nxB : FVec F S16x256 .f32 := k0_pay16 (nextOf k x4)
def nxV : FVec F S8x256 .f32 := k0_pay18 (lastOf k) (k0_pay13 (nextOf k x4)) (nextOf k x6) (k0_pay14 (nextOf k x4))

/-- Trip `k`'s rows of the gradient at the convolution's input. -/
def dhA : FVec F S256x256 .bf16 := k0_pay21 v3 (lastOf k) (duA x4 x5 x6 k) (nxA x5 x6 k) (nxB x4 k)
def dhV : FVec F S256x256 .bf16 := k0_pay28 v4 (duV x4 x6 k) (nxV x4 x6 k)

/-- The taps' gradients after trip `k`, from those before it. -/
def dwA (y : Vec F S3x256 .f32) : Vec F S3x256 .f32 :=
  rows3 (k0_pay22 (lastOf k) (duA x4 x5 x6 k) (nxA x5 x6 k) (nxB x4 k) (rowsOf k x2) (rowOf 0 y))
    (k0_pay23 (lastOf k) (duA x4 x5 x6 k) (nxA x5 x6 k) (nxB x4 k) (rowsOf k x2) (rowOf 1 y))
    (k0_pay24 (duA x4 x5 x6 k) (rowsOf k x2) (rowOf 2 y))
def dwV (y : Vec F S3x256 .f32) : Vec F S3x256 .f32 :=
  rows3 (k0_pay5 (k0_pay27 (duV x4 x6 k) (nxV x4 x6 k)) (rowsOf k x3) (k0_pay29 (rowOf 0 y)))
    (k0_pay6 (k0_pay26 (duV x4 x6 k) (nxV x4 x6 k)) (rowsOf k x3) (rowOf 1 y))
    (k0_pay7 (duV x4 x6 k) (rowsOf k x3) (rowOf 2 y))
/-- The biases' gradients after trip `k`, from those before it. -/
def dbA (y : Vec F S1x256 .f32) : Vec F S1x256 .f32 := k0_pay25 (duA x4 x5 x6 k) y
def dbV (y : Vec F S1x256 .f32) : Vec F S1x256 .f32 := k0_pay8 (duV x4 x6 k) y

/-- What the trips before `k` leave of `y`. -/
def trips {α : Type} (f : ℕ → α → α) : ℕ → α → α
  | 0, y => y
  | k + 1, y => f k (trips f k y)

/-- The whole block of the gradient at the convolution's input: row `r` is trip `r / 256`'s. -/
def allRows {e : EltTy} (w : ℕ → Vec F S256x256 e) : Vec F S2048x256 e := fun z =>
  w ((z 0).val / 256) (ix2 ⟨(z 0).val % 256, Nat.mod_lt _ (by decide)⟩ (z 1))

/-- After `k` trips the first `256 k` rows are the trips' own. -/
theorem trips_put {e : EltTy} (w : ℕ → Vec F S256x256 e) (y : Vec F S2048x256 e) (k : ℕ) (z : S2048x256.Idx) (hz : (z 0).val < 256 * k) :
    trips (fun k y => put k (w k) y) k y z = allRows w z := by
  induction k with
  | zero => omega
  | succ k ih =>
    unfold trips put
    by_cases h : 256 * k ≤ (z 0).val ∧ (z 0).val < 256 * k + 256
    · rw [if_pos h]
      unfold allRows
      have e1 : (z 0).val / 256 = k := by omega
      have e2 : ((z 0).val - 256 * k) % 256 = (z 0).val % 256 := by omega
      rw [e1]; congr 1; simp only [e2]
    · rw [if_neg h]; exact ih (by omega)

theorem trips_put_all {e : EltTy} (w : ℕ → Vec F S256x256 e) (y : Vec F S2048x256 e) :
    trips (fun k y => put k (w k) y) 8 y = allRows w := funext fun z =>
  trips_put w y 8 z (idx2_lt0 z)

end Cert.KernelIdeal.Conv

end
-- ==== Proof.ConvTrip.lean ====
/- One trip of the row loop of the convolution's gradient, and the loop's invariant. -/
module

public import proofs.«01_k».proof.Proof.Gen.KernelIdeal.Skeleton
public import proofs.«01_k».proof.Proof.Gen.KernelIdeal.Loops
public import proofs.«01_k».proof.Proof.Gen.KernelIdeal.Frame
public import proofs.«01_k».proof.Proof.ConvSpec
public import Idealize.ShloMosaic.Lib.WritesUnit

@[expose] public section

set_option maxRecDepth 16384

noncomputable section

namespace Cert.KernelIdeal.Conv

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (c : Dev nD) (i : grid0.Coords)
  (arg2 : Memref sig .tc .vmem S2048x256 .f32) (harg2 : arg2.IsWhole) (arg3 : Memref sig .tc .vmem S2048x256 .f32) (harg3 : arg3.IsWhole)
  (arg4 : Memref sig .tc .vmem S2048x256 .bf16) (harg4 : arg4.IsWhole) (arg5 : Memref sig .tc .vmem S2048x256 .bf16) (harg5 : arg5.IsWhole)
  (arg6 : Memref sig .tc .vmem S2048x256 .f32) (harg6 : arg6.IsWhole) (arg7 : Memref sig .tc .vmem S3x256 .f32) (harg7 : arg7.IsWhole)
  (arg8 : Memref sig .tc .vmem S3x256 .f32) (harg8 : arg8.IsWhole) (arg9 : Memref sig .tc .vmem S2048x256 .bf16) (harg9 : arg9.IsWhole)
  (arg10 : Memref sig .tc .vmem S2048x256 .bf16) (harg10 : arg10.IsWhole) (arg11 : Memref sig .tc .vmem S3x256 .f32) (harg11 : arg11.IsWhole)
  (arg12 : Memref sig .tc .vmem S3x256 .f32) (harg12 : arg12.IsWhole) (arg13 : Memref sig .tc .vmem S1x256 .f32) (harg13 : arg13.IsWhole)
  (arg14 : Memref sig .tc .vmem S1x256 .f32) (harg14 : arg14.IsWhole)
  (v3 v4 : Vec F S3x256 .f32)

/-! ### Reading rows, and reading back what was written -/

theorem lastOf_eq (k : Fin k0_t1_loop.trips) : Scalar.cmpi .eq (Scf.iv 0#32 1#32 k.val) 7#32 = lastOf k.val := by
  have hk : k.val < 8 := Nat.lt_of_lt_of_le k.isLt k0_t1_abs.2.1
  have key : ∀ n : Fin 8, Scalar.cmpi .eq (Scf.iv 0#32 1#32 n.val) 7#32 = lastOf n.val := by decide +kernel
  exact key ⟨k.val, hk⟩

section Reads
variable {e : EltTy} {arg : Memref sig .tc .vmem S2048x256 e} (k : Fin k0_t1_loop.trips)

theorem readAt_rows (X : arg.view.ty.Contents (Elt F)) :
    View.readAt (Elt F) arg.view (Rect.unit (s := S2048x256) (k0_off1 k) S256x256.size (k0_off1_inb k)).toLoadRect X = rowsOf k.val (arg.view.read (Elt F) X) := by
  have hk : k.val < 8 := Nat.lt_of_lt_of_le k.isLt k0_t1_abs.2.1
  funext z
  have hz := idx2_lt0 z
  unfold rowsOf
  rw [View.readAt_apply]
  congr 1
  funext ax
  match ax with
  | ⟨0, _⟩ =>
    refine Fin.ext ?_
    show k0_off1 k 0 + 1 * (z 0).val = (256 * k.val + (z 0).val) % 2048
    have e : k0_off1 k 0 = 256 * k.val := congrFun (k0_off1_eq k) 0
    omega
  | ⟨1, _⟩ =>
    refine Fin.ext ?_
    show k0_off1 k 1 + 1 * (z 1).val = (z 1).val
    have e : k0_off1 k 1 = 0 := congrFun (k0_off1_eq k) 1
    omega

theorem readAt_next (X : arg.view.ty.Contents (Elt F)) :
    View.readAt (Elt F) arg.view (Rect.unit (s := S2048x256) (k0_off2 k) S16x256.size (k0_off2_inb k)).toLoadRect X = nextOf k.val (arg.view.read (Elt F) X) := by
  have hk : k.val < 8 := Nat.lt_of_lt_of_le k.isLt k0_t1_abs.2.1
  funext z
  have hz := idx2_lt0 z
  unfold nextOf
  rw [View.readAt_apply]
  congr 1
  funext ax
  match ax with
  | ⟨0, _⟩ =>
    refine Fin.ext ?_
    show k0_off2 k 0 + 1 * (z 0).val = (min (256 * k.val + 256) 2032 + (z 0).val) % 2048
    have e : k0_off2 k 0 = min (256 * k.val + 256) 2032 := congrFun (k0_off2_eq k) 0
    omega
  | ⟨1, _⟩ =>
    refine Fin.ext ?_
    show k0_off2 k 1 + 1 * (z 1).val = (z 1).val
    have e : k0_off2 k 1 = 0 := congrFun (k0_off2_eq k) 1
    omega

theorem read_put (f : arg.view.ty.Contents (Elt F)) {w w' : Vec F S256x256 e} (hw : w = w') :
    arg.view.read (Elt F) (arg.view.writes (Elt F) f [⟨Rect.unit (s := S2048x256) (k0_off1 k) S256x256.size (k0_off1_inb k), w⟩])
      = put k.val w' (arg.view.read (Elt F) f) := by
  subst hw
  funext z
  have hz := idx2_lt0 z
  rw [View.read_writes_cons_rows (size := S256x256.size) (o := 256 * k.val) (W := 256) arg.view f (k0_off1_inb k) w [] z (k0_off1_eq k) rfl rfl]
  unfold put
  by_cases h : 256 * k.val ≤ (z 0).val ∧ (z 0).val < 256 * k.val + 256
  · rw [dif_pos h, if_pos h]; congr 1
    funext ax
    match ax with
    | ⟨0, _⟩ =>
      refine Fin.ext ?_
      show (z 0).val - 256 * k.val = ((z 0).val - 256 * k.val) % 256
      omega
    | ⟨1, _⟩ => exact Fin.ext rfl
  · rw [dif_neg h, if_neg h]; rfl
end Reads

theorem readAt_row3 {arg : Memref sig .tc .vmem S3x256 .f32} (r : Fin 3) (inb : ∀ a, (![r.val, 0] : Fin 2 → ℕ) a + S1x256.size a ≤ S3x256.size a) (X : arg.view.ty.Contents (Elt F)) :
    View.readAt (Elt F) arg.view (Rect.unit (s := S3x256) ![r.val, 0] S1x256.size inb).toLoadRect X = rowOf r (arg.view.read (Elt F) X) := by
  funext z
  have hz := idx2_lt0 z
  unfold rowOf
  rw [View.readAt_apply]
  congr 1
  funext ax
  match ax with
  | ⟨0, _⟩ => exact Fin.ext (show r.val + 1 * (z 0).val = r.val by omega)
  | ⟨1, _⟩ => exact Fin.ext (show 0 + 1 * (z 1).val = (z 1).val by omega)

theorem readAt_row1 {arg : Memref sig .tc .vmem S1x256 .f32} (inb : ∀ a, (![0, 0] : Fin 2 → ℕ) a + S1x256.size a ≤ S1x256.size a) (X : arg.view.ty.Contents (Elt F)) :
    View.readAt (Elt F) arg.view (Rect.unit (s := S1x256) ![0, 0] S1x256.size inb).toLoadRect X = arg.view.read (Elt F) X := by
  funext z
  rw [View.readAt_apply]
  congr 1
  funext ax
  match ax with
  | ⟨0, _⟩ => exact Fin.ext (show 0 + 1 * (z 0).val = (z 0).val by omega)
  | ⟨1, _⟩ => exact Fin.ext (show 0 + 1 * (z 1).val = (z 1).val by omega)

theorem read_rows3 {arg : Memref sig .tc .vmem S3x256 .f32} (f : arg.view.ty.Contents (Elt F)) {a b c a' b' c' : Vec F S1x256 .f32} (ha : a = a') (hb : b = b') (hc : c = c')
    (i0 : ∀ x, (![0, 0] : Fin 2 → ℕ) x + S1x256.size x ≤ S3x256.size x) (i1 : ∀ x, (![1, 0] : Fin 2 → ℕ) x + S1x256.size x ≤ S3x256.size x)
    (i2 : ∀ x, (![2, 0] : Fin 2 → ℕ) x + S1x256.size x ≤ S3x256.size x) :
    arg.view.read (Elt F) (arg.view.writes (Elt F) f [⟨Rect.unit (s := S3x256) ![2, 0] S1x256.size i2, c⟩, ⟨Rect.unit (s := S3x256) ![1, 0] S1x256.size i1, b⟩,
      ⟨Rect.unit (s := S3x256) ![0, 0] S1x256.size i0, a⟩]) = rows3 a' b' c' := by
  subst ha hb hc
  funext z
  have hz := idx2_lt0 z
  have h1 (o : ℕ) (h : o ≤ (z 0).val ∧ (z 0).val < o + 1) (inb : ∀ x, (![o, 0] : Fin 2 → ℕ) x + S1x256.size x ≤ S3x256.size x) (w : Vec F S1x256 .f32)
      (m : ∀ a, (![o, 0] : Fin 2 → ℕ) a ≤ (z a).val ∧ (z a).val < (![o, 0] : Fin 2 → ℕ) a + S1x256.size a) :
      w (Rect.unitLocal (s := S3x256) (off := ![o, 0]) (size := S1x256.size) z m) = w (ix2 0 (z 1)) := by
    congr 1
    funext ax
    match ax with
    | ⟨0, _⟩ => exact Fin.ext (show (z 0).val - o = 0 by omega)
    | ⟨1, _⟩ => exact Fin.ext rfl
  rw [View.read_writes_cons_rows (size := S1x256.size) (o := 2) (W := 1) arg.view f i2 c _ z rfl rfl rfl,
    View.read_writes_cons_rows (size := S1x256.size) (o := 1) (W := 1) arg.view f i1 b _ z rfl rfl rfl,
    View.read_writes_cons_rows (size := S1x256.size) (o := 0) (W := 1) arg.view f i0 a _ z rfl rfl rfl]
  unfold rows3
  by_cases h0 : (z 0).val = 0
  · rw [dif_neg (by omega), dif_neg (by omega), dif_pos (by omega), if_pos h0]; exact h1 0 (by omega) i0 a _
  · by_cases h2 : (z 0).val = 1
    · rw [dif_neg (by omega), dif_pos (by omega), if_neg h0, if_pos h2]; exact h1 1 (by omega) i1 b _
    · rw [dif_pos (by omega), if_neg h0, if_neg h2]; exact h1 2 (by omega) i2 c _

theorem read_row1 {arg : Memref sig .tc .vmem S1x256 .f32} (f : arg.view.ty.Contents (Elt F)) {a a' : Vec F S1x256 .f32} (ha : a = a')
    (i0 : ∀ x, (![0, 0] : Fin 2 → ℕ) x + S1x256.size x ≤ S1x256.size x) :
    arg.view.read (Elt F) (arg.view.writes (Elt F) f [⟨Rect.unit (s := S1x256) ![0, 0] S1x256.size i0, a⟩]) = a' := by
  subst ha
  funext z
  have hz := idx2_lt0 z
  rw [View.read_writes_cons_rows (size := S1x256.size) (o := 0) (W := 1) arg.view f i0 a _ z rfl rfl rfl, dif_pos (by omega)]
  congr 1
  funext ax
  match ax with
  | ⟨0, _⟩ => exact Fin.ext (show (z 0).val - 0 = (z 0).val by omega)
  | ⟨1, _⟩ => exact Fin.ext rfl

set_option maxHeartbeats 8000000 in
/-- One trip, from any contents: the five inputs are left as they were, the six outputs hold what `ConvSpec` says. -/
theorem trip (k : Fin k0_t1_loop.trips) (E : Set ℕ)
    (X2 : arg2.view.ty.Contents (Elt F))
    (X3 : arg3.view.ty.Contents (Elt F))
    (X4 : arg4.view.ty.Contents (Elt F))
    (X5 : arg5.view.ty.Contents (Elt F))
    (X6 : arg6.view.ty.Contents (Elt F))
    (f9 : arg9.view.ty.Contents (Elt F))
    (f10 : arg10.view.ty.Contents (Elt F))
    (f11 : arg11.view.ty.Contents (Elt F))
    (f12 : arg12.view.ty.Contents (Elt F))
    (f13 : arg13.view.ty.Contents (Elt F))
    (f14 : arg14.view.ty.Contents (Elt F)) :
    (iprop((arg2.view.loc (c : Thread nD τ) ↦[arg2.view.set]{fullShare} X2)
      ∗ (arg3.view.loc (c : Thread nD τ) ↦[arg3.view.set]{fullShare} X3)
      ∗ (arg4.view.loc (c : Thread nD τ) ↦[arg4.view.set]{fullShare} X4)
      ∗ (arg5.view.loc (c : Thread nD τ) ↦[arg5.view.set]{fullShare} X5)
      ∗ (arg6.view.loc (c : Thread nD τ) ↦[arg6.view.set]{fullShare} X6)
      ∗ (arg9.view.loc (c : Thread nD τ) ↦[arg9.view.set]{fullShare} f9)
      ∗ (arg10.view.loc (c : Thread nD τ) ↦[arg10.view.set]{fullShare} f10)
      ∗ (arg11.view.loc (c : Thread nD τ) ↦[arg11.view.set]{fullShare} f11)
      ∗ (arg12.view.loc (c : Thread nD τ) ↦[arg12.view.set]{fullShare} f12)
      ∗ (arg13.view.loc (c : Thread nD τ) ↦[arg13.view.set]{fullShare} f13)
      ∗ (arg14.view.loc (c : Thread nD τ) ↦[arg14.view.set]{fullShare} f14)) : sProp 𝕄G)
      ⊢ wp frame (wpE (defs₀ (F := F)) Variants.none (c : Thread nD τ) none) E
          (k0_t1_body (F := F) i arg2 harg2 arg3 harg3 arg4 harg4 arg5 harg5 arg6 harg6 arg7 harg7 arg8 harg8 arg9 harg9 arg10 harg10 arg11 harg11 arg12 harg12 arg13 harg13 arg14 harg14 v3 v4 k ())
          (fun _ => iprop((arg2.view.loc (c : Thread nD τ) ↦[arg2.view.set]{fullShare} X2)
          ∗ (arg3.view.loc (c : Thread nD τ) ↦[arg3.view.set]{fullShare} X3)
          ∗ (arg4.view.loc (c : Thread nD τ) ↦[arg4.view.set]{fullShare} X4)
          ∗ (arg5.view.loc (c : Thread nD τ) ↦[arg5.view.set]{fullShare} X5)
          ∗ (arg6.view.loc (c : Thread nD τ) ↦[arg6.view.set]{fullShare} X6)
          ∗ (arg9.view.loc (c : Thread nD τ) ↦[arg9.view.set]{fullShare} (harg9.unread (put k.val (dhA v3 (arg4.view.read (Elt F) X4) (arg5.view.read (Elt F) X5) (arg6.view.read (Elt F) X6) k.val) (arg9.view.read (Elt F) f9))))
          ∗ (arg10.view.loc (c : Thread nD τ) ↦[arg10.view.set]{fullShare} (harg10.unread (put k.val (dhV v4 (arg4.view.read (Elt F) X4) (arg6.view.read (Elt F) X6) k.val) (arg10.view.read (Elt F) f10))))
          ∗ (arg11.view.loc (c : Thread nD τ) ↦[arg11.view.set]{fullShare} (harg11.unread (dwA (arg2.view.read (Elt F) X2) (arg4.view.read (Elt F) X4) (arg5.view.read (Elt F) X5) (arg6.view.read (Elt F) X6) k.val (arg11.view.read (Elt F) f11))))
          ∗ (arg12.view.loc (c : Thread nD τ) ↦[arg12.view.set]{fullShare} (harg12.unread (dwV (arg3.view.read (Elt F) X3) (arg4.view.read (Elt F) X4) (arg6.view.read (Elt F) X6) k.val (arg12.view.read (Elt F) f12))))
          ∗ (arg13.view.loc (c : Thread nD τ) ↦[arg13.view.set]{fullShare} (harg13.unread (dbA (arg4.view.read (Elt F) X4) (arg5.view.read (Elt F) X5) (arg6.view.read (Elt F) X6) k.val (arg13.view.read (Elt F) f13))))
          ∗ (arg14.view.loc (c : Thread nD τ) ↦[arg14.view.set]{fullShare} (harg14.unread (dbV (arg4.view.read (Elt F) X4) (arg6.view.read (Elt F) X6) k.val (arg14.view.read (Elt F) f14)))))) := by
  have hk : k.val < 8 := Nat.lt_of_lt_of_le k.isLt k0_t1_abs.2.1
  unfold k0_t1_body
  iintro ⟨H2, H3, H4, H5, H6, H9, H10, H11, H12, H13, H14⟩
  sl_exec
  sl_step
  rw [harg9.eq_unread (read_put k f9 (w' := dhA v3 (arg4.view.read (Elt F) X4) (arg5.view.read (Elt F) X5) (arg6.view.read (Elt F) X6) k.val) (by unfold dhA duA nxA nxB; rw [← lastOf_eq k, ← readAt_rows k X4, ← readAt_rows k X5, ← readAt_rows k X6, ← readAt_next k X5, ← readAt_next k X6, ← readAt_next k X4]; rfl))]
  rw [harg10.eq_unread (read_put k f10 (w' := dhV v4 (arg4.view.read (Elt F) X4) (arg6.view.read (Elt F) X6) k.val) (by unfold dhV duV nxV; rw [← lastOf_eq k, ← readAt_rows k X4, ← readAt_rows k X6, ← readAt_next k X4, ← readAt_next k X6]; rfl))]
  rw [harg11.eq_unread (read_rows3 f11 (a' := k0_pay22 (lastOf k.val) (duA (arg4.view.read (Elt F) X4) (arg5.view.read (Elt F) X5) (arg6.view.read (Elt F) X6) k.val) (nxA (arg5.view.read (Elt F) X5) (arg6.view.read (Elt F) X6) k.val) (nxB (arg4.view.read (Elt F) X4) k.val) (rowsOf k.val (arg2.view.read (Elt F) X2)) (rowOf 0 (arg11.view.read (Elt F) f11))) (b' := k0_pay23 (lastOf k.val) (duA (arg4.view.read (Elt F) X4) (arg5.view.read (Elt F) X5) (arg6.view.read (Elt F) X6) k.val) (nxA (arg5.view.read (Elt F) X5) (arg6.view.read (Elt F) X6) k.val) (nxB (arg4.view.read (Elt F) X4) k.val) (rowsOf k.val (arg2.view.read (Elt F) X2)) (rowOf 1 (arg11.view.read (Elt F) f11))) (c' := k0_pay24 (duA (arg4.view.read (Elt F) X4) (arg5.view.read (Elt F) X5) (arg6.view.read (Elt F) X6) k.val) (rowsOf k.val (arg2.view.read (Elt F) X2)) (rowOf 2 (arg11.view.read (Elt F) f11))) (by unfold duA nxA nxB; rw [← lastOf_eq k, ← readAt_row3 0 inb_S3x256_S1x256_0_0 f11, ← readAt_rows k X2, ← readAt_rows k X4, ← readAt_rows k X5, ← readAt_rows k X6, ← readAt_next k X5, ← readAt_next k X6, ← readAt_next k X4]; rfl) (by unfold duA nxA nxB; rw [← lastOf_eq k, ← readAt_row3 1 inb_S3x256_S1x256_1_0 f11, ← readAt_rows k X2, ← readAt_rows k X4, ← readAt_rows k X5, ← readAt_rows k X6, ← readAt_next k X5, ← readAt_next k X6, ← readAt_next k X4]; rfl) (by unfold duA; rw [← readAt_row3 2 inb_S3x256_S1x256_2_0 f11, ← readAt_rows k X2, ← readAt_rows k X4, ← readAt_rows k X5, ← readAt_rows k X6]; rfl) _ _ _)]
  rw [harg12.eq_unread (read_rows3 f12 (a' := k0_pay5 (k0_pay27 (duV (arg4.view.read (Elt F) X4) (arg6.view.read (Elt F) X6) k.val) (nxV (arg4.view.read (Elt F) X4) (arg6.view.read (Elt F) X6) k.val)) (rowsOf k.val (arg3.view.read (Elt F) X3)) (k0_pay29 (rowOf 0 (arg12.view.read (Elt F) f12)))) (b' := k0_pay6 (k0_pay26 (duV (arg4.view.read (Elt F) X4) (arg6.view.read (Elt F) X6) k.val) (nxV (arg4.view.read (Elt F) X4) (arg6.view.read (Elt F) X6) k.val)) (rowsOf k.val (arg3.view.read (Elt F) X3)) (rowOf 1 (arg12.view.read (Elt F) f12))) (c' := k0_pay7 (duV (arg4.view.read (Elt F) X4) (arg6.view.read (Elt F) X6) k.val) (rowsOf k.val (arg3.view.read (Elt F) X3)) (rowOf 2 (arg12.view.read (Elt F) f12))) (by unfold duV nxV; rw [← lastOf_eq k, ← readAt_row3 0 inb_S3x256_S1x256_0_0 f12, ← readAt_rows k X3, ← readAt_rows k X4, ← readAt_rows k X6, ← readAt_next k X4, ← readAt_next k X6]; rfl) (by unfold duV nxV; rw [← lastOf_eq k, ← readAt_row3 1 inb_S3x256_S1x256_1_0 f12, ← readAt_rows k X3, ← readAt_rows k X4, ← readAt_rows k X6, ← readAt_next k X4, ← readAt_next k X6]; rfl) (by unfold duV; rw [← readAt_row3 2 inb_S3x256_S1x256_2_0 f12, ← readAt_rows k X3, ← readAt_rows k X4, ← readAt_rows k X6]; rfl) _ _ _)]
  rw [harg13.eq_unread (read_row1 f13 (a' := dbA (arg4.view.read (Elt F) X4) (arg5.view.read (Elt F) X5) (arg6.view.read (Elt F) X6) k.val (arg13.view.read (Elt F) f13)) (by unfold dbA duA; rw [← readAt_row1 inb_S1x256_S1x256_0_0 f13, ← readAt_rows k X4, ← readAt_rows k X5, ← readAt_rows k X6]; rfl) _)]
  rw [harg14.eq_unread (read_row1 f14 (a' := dbV (arg4.view.read (Elt F) X4) (arg6.view.read (Elt F) X6) k.val (arg14.view.read (Elt F) f14)) (by unfold dbV duV; rw [← readAt_row1 inb_S1x256_S1x256_0_0 f14, ← readAt_rows k X4, ← readAt_rows k X6]; rfl) _)]
  isplitl [H2]; · iexact H2
  isplitl [H3]; · iexact H3
  isplitl [H4]; · iexact H4
  isplitl [H5]; · iexact H5
  isplitl [H6]; · iexact H6
  isplitl [H9]; · iexact H9
  isplitl [H10]; · iexact H10
  isplitl [H11]; · iexact H11
  isplitl [H12]; · iexact H12
  isplitl [H13]; · iexact H13
  iexact H14

end Cert.KernelIdeal.Conv

end
-- ==== Proof.ConvLoop.lean ====
/- The row loop of the convolution's gradient: its invariant, and what its eight trips leave. -/
module

public import proofs.«01_k».proof.Proof.Gen.KernelIdeal.Skeleton
public import proofs.«01_k».proof.Proof.Gen.KernelIdeal.Loops
public import proofs.«01_k».proof.Proof.Gen.KernelIdeal.Frame
public import proofs.«01_k».proof.Proof.ConvTrip
public import Idealize.ShloMosaic.Lib.WritesUnit

@[expose] public section

set_option maxRecDepth 16384

noncomputable section

namespace Cert.KernelIdeal.Conv

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The contents of a buffer after `k` trips that each replace what it reads by `g`, from any contents `G`. -/
def st {s : Shape} {e : EltTy} {arg : Memref sig .tc .vmem s e} (harg : arg.IsWhole) (g : ℕ → Vec F s e → Vec F s e) (G : arg.view.ty.Contents (Elt F)) :
    ℕ → arg.view.ty.Contents (Elt F)
  | 0 => G
  | k + 1 => harg.unread (g k (arg.view.read (Elt F) (st harg g G k)))

theorem read_st {s : Shape} {e : EltTy} {arg : Memref sig .tc .vmem s e} (harg : arg.IsWhole) (g : ℕ → Vec F s e → Vec F s e) (G : arg.view.ty.Contents (Elt F)) (k : ℕ) :
    arg.view.read (Elt F) (st harg g G k) = trips g k (arg.view.read (Elt F) G) := by
  induction k with
  | zero => rfl
  | succ k ih => unfold st trips; rw [harg.read_unread, ih]

set_option warn.classDefReducibility false in
set_option maxHeartbeats 8000000 in
/-- The loop's invariant: the inputs keep their contents, each output has what the trips before `k` made of it. -/
@[sl_loop] def loopInv_k0_t1 (c : Dev nD) (i : grid0.Coords)
    (arg2 : Memref sig .tc .vmem S2048x256 .f32) (harg2 : arg2.IsWhole)
    (arg3 : Memref sig .tc .vmem S2048x256 .f32) (harg3 : arg3.IsWhole)
    (arg4 : Memref sig .tc .vmem S2048x256 .bf16) (harg4 : arg4.IsWhole)
    (arg5 : Memref sig .tc .vmem S2048x256 .bf16) (harg5 : arg5.IsWhole)
    (arg6 : Memref sig .tc .vmem S2048x256 .f32) (harg6 : arg6.IsWhole)
    (arg7 : Memref sig .tc .vmem S3x256 .f32) (harg7 : arg7.IsWhole)
    (arg8 : Memref sig .tc .vmem S3x256 .f32) (harg8 : arg8.IsWhole)
    (arg9 : Memref sig .tc .vmem S2048x256 .bf16) (harg9 : arg9.IsWhole)
    (arg10 : Memref sig .tc .vmem S2048x256 .bf16) (harg10 : arg10.IsWhole)
    (arg11 : Memref sig .tc .vmem S3x256 .f32) (harg11 : arg11.IsWhole)
    (arg12 : Memref sig .tc .vmem S3x256 .f32) (harg12 : arg12.IsWhole)
    (arg13 : Memref sig .tc .vmem S1x256 .f32) (harg13 : arg13.IsWhole)
    (arg14 : Memref sig .tc .vmem S1x256 .f32) (harg14 : arg14.IsWhole)
    (v3 v4 : Vec F S3x256 .f32)
    (X2 : arg2.view.ty.Contents (Elt F))
    (X3 : arg3.view.ty.Contents (Elt F))
    (X4 : arg4.view.ty.Contents (Elt F))
    (X5 : arg5.view.ty.Contents (Elt F))
    (X6 : arg6.view.ty.Contents (Elt F))
    (G9 : arg9.view.ty.Contents (Elt F))
    (G10 : arg10.view.ty.Contents (Elt F))
    (G11 : arg11.view.ty.Contents (Elt F))
    (G12 : arg12.view.ty.Contents (Elt F))
    (G13 : arg13.view.ty.Contents (Elt F))
    (G14 : arg14.view.ty.Contents (Elt F)) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 v3 v4 where
  inv k _ := iprop((arg2.view.loc (c : Thread nD τ) ↦[arg2.view.set]{fullShare} X2)
      ∗ (arg3.view.loc (c : Thread nD τ) ↦[arg3.view.set]{fullShare} X3)
      ∗ (arg4.view.loc (c : Thread nD τ) ↦[arg4.view.set]{fullShare} X4)
      ∗ (arg5.view.loc (c : Thread nD τ) ↦[arg5.view.set]{fullShare} X5)
      ∗ (arg6.view.loc (c : Thread nD τ) ↦[arg6.view.set]{fullShare} X6)
      ∗ (∃ f, (arg9.view.loc (c : Thread nD τ) ↦[arg9.view.set]{fullShare} f) ∗ ⌜f = st harg9 (fun k => put k (dhA v3 (arg4.view.read (Elt F) X4) (arg5.view.read (Elt F) X5) (arg6.view.read (Elt F) X6) k)) G9 k⌝)
      ∗ (∃ f, (arg10.view.loc (c : Thread nD τ) ↦[arg10.view.set]{fullShare} f) ∗ ⌜f = st harg10 (fun k => put k (dhV v4 (arg4.view.read (Elt F) X4) (arg6.view.read (Elt F) X6) k)) G10 k⌝)
      ∗ (∃ f, (arg11.view.loc (c : Thread nD τ) ↦[arg11.view.set]{fullShare} f) ∗ ⌜f = st harg11 (dwA (arg2.view.read (Elt F) X2) (arg4.view.read (Elt F) X4) (arg5.view.read (Elt F) X5) (arg6.view.read (Elt F) X6)) G11 k⌝)
      ∗ (∃ f, (arg12.view.loc (c : Thread nD τ) ↦[arg12.view.set]{fullShare} f) ∗ ⌜f = st harg12 (dwV (arg3.view.read (Elt F) X3) (arg4.view.read (Elt F) X4) (arg6.view.read (Elt F) X6)) G12 k⌝)
      ∗ (∃ f, (arg13.view.loc (c : Thread nD τ) ↦[arg13.view.set]{fullShare} f) ∗ ⌜f = st harg13 (dbA (arg4.view.read (Elt F) X4) (arg5.view.read (Elt F) X5) (arg6.view.read (Elt F) X6)) G13 k⌝)
      ∗ (∃ f, (arg14.view.loc (c : Thread nD τ) ↦[arg14.view.set]{fullShare} f) ∗ ⌜f = st harg14 (dbV (arg4.view.read (Elt F) X4) (arg6.view.read (Elt F) X6)) G14 k⌝))
  step k acc := by
    iintro ⟨H2, H3, H4, H5, H6, ⟨%f9, H9, %hf9⟩, ⟨%f10, H10, %hf10⟩, ⟨%f11, H11, %hf11⟩, ⟨%f12, H12, %hf12⟩, ⟨%f13, H13, %hf13⟩, ⟨%f14, H14, %hf14⟩⟩
    subst hf9 hf10 hf11 hf12 hf13 hf14
    iapply (wp_wand_r Idealize.ShloMosaic.frame (wpE (defs₀ (F := F)) Variants.none (c : Thread nD τ) none) Set.univ)
    isplitl [H2 H3 H4 H5 H6 H9 H10 H11 H12 H13 H14]
    · iapply trip (F := F) c i arg2 harg2 arg3 harg3 arg4 harg4 arg5 harg5 arg6 harg6 arg7 harg7 arg8 harg8 arg9 harg9 arg10 harg10 arg11 harg11 arg12 harg12 arg13 harg13 arg14 harg14 v3 v4 k Set.univ
      isplitl [H2]; · iexact H2
      isplitl [H3]; · iexact H3
      isplitl [H4]; · iexact H4
      isplitl [H5]; · iexact H5
      isplitl [H6]; · iexact H6
      isplitl [H9]; · iexact H9
      isplitl [H10]; · iexact H10
      isplitl [H11]; · iexact H11
      isplitl [H12]; · iexact H12
      isplitl [H13]; · iexact H13
      iexact H14
    · iintro %_ ⟨H2, H3, H4, H5, H6, H9, H10, H11, H12, H13, H14⟩
      isplitl [H2]; · iexact H2
      isplitl [H3]; · iexact H3
      isplitl [H4]; · iexact H4
      isplitl [H5]; · iexact H5
      isplitl [H6]; · iexact H6
      isplitl [H9]
      · iexists _; isplitl [H9]; · iexact H9
        ipureintro; rfl
      isplitl [H10]
      · iexists _; isplitl [H10]; · iexact H10
        ipureintro; rfl
      isplitl [H11]
      · iexists _; isplitl [H11]; · iexact H11
        ipureintro; rfl
      isplitl [H12]
      · iexists _; isplitl [H12]; · iexact H12
        ipureintro; rfl
      isplitl [H13]
      · iexists _; isplitl [H13]; · iexact H13
        ipureintro; rfl
      iexists _; isplitl [H14]; · iexact H14
      ipureintro; rfl

end Cert.KernelIdeal.Conv

end
-- ==== Proof.ConvRun.lean ====
/- One block of the convolution's gradient: what the body leaves at a grid point, first of its column or not. -/
module

public import proofs.«01_k».proof.Proof.Gen.KernelIdeal.Skeleton
public import proofs.«01_k».proof.Proof.Gen.KernelIdeal.Loops
public import proofs.«01_k».proof.Proof.Gen.KernelIdeal.Frame
public import proofs.«01_k».proof.Proof.ConvLoop
public import Idealize.ShloMosaic.Lib.WritesUnit

@[expose] public section

set_option maxRecDepth 16384

noncomputable section

namespace Cert.KernelIdeal.Conv

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (c : Dev nD) (i : grid0.Coords)
  (arg2 : Memref sig .tc .vmem S2048x256 .f32) (harg2 : arg2.IsWhole) (arg3 : Memref sig .tc .vmem S2048x256 .f32) (harg3 : arg3.IsWhole)
  (arg4 : Memref sig .tc .vmem S2048x256 .bf16) (harg4 : arg4.IsWhole) (arg5 : Memref sig .tc .vmem S2048x256 .bf16) (harg5 : arg5.IsWhole)
  (arg6 : Memref sig .tc .vmem S2048x256 .f32) (harg6 : arg6.IsWhole) (arg7 : Memref sig .tc .vmem S3x256 .f32) (harg7 : arg7.IsWhole)
  (arg8 : Memref sig .tc .vmem S3x256 .f32) (harg8 : arg8.IsWhole) (arg9 : Memref sig .tc .vmem S2048x256 .bf16) (harg9 : arg9.IsWhole)
  (arg10 : Memref sig .tc .vmem S2048x256 .bf16) (harg10 : arg10.IsWhole) (arg11 : Memref sig .tc .vmem S3x256 .f32) (harg11 : arg11.IsWhole)
  (arg12 : Memref sig .tc .vmem S3x256 .f32) (harg12 : arg12.IsWhole) (arg13 : Memref sig .tc .vmem S1x256 .f32) (harg13 : arg13.IsWhole)
  (arg14 : Memref sig .tc .vmem S1x256 .f32) (harg14 : arg14.IsWhole)

theorem read_loop {s : Shape} {e : EltTy} {arg : Memref sig .tc .vmem s e} (harg : arg.IsWhole) {g g' : ℕ → Vec F s e → Vec F s e} (hg : g = g') (G : arg.view.ty.Contents (Elt F))
    {y : Vec F s e} (hy : arg.view.read (Elt F) G = y) :
    arg.view.read (Elt F) (st harg g G (Scf.trips k0_t1_loop.lb k0_t1_loop.ub k0_t1_loop.st)) = trips g' 8 y := by
  subst hg hy
  have h8 : Scf.trips k0_t1_loop.lb k0_t1_loop.ub k0_t1_loop.st = 8 := by decide +kernel
  rw [h8]
  exact read_st harg g G 8

theorem readAt_three {arg : Memref sig .tc .vmem S3x256 .f32} (inb : ∀ a, (![0, 0] : Fin 2 → ℕ) a + S3x256.size a ≤ S3x256.size a) (X : arg.view.ty.Contents (Elt F)) :
    View.readAt (Elt F) arg.view (Rect.unit (s := S3x256) ![0, 0] S3x256.size inb).toLoadRect X = arg.view.read (Elt F) X := by
  funext z
  rw [View.readAt_apply]
  congr 1
  funext ax
  match ax with
  | ⟨0, _⟩ => exact Fin.ext (show 0 + 1 * (z 0).val = (z 0).val by omega)
  | ⟨1, _⟩ => exact Fin.ext (show 0 + 1 * (z 1).val = (z 1).val by omega)

theorem read_three {arg : Memref sig .tc .vmem S3x256 .f32} (f : arg.view.ty.Contents (Elt F)) (a : Vec F S3x256 .f32)
    (i0 : ∀ x, (![0, 0] : Fin 2 → ℕ) x + S3x256.size x ≤ S3x256.size x) :
    arg.view.read (Elt F) (arg.view.writes (Elt F) f [⟨Rect.unit (s := S3x256) ![0, 0] S3x256.size i0, a⟩]) = a := by
  funext z
  have hz := idx2_lt0 z
  rw [View.read_writes_cons_rows (size := S3x256.size) (o := 0) (W := 3) arg.view f i0 a _ z rfl rfl rfl, dif_pos (by omega)]
  congr 1
  funext ax
  match ax with
  | ⟨0, _⟩ => exact Fin.ext (show (z 0).val - 0 = (z 0).val by omega)
  | ⟨1, _⟩ => exact Fin.ext rfl

theorem read_one {arg : Memref sig .tc .vmem S1x256 .f32} (f : arg.view.ty.Contents (Elt F)) (a : Vec F S1x256 .f32)
    (i0 : ∀ x, (![0, 0] : Fin 2 → ℕ) x + S1x256.size x ≤ S1x256.size x) :
    arg.view.read (Elt F) (arg.view.writes (Elt F) f [⟨Rect.unit (s := S1x256) ![0, 0] S1x256.size i0, a⟩]) = a := read_row1 f rfl i0

/-- Whether a point is the first of its column: the condition under which the body clears its sums. -/
abbrev cond0 (i : grid0.Coords) : Prop :=
  (Scalar.cmpi .ne (Scalar.extui (Scalar.cmpi .eq (BitVec.ofNat 32 (i 1).val) 0#32)) 0#32) = 1#1

set_option maxHeartbeats 8000000 in
/-- The body at the first block of a column: the sums start from zero. -/
theorem bodyA (hc0 : cond0 i) (x2 x3 : Vec F S2048x256 .f32) (x4 x5 : Vec F S2048x256 .bf16) (x6 : Vec F S2048x256 .f32) (x7 x8 : Vec F S3x256 .f32) (y9 y10 : Vec F S2048x256 .bf16) (y11 y12 : Vec F S3x256 .f32) (y13 y14 : Vec F S1x256 .f32) (K : Unit → sProp 𝕄G) :
    (iprop(owns (c : Thread nD τ) arg2 fullShare x2
      ∗ owns (c : Thread nD τ) arg3 fullShare x3
      ∗ owns (c : Thread nD τ) arg4 fullShare x4
      ∗ owns (c : Thread nD τ) arg5 fullShare x5
      ∗ owns (c : Thread nD τ) arg6 fullShare x6
      ∗ owns (c : Thread nD τ) arg7 fullShare x7
      ∗ owns (c : Thread nD τ) arg8 fullShare x8
      ∗ owns (c : Thread nD τ) arg9 fullShare y9
      ∗ owns (c : Thread nD τ) arg10 fullShare y10
      ∗ owns (c : Thread nD τ) arg11 fullShare y11
      ∗ owns (c : Thread nD τ) arg12 fullShare y12
      ∗ owns (c : Thread nD τ) arg13 fullShare y13
      ∗ owns (c : Thread nD τ) arg14 fullShare y14
      ∗ (∀ o, owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare (allRows (dhA x7 x4 x5 x6))
        ∗ owns (c : Thread nD τ) arg10 fullShare (allRows (dhV x8 x4 x6))
        ∗ owns (c : Thread nD τ) arg11 fullShare (trips (dwA x2 x4 x5 x6) 8 (k0_pay1 (F := F)))
        ∗ owns (c : Thread nD τ) arg12 fullShare (trips (dwV x3 x4 x6) 8 (k0_pay2 (F := F)))
        ∗ owns (c : Thread nD τ) arg13 fullShare (trips (dbA x4 x5 x6) 8 (k0_pay3 (F := F)))
        ∗ owns (c : Thread nD τ) arg14 fullShare (trips (dbV x4 x6) 8 (k0_pay4 (F := F))) -∗ K o)) : sProp 𝕄G)
      ⊢ wp frame (wpE (defs₀ (F := F)) Variants.none (c : Thread nD τ) none) Set.univ
          (cc0_conv_gate_bwd (F := F) i arg2 harg2 arg3 harg3 arg4 harg4 arg5 harg5 arg6 harg6 arg7 harg7 arg8 harg8 arg9 harg9 arg10 harg10 arg11 harg11 arg12 harg12 arg13 harg13 arg14 harg14) K := by
  simp only [cc0_conv_gate_bwd_eq_skeleton]
  unfold cc0_conv_gate_bwd_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  sl_exec (disch := first | sl_exact hc0)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact (read_loop harg9 (g' := fun k => put k (dhA x7 x4 x5 x6 k)) (by rw [harg4.read_unread, harg5.read_unread, harg6.read_unread, readAt_three, harg7.read_unread]) _ rfl).trans (trips_put_all _ _)
  isplitl [H10]
  · iexists _; isplitr; swap; · iexact H10
    ipureintro; exact (read_loop harg10 (g' := fun k => put k (dhV x8 x4 x6 k)) (by rw [harg4.read_unread, harg6.read_unread, readAt_three, harg8.read_unread]) _ rfl).trans (trips_put_all _ _)
  isplitl [H11]
  · iexists _; isplitr; swap; · iexact H11
    ipureintro; exact read_loop harg11 (g' := dwA x2 x4 x5 x6) (by rw [harg2.read_unread, harg4.read_unread, harg5.read_unread, harg6.read_unread]) _ (read_three _ _ _)
  isplitl [H12]
  · iexists _; isplitr; swap; · iexact H12
    ipureintro; exact read_loop harg12 (g' := dwV x3 x4 x6) (by rw [harg3.read_unread, harg4.read_unread, harg6.read_unread]) _ (read_three _ _ _)
  isplitl [H13]
  · iexists _; isplitr; swap; · iexact H13
    ipureintro; exact read_loop harg13 (g' := dbA x4 x5 x6) (by rw [harg4.read_unread, harg5.read_unread, harg6.read_unread]) _ (read_one _ _ _)
  iexists _; isplitr; swap; · iexact H14
  ipureintro; exact read_loop harg14 (g' := dbV x4 x6) (by rw [harg4.read_unread, harg6.read_unread]) _ (read_one _ _ _)

set_option maxHeartbeats 8000000 in
/-- The body at a later block of a column: the sums go on from what the block before left. -/
theorem bodyB (hc0 : ¬cond0 i) (x2 x3 : Vec F S2048x256 .f32) (x4 x5 : Vec F S2048x256 .bf16) (x6 : Vec F S2048x256 .f32) (x7 x8 : Vec F S3x256 .f32) (y9 y10 : Vec F S2048x256 .bf16) (y11 y12 : Vec F S3x256 .f32) (y13 y14 : Vec F S1x256 .f32) (K : Unit → sProp 𝕄G) :
    (iprop(owns (c : Thread nD τ) arg2 fullShare x2
      ∗ owns (c : Thread nD τ) arg3 fullShare x3
      ∗ owns (c : Thread nD τ) arg4 fullShare x4
      ∗ owns (c : Thread nD τ) arg5 fullShare x5
      ∗ owns (c : Thread nD τ) arg6 fullShare x6
      ∗ owns (c : Thread nD τ) arg7 fullShare x7
      ∗ owns (c : Thread nD τ) arg8 fullShare x8
      ∗ owns (c : Thread nD τ) arg9 fullShare y9
      ∗ owns (c : Thread nD τ) arg10 fullShare y10
      ∗ owns (c : Thread nD τ) arg11 fullShare y11
      ∗ owns (c : Thread nD τ) arg12 fullShare y12
      ∗ owns (c : Thread nD τ) arg13 fullShare y13
      ∗ owns (c : Thread nD τ) arg14 fullShare y14
      ∗ (∀ o, owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare (allRows (dhA x7 x4 x5 x6))
        ∗ owns (c : Thread nD τ) arg10 fullShare (allRows (dhV x8 x4 x6))
        ∗ owns (c : Thread nD τ) arg11 fullShare (trips (dwA x2 x4 x5 x6) 8 y11)
        ∗ owns (c : Thread nD τ) arg12 fullShare (trips (dwV x3 x4 x6) 8 y12)
        ∗ owns (c : Thread nD τ) arg13 fullShare (trips (dbA x4 x5 x6) 8 y13)
        ∗ owns (c : Thread nD τ) arg14 fullShare (trips (dbV x4 x6) 8 y14) -∗ K o)) : sProp 𝕄G)
      ⊢ wp frame (wpE (defs₀ (F := F)) Variants.none (c : Thread nD τ) none) Set.univ
          (cc0_conv_gate_bwd (F := F) i arg2 harg2 arg3 harg3 arg4 harg4 arg5 harg5 arg6 harg6 arg7 harg7 arg8 harg8 arg9 harg9 arg10 harg10 arg11 harg11 arg12 harg12 arg13 harg13 arg14 harg14) K := by
  simp only [cc0_conv_gate_bwd_eq_skeleton]
  unfold cc0_conv_gate_bwd_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  sl_exec (disch := first | sl_exact hc0)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact (read_loop harg9 (g' := fun k => put k (dhA x7 x4 x5 x6 k)) (by rw [harg4.read_unread, harg5.read_unread, harg6.read_unread, readAt_three, harg7.read_unread]) _ rfl).trans (trips_put_all _ _)
  isplitl [H10]
  · iexists _; isplitr; swap; · iexact H10
    ipureintro; exact (read_loop harg10 (g' := fun k => put k (dhV x8 x4 x6 k)) (by rw [harg4.read_unread, harg6.read_unread, readAt_three, harg8.read_unread]) _ rfl).trans (trips_put_all _ _)
  isplitl [H11]
  · iexists _; isplitr; swap; · iexact H11
    ipureintro; exact read_loop harg11 (g' := dwA x2 x4 x5 x6) (by rw [harg2.read_unread, harg4.read_unread, harg5.read_unread, harg6.read_unread]) _ (harg11.read_unread _)
  isplitl [H12]
  · iexists _; isplitr; swap; · iexact H12
    ipureintro; exact read_loop harg12 (g' := dwV x3 x4 x6) (by rw [harg3.read_unread, harg4.read_unread, harg6.read_unread]) _ (harg12.read_unread _)
  isplitl [H13]
  · iexists _; isplitr; swap; · iexact H13
    ipureintro; exact read_loop harg13 (g' := dbA x4 x5 x6) (by rw [harg4.read_unread, harg5.read_unread, harg6.read_unread]) _ (harg13.read_unread _)
  iexists _; isplitr; swap; · iexact H14
  ipureintro; exact read_loop harg14 (g' := dbV x4 x6) (by rw [harg4.read_unread, harg6.read_unread]) _ (harg14.read_unread _)

end Cert.KernelIdeal.Conv

end
-- ==== Proof.ConvFrame.lean ====
/- The convolution's gradient, point by point: what each staging buffer holds, the body's obligation, the run of the
   whole program, and that it leaves its arguments unchanged. -/
module

public import proofs.«01_k».proof.Proof.ConvRun
public import Idealize.ShloMosaic.Lib.Claim

@[expose] public section

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The sums are cleared at the points ≡ 0 (mod 4): the first of the four blocks of a column. -/
theorem cond0_iff : ∀ t : Fin cfg0.N, cond0 (grid0.coords t) ↔ t.val % 4 = 0 :=
  (fun t => by
    have ht : t.val < 44 := Nat.lt_of_lt_of_eq t.isLt N_0
    have e1 : (grid0.coords t 1).val = t.val / 1 % 4 := Pipeline.Grid.coords_val t 1 (by decide) rfl
    simp only [cond0, e1]
    word_cmp
   : ∀ t : Fin grid0.N, cond0 (grid0.coords t) ↔ t.val % 4 = 0)

/-! ### Each window's staging memref at a point -/

abbrev ms0_0 (t : Fin cfg0.N) : Memref sig .tc .vmem S2048x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S3x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S3x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2048x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2048x256 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S3x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S3x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x256 .f32 := win0_12.stage (cfg0.slots t 12)
abbrev hs0_12 (t : Fin cfg0.N) : (ms0_12 t).IsWhole := hstage0_12 ((cfg0.slots t 12).cast nbuf0_12)

/-- The body at point `t`. -/
abbrev bodyAt0 (t : Fin cfg0.N) := cc0_conv_gate_bwd (F := F) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t)

/-! ### What the sums hold after each point -/

/-- A sum over the blocks of a column: cleared to `z` at the column's first block, else from what the block before left. -/
def sumAt {α : Type} (z : α) (f : Fin cfg0.N → ℕ → α → α) : (n : ℕ) → n < cfg0.N → α
  | 0, h => trips (f ⟨0, h⟩) 8 z
  | n + 1, h => trips (f ⟨n + 1, h⟩) 8 (if (n + 1) % 4 = 0 then z else sumAt z f n (Nat.lt_of_succ_lt h))

theorem sumAt_first {α : Type} (z : α) (f : Fin cfg0.N → ℕ → α → α) (t : Fin cfg0.N) (h : t.val % 4 = 0) :
    sumAt z f t.val t.isLt = trips (f t) 8 z := by
  obtain ⟨n, hn⟩ := t
  cases n with
  | zero => rfl
  | succ n => unfold sumAt; rw [if_pos h]

theorem sumAt_later {α : Type} (z : α) (f : Fin cfg0.N → ℕ → α → α) (t : Fin cfg0.N) (h : ¬t.val % 4 = 0) :
    sumAt z f t.val t.isLt = trips (f t) 8 (sumAt z f (t.val - 1) (Nat.lt_of_le_of_lt (Nat.sub_le _ _) t.isLt)) := by
  obtain ⟨n, hn⟩ := t
  cases n with
  | zero => exact absurd (Nat.zero_mod _) h
  | succ n =>
    show trips (f ⟨n + 1, hn⟩) 8 (if (n + 1) % 4 = 0 then z else sumAt z f n (Nat.lt_of_succ_lt hn)) = trips (f ⟨n + 1, hn⟩) 8 (sumAt z f n _)
    rw [if_neg h]

/-- Output 7's block after point `t`. -/
def out7 (c : Dev nD) (t : Fin cfg0.N) : Vec F S2048x256 .bf16 := allRows (dhA (iblk m c 5 t) (iblk m c 2 t) (iblk m c 3 t) (iblk m c 4 t))
/-- Output 8's block after point `t`. -/
def out8 (c : Dev nD) (t : Fin cfg0.N) : Vec F S2048x256 .bf16 := allRows (dhV (iblk m c 6 t) (iblk m c 2 t) (iblk m c 4 t))
/-- Output 9's sum after point `n`. -/
def out9 (c : Dev nD) (n : ℕ) (hn : n < cfg0.N) : Vec F S3x256 .f32 := sumAt (k0_pay1 (F := F)) (fun t => dwA (iblk m c 0 t) (iblk m c 2 t) (iblk m c 3 t) (iblk m c 4 t)) n hn
/-- Output 10's sum after point `n`. -/
def out10 (c : Dev nD) (n : ℕ) (hn : n < cfg0.N) : Vec F S3x256 .f32 := sumAt (k0_pay2 (F := F)) (fun t => dwV (iblk m c 1 t) (iblk m c 2 t) (iblk m c 4 t)) n hn
/-- Output 11's sum after point `n`. -/
def out11 (c : Dev nD) (n : ℕ) (hn : n < cfg0.N) : Vec F S1x256 .f32 := sumAt (k0_pay3 (F := F)) (fun t => dbA (iblk m c 2 t) (iblk m c 3 t) (iblk m c 4 t)) n hn
/-- Output 12's sum after point `n`. -/
def out12 (c : Dev nD) (n : ℕ) (hn : n < cfg0.N) : Vec F S1x256 .f32 := sumAt (k0_pay4 (F := F)) (fun t => dbV (iblk m c 2 t) (iblk m c 4 t)) n hn

/-! ### The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 m c t
    | ⟨8, _⟩ => out8 m c t
    | ⟨9, _⟩ => out9 m c t.val t.isLt
    | ⟨10, _⟩ => out10 m c t.val t.isLt
    | ⟨11, _⟩ => out11 m c t.val t.isLt
    | ⟨12, _⟩ => out12 m c t.val t.isLt
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out7 m c t := by dsimp only [dats]
theorem after0_8 (c : Dev nD) (t : Fin cfg0.N) : (dats m 0 c).after 8 t = out8 m c t := by dsimp only [dats]
theorem after0_9 (c : Dev nD) (t : Fin cfg0.N) : (dats m 0 c).after 9 t = out9 m c t.val t.isLt := by dsimp only [dats]
theorem after0_10 (c : Dev nD) (t : Fin cfg0.N) : (dats m 0 c).after 10 t = out10 m c t.val t.isLt := by dsimp only [dats]
theorem after0_11 (c : Dev nD) (t : Fin cfg0.N) : (dats m 0 c).after 11 t = out11 m c t.val t.isLt := by dsimp only [dats]
theorem after0_12 (c : Dev nD) (t : Fin cfg0.N) : (dats m 0 c).after 12 t = out12 m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- At a later block of a column sum 9's buffer still holds what the block before left. -/
theorem before0_9 (c : Dev nD) (t : Fin cfg0.N) (h0 : ¬t.val % 4 = 0) (d) :
    (dats m 0 c).before 9 t d = out9 m c (t.val - 1) (Nat.lt_of_le_of_lt (Nat.sub_le _ _) t.isLt) := by
  have hN : t.val < 44 := lt_of_lt_of_eq t.isLt (show cfg0.N = 44 from N_0)
  rw [Dat.before_out_kept _ 9 rfl t (by omega) (Bool.eq_false_iff.mpr fun h => by have := (flush0_9 _).mp h; dsimp only at this; omega)
    (fun _ => rfl) (fun _ _ => rfl)]
  dsimp only [dats]

/-- At a later block of a column sum 10's buffer still holds what the block before left. -/
theorem before0_10 (c : Dev nD) (t : Fin cfg0.N) (h0 : ¬t.val % 4 = 0) (d) :
    (dats m 0 c).before 10 t d = out10 m c (t.val - 1) (Nat.lt_of_le_of_lt (Nat.sub_le _ _) t.isLt) := by
  have hN : t.val < 44 := lt_of_lt_of_eq t.isLt (show cfg0.N = 44 from N_0)
  rw [Dat.before_out_kept _ 10 rfl t (by omega) (Bool.eq_false_iff.mpr fun h => by have := (flush0_10 _).mp h; dsimp only at this; omega)
    (fun _ => rfl) (fun _ _ => rfl)]
  dsimp only [dats]

/-- At a later block of a column sum 11's buffer still holds what the block before left. -/
theorem before0_11 (c : Dev nD) (t : Fin cfg0.N) (h0 : ¬t.val % 4 = 0) (d) :
    (dats m 0 c).before 11 t d = out11 m c (t.val - 1) (Nat.lt_of_le_of_lt (Nat.sub_le _ _) t.isLt) := by
  have hN : t.val < 44 := lt_of_lt_of_eq t.isLt (show cfg0.N = 44 from N_0)
  rw [Dat.before_out_kept _ 11 rfl t (by omega) (Bool.eq_false_iff.mpr fun h => by have := (flush0_11 _).mp h; dsimp only at this; omega)
    (fun _ => rfl) (fun _ _ => rfl)]
  dsimp only [dats]

/-- At a later block of a column sum 12's buffer still holds what the block before left. -/
theorem before0_12 (c : Dev nD) (t : Fin cfg0.N) (h0 : ¬t.val % 4 = 0) (d) :
    (dats m 0 c).before 12 t d = out12 m c (t.val - 1) (Nat.lt_of_le_of_lt (Nat.sub_le _ _) t.isLt) := by
  have hN : t.val < 44 := lt_of_lt_of_eq t.isLt (show cfg0.N = 44 from N_0)
  rw [Dat.before_out_kept _ 12 rfl t (by omega) (Bool.eq_false_iff.mpr fun h => by have := (flush0_12 _).mp h; dsimp only at this; omega)
    (fun _ => rfl) (fun _ _ => rfl)]
  dsimp only [dats]

/-! ### The body's obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  by_cases h0 : t.val % 4 = 0
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (bodyA c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) ((cond0_iff t).mpr h0) (iblk m c 0 t) (iblk m c 1 t) (iblk m c 2 t) (iblk m c 3 t) (iblk m c 4 t) (iblk m c 5 t) (iblk m c 6 t) _ _ _ _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iintro %_ ⟨H0, H1, H2, H3, H4, H5, H6, H7, H8, H9, H10, H11, H12⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    unfold out9 out10 out11 out12
    rw [sumAt_first _ _ t h0, sumAt_first _ _ t h0, sumAt_first _ _ t h0, sumAt_first _ _ t h0]
    isplitl [H9]; · iexact H9
    isplitl [H10]; · iexact H10
    isplitl [H11]; · iexact H11
    iexact H12
  · simp only [before0_9 m c t h0, before0_10 m c t h0, before0_11 m c t h0, before0_12 m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (bodyB c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) (fun h => h0 ((cond0_iff t).mp h)) (iblk m c 0 t) (iblk m c 1 t) (iblk m c 2 t) (iblk m c 3 t) (iblk m c 4 t) (iblk m c 5 t) (iblk m c 6 t) _ _ _ _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iintro %_ ⟨H0, H1, H2, H3, H4, H5, H6, H7, H8, H9, H10, H11, H12⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    unfold out9 out10 out11 out12
    rw [sumAt_later _ _ t h0, sumAt_later _ _ t h0, sumAt_later _ _ t h0, sumAt_later _ _ t h0]
    isplitl [H9]; · iexact H9
    isplitl [H10]; · iexact H10
    isplitl [H11]; · iexact H11
    iexact H12

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ### The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- Every execution ends, with every array of the pipeline at what the proof data say. -/
theorem run_main : θ_run defs (onTc (τ := τ) (main (F := F))) (s₀ m ρ) (Pipeline.FramePost cfgs (dats m) 0 (V m)) :=
  (θ_run defs _ _).mono (fun _ h => h.1) (run_main_quiescent m ρ)

/-- Every execution ends, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Conv

end
-- ==== Proof.KernelFrame.lean ====
/- The frame of the convolution's backward call at the hardware's floats, taken from the frame proved over any instance:
  the idealized program is the same text (no rule was offered), so its kernel body, its label table and its host function
  are the program's own. -/
module

public import proofs.«01_k».proof.Defs
public import proofs.«01_k».proof.Proof.ConvFrame
public import proofs.«01_k».proof.Proof.Gen.Kernel

@[expose] public section

noncomputable section

namespace Cert.Proof

open Idealize.ShloMosaic Idealize.SL.Sem

/-- The two texts of the kernel's body are one. -/
theorem cc0_eq : @Cert.Kernel.cc0_conv_gate_bwd Bits _ _ = @Cert.KernelIdeal.cc0_conv_gate_bwd Bits _ _ := rfl
set_option maxHeartbeats 2000000 in
/-- The body's label runs the same body on the same staging buffers. -/
theorem defs0_eq : Cert.Kernel.defs₀ (F := Bits) = Cert.KernelIdeal.defs₀ (F := Bits) := by
  unfold Cert.Kernel.defs₀ Cert.KernelIdeal.defs₀
  refine congrArg Defs.onTc ?_
  refine funext fun l => ?_
  refine Fin.cases ?_ (fun i => i.elim0) l
  refine funext fun a => ?_
  obtain ⟨t, s⟩ := a
  show Cert.Kernel.cc0_conv_gate_bwd (Cert.Kernel.grid0.coords t) (Cert.Kernel.win0_0.stage (s 0)) (Cert.Kernel.Facts₀.hstage0_0 ((s 0).cast Cert.Kernel.Facts₀.nbuf0_0)) (Cert.Kernel.win0_1.stage (s 1)) (Cert.Kernel.Facts₀.hstage0_1 ((s 1).cast Cert.Kernel.Facts₀.nbuf0_1)) (Cert.Kernel.win0_2.stage (s 2)) (Cert.Kernel.Facts₀.hstage0_2 ((s 2).cast Cert.Kernel.Facts₀.nbuf0_2)) (Cert.Kernel.win0_3.stage (s 3)) (Cert.Kernel.Facts₀.hstage0_3 ((s 3).cast Cert.Kernel.Facts₀.nbuf0_3)) (Cert.Kernel.win0_4.stage (s 4)) (Cert.Kernel.Facts₀.hstage0_4 ((s 4).cast Cert.Kernel.Facts₀.nbuf0_4)) (Cert.Kernel.win0_5.stage (s 5)) (Cert.Kernel.Facts₀.hstage0_5 ((s 5).cast Cert.Kernel.Facts₀.nbuf0_5)) (Cert.Kernel.win0_6.stage (s 6)) (Cert.Kernel.Facts₀.hstage0_6 ((s 6).cast Cert.Kernel.Facts₀.nbuf0_6)) (Cert.Kernel.win0_7.stage (s 7)) (Cert.Kernel.Facts₀.hstage0_7 ((s 7).cast Cert.Kernel.Facts₀.nbuf0_7)) (Cert.Kernel.win0_8.stage (s 8)) (Cert.Kernel.Facts₀.hstage0_8 ((s 8).cast Cert.Kernel.Facts₀.nbuf0_8)) (Cert.Kernel.win0_9.stage (s 9)) (Cert.Kernel.Facts₀.hstage0_9 ((s 9).cast Cert.Kernel.Facts₀.nbuf0_9)) (Cert.Kernel.win0_10.stage (s 10)) (Cert.Kernel.Facts₀.hstage0_10 ((s 10).cast Cert.Kernel.Facts₀.nbuf0_10)) (Cert.Kernel.win0_11.stage (s 11)) (Cert.Kernel.Facts₀.hstage0_11 ((s 11).cast Cert.Kernel.Facts₀.nbuf0_11)) (Cert.Kernel.win0_12.stage (s 12)) (Cert.Kernel.Facts₀.hstage0_12 ((s 12).cast Cert.Kernel.Facts₀.nbuf0_12)) = Cert.KernelIdeal.cc0_conv_gate_bwd (Cert.KernelIdeal.grid0.coords t) (Cert.KernelIdeal.win0_0.stage (s 0)) (Cert.KernelIdeal.Facts₀.hstage0_0 ((s 0).cast Cert.KernelIdeal.Facts₀.nbuf0_0)) (Cert.KernelIdeal.win0_1.stage (s 1)) (Cert.KernelIdeal.Facts₀.hstage0_1 ((s 1).cast Cert.KernelIdeal.Facts₀.nbuf0_1)) (Cert.KernelIdeal.win0_2.stage (s 2)) (Cert.KernelIdeal.Facts₀.hstage0_2 ((s 2).cast Cert.KernelIdeal.Facts₀.nbuf0_2)) (Cert.KernelIdeal.win0_3.stage (s 3)) (Cert.KernelIdeal.Facts₀.hstage0_3 ((s 3).cast Cert.KernelIdeal.Facts₀.nbuf0_3)) (Cert.KernelIdeal.win0_4.stage (s 4)) (Cert.KernelIdeal.Facts₀.hstage0_4 ((s 4).cast Cert.KernelIdeal.Facts₀.nbuf0_4)) (Cert.KernelIdeal.win0_5.stage (s 5)) (Cert.KernelIdeal.Facts₀.hstage0_5 ((s 5).cast Cert.KernelIdeal.Facts₀.nbuf0_5)) (Cert.KernelIdeal.win0_6.stage (s 6)) (Cert.KernelIdeal.Facts₀.hstage0_6 ((s 6).cast Cert.KernelIdeal.Facts₀.nbuf0_6)) (Cert.KernelIdeal.win0_7.stage (s 7)) (Cert.KernelIdeal.Facts₀.hstage0_7 ((s 7).cast Cert.KernelIdeal.Facts₀.nbuf0_7)) (Cert.KernelIdeal.win0_8.stage (s 8)) (Cert.KernelIdeal.Facts₀.hstage0_8 ((s 8).cast Cert.KernelIdeal.Facts₀.nbuf0_8)) (Cert.KernelIdeal.win0_9.stage (s 9)) (Cert.KernelIdeal.Facts₀.hstage0_9 ((s 9).cast Cert.KernelIdeal.Facts₀.nbuf0_9)) (Cert.KernelIdeal.win0_10.stage (s 10)) (Cert.KernelIdeal.Facts₀.hstage0_10 ((s 10).cast Cert.KernelIdeal.Facts₀.nbuf0_10)) (Cert.KernelIdeal.win0_11.stage (s 11)) (Cert.KernelIdeal.Facts₀.hstage0_11 ((s 11).cast Cert.KernelIdeal.Facts₀.nbuf0_11)) (Cert.KernelIdeal.win0_12.stage (s 12)) (Cert.KernelIdeal.Facts₀.hstage0_12 ((s 12).cast Cert.KernelIdeal.Facts₀.nbuf0_12))
  rw [cc0_eq]
  rfl
/-- So the whole label tables agree. -/
theorem defs_eq : Cert.Kernel.defs (F := Bits) = Cert.KernelIdeal.defs (F := Bits) := congrArg (Pipeline.defs Cert.Kernel.pcfgs) defs0_eq
set_option maxHeartbeats 4000000 in
/-- The two texts of the host's function are one. -/
theorem main_eq : Cert.Kernel.main (F := Bits) = Cert.KernelIdeal.main (F := Bits) := by rfl
set_option maxHeartbeats 4000000 in
/-- The convolution's backward call runs, keeps its arguments and leaves every semaphore at zero. -/
theorem frame_Kernel : Cert.quiescent_Kernel := fun m ρ _ => by
  rw [defs_eq, main_eq]
  exact Cert.KernelIdeal.Conv.frame (F := Bits) m ρ

end Cert.Proof

end
-- ==== Proof.ConvPoint.lean ====
/- The row loop of the convolution's gradient, read at an index: row by row over the 2048 rows of a block, with zero past
   the block's end. -/
module

public import proofs.«01_k».proof.Proof.ConvSpec
public import Idealize.ShloMosaic.Lib.Pipeline.ValueKit
public import Idealize.ShloMosaic.Lib.Claim

@[expose] public section

set_option maxRecDepth 16384

noncomputable section

open Idealize.ShloMosaic Idealize.ShloMosaic.TcCoe

namespace Cert.KernelIdeal.Conv

open Cert.KernelIdeal Cert.KernelIdeal.Gen

/-- The gate's gradient and the value's, of one element: `ua` the gate, `uv` the value, `da` the gradient of their gated
    product. -/
def gA (ua uv da : EReal) : EReal := da * uv * (Ideal.logistic ua * (1 + ua * (1 - Ideal.logistic ua)))
def gV (ua da : EReal) : EReal := da * (ua * Ideal.logistic ua)

theorem ix2_eq {n0 n1 : ℕ} (a : Fin n0) (b : Fin n1) : ValueIdx.ix2 a b = ix2 a b := by
  funext i
  match i with
  | ⟨0, _⟩ => rfl
  | ⟨1, _⟩ => rfl

section rows

variable (x4 x5 : Vec Ideal S2048x256 .bf16) (x6 x2 : Vec Ideal S2048x256 .f32)

/-- Row `r` of a block, zero past its end. -/
def HN (r : ℕ) (q : Fin 256) : EReal := if h : r < 2048 then x2 (ix2 ⟨r, h⟩ q) else 0
/-- The gate's gradient at row `r`, zero past the block's end. -/
def DA (r : ℕ) (q : Fin 256) : EReal := if h : r < 2048 then gA (x4 (ix2 ⟨r, h⟩ q)) (x5 (ix2 ⟨r, h⟩ q)) (x6 (ix2 ⟨r, h⟩ q)) else 0
/-- The value's gradient at row `r`, zero past the block's end. -/
def DV (r : ℕ) (q : Fin 256) : EReal := if h : r < 2048 then gV (x4 (ix2 ⟨r, h⟩ q)) (x6 (ix2 ⟨r, h⟩ q)) else 0

theorem rowsOf_at {e : EltTy} (x : Vec Ideal S2048x256 e) (k : ℕ) (p q : Fin 256) (h : 256 * k + p.val < 2048) :
    rowsOf k x (ix2 p q) = x (ix2 ⟨256 * k + p.val, h⟩ q) := by
  show x (ValueIdx.ix2 ⟨(256 * k + p.val) % 2048, _⟩ q) = _
  rw [ix2_eq]
  simp only [Nat.mod_eq_of_lt h]

theorem nextOf_at {e : EltTy} (x : Vec Ideal S2048x256 e) (k : ℕ) (p : Fin 16) (q : Fin 256) (hk : k < 7) (h : 256 * k + 256 + p.val < 2048) :
    nextOf k x (ix2 p q) = x (ix2 ⟨256 * k + 256 + p.val, h⟩ q) := by
  have e : (min (256 * k + 256) 2032 + p.val) % 2048 = 256 * k + 256 + p.val := by
    rw [Nat.min_eq_left (by omega)]; exact Nat.mod_eq_of_lt h
  show x (ValueIdx.ix2 ⟨(min (256 * k + 256) 2032 + p.val) % 2048, _⟩ q) = _
  rw [ix2_eq]
  simp only [e]

theorem HN_at (k : ℕ) (hk : k < 8) (p q : Fin 256) : rowsOf k x2 (ix2 p q) = HN x2 (256 * k + p.val) q := by
  have h : 256 * k + p.val < 2048 := by have := p.isLt; omega
  rw [rowsOf_at _ _ _ _ h]; unfold HN; rw [dif_pos h]

theorem duA_at (k : ℕ) (hk : k < 8) (p q : Fin 256) : duA x4 x5 x6 k (ix2 p q) = DA x4 x5 x6 (256 * k + p.val) q := by
  have h : 256 * k + p.val < 2048 := by have := p.isLt; omega
  have e (a b : Vec Ideal S256x256 .bf16) (c : Vec Ideal S256x256 .f32) :
      k0_pay11 (F := Ideal) a b c (ix2 p q) = gA (a (ix2 p q)) (b (ix2 p q)) (c (ix2 p q)) := by
    pointwise [k0_pay11, k0_pay10, k0_pay9, gA]
  unfold duA DA
  rw [e, rowsOf_at _ _ _ _ h, rowsOf_at _ _ _ _ h, rowsOf_at _ _ _ _ h, dif_pos h]

theorem duV_at (k : ℕ) (hk : k < 8) (p q : Fin 256) : duV x4 x6 k (ix2 p q) = DV x4 x6 (256 * k + p.val) q := by
  have h : 256 * k + p.val < 2048 := by have := p.isLt; omega
  have e (a : Vec Ideal S256x256 .bf16) (c : Vec Ideal S256x256 .f32) :
      k0_pay12 (F := Ideal) a c (ix2 p q) = gV (a (ix2 p q)) (c (ix2 p q)) := by
    pointwise [k0_pay12, k0_pay10, k0_pay9, gV]
  unfold duV DV
  rw [e, rowsOf_at _ _ _ _ h, rowsOf_at _ _ _ _ h, dif_pos h]

theorem select_zero {α : Type} (a b : α) : Scalar.select 0#1 a b = b := rfl
theorem select_one {α : Type} (a b : α) : Scalar.select 1#1 a b = a := rfl

theorem nxA_at (k : ℕ) (hk : k < 8) (p : Fin 16) (q : Fin 256) :
    Scalar.select (lastOf k) 0 (nxA x5 x6 k (ix2 p q) * nxB x4 k (ix2 p q)) = DA x4 x5 x6 (256 * k + 256 + p.val) q := by
  by_cases h7 : k = 7
  · unfold lastOf DA; rw [if_pos h7, select_one, dif_neg (by omega)]
  · have h : 256 * k + 256 + p.val < 2048 := by have := p.isLt; omega
    have e (a b : Vec Ideal S16x256 .bf16) (c : Vec Ideal S16x256 .f32) :
        k0_pay15 (F := Ideal) b c (ix2 p q) * k0_pay16 (F := Ideal) a (ix2 p q) = gA (a (ix2 p q)) (b (ix2 p q)) (c (ix2 p q)) := by
      pointwise [k0_pay15, k0_pay16, k0_pay13, k0_pay14, gA]
    unfold lastOf nxA nxB DA
    rw [if_neg h7, select_zero, e, nextOf_at _ _ _ _ (by omega) h, nextOf_at _ _ _ _ (by omega) h, nextOf_at _ _ _ _ (by omega) h, dif_pos h]

theorem nxV_at (k : ℕ) (hk : k < 8) (p : Fin 8) (q : Fin 256) : nxV x4 x6 k (ix2 p q) = DV x4 x6 (256 * k + 256 + p.val) q := by
  have h16 : p.val < 16 := by have := p.isLt; omega
  have e (l : BitVec 1) (a : Vec Ideal S16x256 .bf16) (c : Vec Ideal S16x256 .f32) :
      k0_pay18 (F := Ideal) l (k0_pay13 a) c (k0_pay14 a) (ix2 p q) = Scalar.select l 0 (gV (a (ix2 ⟨p.val, h16⟩ q)) (c (ix2 ⟨p.val, h16⟩ q))) := by
    pointwise [k0_pay18, k0_pay13, k0_pay14, gV]
  unfold nxV
  rw [e]
  by_cases h7 : k = 7
  · unfold lastOf DV; rw [if_pos h7, select_one, dif_neg (by omega)]
  · have h : 256 * k + 256 + p.val < 2048 := by have := p.isLt; omega
    unfold lastOf DV
    rw [if_neg h7, select_zero, nextOf_at _ _ _ _ (by omega) h, nextOf_at _ _ _ _ (by omega) h, dif_pos h]

/-- The gate's gradient one row and two rows on. -/
theorem upA1_at (k : ℕ) (hk : k < 8) (p q : Fin 256) :
    k0_pay19 (F := Ideal) (lastOf k) (duA x4 x5 x6 k) (nxA x5 x6 k) (nxB x4 k) (ix2 p q) = DA x4 x5 x6 (256 * k + (p.val + 1)) q := by
  pointwise [k0_pay19, k0_pay17]
  have hp := p.isLt
  split
  · rename_i h
    exact (duA_at x4 x5 x6 k hk _ q).trans (congrArg (DA x4 x5 x6 · q) (by show 256 * k + (p.val + 264 - 263) % 264 = _; omega))
  · rename_i h
    exact (nxA_at x4 x5 x6 k hk _ q).trans (congrArg (DA x4 x5 x6 · q) (by show 256 * k + 256 + ((p.val + 264 - 263) % 264 - 256) = _; omega))

theorem upA2_at (k : ℕ) (hk : k < 8) (p q : Fin 256) :
    k0_pay20 (F := Ideal) (lastOf k) (duA x4 x5 x6 k) (nxA x5 x6 k) (nxB x4 k) (ix2 p q) = DA x4 x5 x6 (256 * k + (p.val + 2)) q := by
  pointwise [k0_pay20, k0_pay17]
  have hp := p.isLt
  split
  · rename_i h
    exact (duA_at x4 x5 x6 k hk _ q).trans (congrArg (DA x4 x5 x6 · q) (by show 256 * k + (p.val + 264 - 262) % 264 = _; omega))
  · rename_i h
    exact (nxA_at x4 x5 x6 k hk _ q).trans (congrArg (DA x4 x5 x6 · q) (by show 256 * k + 256 + ((p.val + 264 - 262) % 264 - 256) = _; omega))

/-- The value's gradient one row and two rows on. -/
theorem upV1_at (k : ℕ) (hk : k < 8) (p q : Fin 256) :
    k0_pay26 (F := Ideal) (duV x4 x6 k) (nxV x4 x6 k) (ix2 p q) = DV x4 x6 (256 * k + (p.val + 1)) q := by
  pointwise [k0_pay26]
  have hp := p.isLt
  split
  · rename_i h
    exact (duV_at x4 x6 k hk _ q).trans (congrArg (DV x4 x6 · q) (by show 256 * k + (p.val + 264 - 263) % 264 = _; omega))
  · rename_i h
    exact (nxV_at x4 x6 k hk _ q).trans (congrArg (DV x4 x6 · q) (by show 256 * k + 256 + ((p.val + 264 - 263) % 264 - 256) = _; omega))

theorem upV2_at (k : ℕ) (hk : k < 8) (p q : Fin 256) :
    k0_pay27 (F := Ideal) (duV x4 x6 k) (nxV x4 x6 k) (ix2 p q) = DV x4 x6 (256 * k + (p.val + 2)) q := by
  pointwise [k0_pay27]
  have hp := p.isLt
  split
  · rename_i h
    exact (duV_at x4 x6 k hk _ q).trans (congrArg (DV x4 x6 · q) (by show 256 * k + (p.val + 264 - 262) % 264 = _; omega))
  · rename_i h
    exact (nxV_at x4 x6 k hk _ q).trans (congrArg (DV x4 x6 · q) (by show 256 * k + 256 + ((p.val + 264 - 262) % 264 - 256) = _; omega))

variable (w : Vec Ideal S3x256 .f32)

theorem dhA_at (k : ℕ) (hk : k < 8) (p q : Fin 256) :
    dhA w x4 x5 x6 k (ix2 p q) = w (ix2 2 q) * DA x4 x5 x6 (256 * k + p.val) q + w (ix2 1 q) * DA x4 x5 x6 (256 * k + (p.val + 1)) q
      + w (ix2 0 q) * DA x4 x5 x6 (256 * k + (p.val + 2)) q := by
  unfold dhA
  rw [← duA_at x4 x5 x6 k hk p q, ← upA1_at x4 x5 x6 k hk p q, ← upA2_at x4 x5 x6 k hk p q]
  generalize duA x4 x5 x6 k = d
  generalize nxA x5 x6 k = c
  generalize nxB x4 k = c'
  pointwise [k0_pay21, k0_pay20, k0_pay19]

theorem dhV_at (k : ℕ) (hk : k < 8) (p q : Fin 256) :
    dhV w x4 x6 k (ix2 p q) = w (ix2 2 q) * DV x4 x6 (256 * k + p.val) q + w (ix2 1 q) * DV x4 x6 (256 * k + (p.val + 1)) q
      + w (ix2 0 q) * DV x4 x6 (256 * k + (p.val + 2)) q := by
  unfold dhV
  rw [← duV_at x4 x6 k hk p q, ← upV1_at x4 x6 k hk p q, ← upV2_at x4 x6 k hk p q]
  generalize duV x4 x6 k = d
  generalize nxV x4 x6 k = c
  pointwise [k0_pay28, k0_pay27, k0_pay26]

theorem allRows_at {e : EltTy} (f : ℕ → Vec Ideal S256x256 e) (r : Fin 2048) (q : Fin 256) :
    allRows f (ix2 r q) = f (r.val / 256) (ix2 ⟨r.val % 256, Nat.mod_lt _ (by decide)⟩ q) := by
  exact congrArg (f (r.val / 256)) (ix2_eq ⟨r.val % 256, Nat.mod_lt _ (by decide)⟩ q)

/-- The gradient at the convolution's input, row by row. -/
theorem allA_at (r : Fin 2048) (q : Fin 256) :
    allRows (dhA w x4 x5 x6) (ix2 r q) = w (ix2 2 q) * DA x4 x5 x6 r.val q + w (ix2 1 q) * DA x4 x5 x6 (r.val + 1) q + w (ix2 0 q) * DA x4 x5 x6 (r.val + 2) q := by
  have hr := r.isLt
  rw [allRows_at, dhA_at x4 x5 x6 w _ (by omega)]
  have e0 : 256 * (r.val / 256) + r.val % 256 = r.val := by omega
  have e1 : 256 * (r.val / 256) + (r.val % 256 + 1) = r.val + 1 := by omega
  have e2 : 256 * (r.val / 256) + (r.val % 256 + 2) = r.val + 2 := by omega
  simp only [e0, e1, e2]

theorem allV_at (r : Fin 2048) (q : Fin 256) :
    allRows (dhV w x4 x6) (ix2 r q) = w (ix2 2 q) * DV x4 x6 r.val q + w (ix2 1 q) * DV x4 x6 (r.val + 1) q + w (ix2 0 q) * DV x4 x6 (r.val + 2) q := by
  have hr := r.isLt
  rw [allRows_at, dhV_at x4 x6 w _ (by omega)]
  have e0 : 256 * (r.val / 256) + r.val % 256 = r.val := by omega
  have e1 : 256 * (r.val / 256) + (r.val % 256 + 1) = r.val + 1 := by omega
  have e2 : 256 * (r.val / 256) + (r.val % 256 + 2) = r.val + 2 := by omega
  simp only [e0, e1, e2]

end rows

end Cert.KernelIdeal.Conv

end
-- ==== Proof.ConvSum.lean ====
/- What the row loop leaves of the taps' and the biases' gradients, as plain sums over the rows of a block, and what the
   four sequences of one column block leave. -/
module

public import proofs.«01_k».proof.Proof.ConvPoint
public import proofs.«01_k».proof.Proof.ConvFrame
public import Idealize.ShloMosaic.Lib.Pipeline.ValueKit
public import Idealize.ShloMosaic.Lib.Claim

@[expose] public section

set_option maxRecDepth 16384

noncomputable section

open Idealize.ShloMosaic Idealize.ShloMosaic.TcCoe

namespace Cert.KernelIdeal.Conv

open Cert.KernelIdeal Cert.KernelIdeal.Gen

/-- Eight trips that each add their 256 rows add the 2048 rows. -/
theorem trips_sum {ι : Type} (f : ℕ → (ι → EReal) → ι → EReal) (g : ℕ → EReal) (z : ι)
    (hf : ∀ k < 8, ∀ y, f k y z = y z + ∑ p : Fin 256, g (256 * k + p.val)) (y : ι → EReal) :
    trips f 8 y z = y z + ∑ r : Fin 2048, g r.val := by
  have h : ∀ k ≤ 8, trips f k y z = y z + ∑ r ∈ Finset.range (256 * k), g r := by
    intro k
    induction k with
    | zero => intro _; show y z = _; simp
    | succ k ih =>
      intro hk
      show f k (trips f k y) z = _
      rw [hf k (by omega), ih (by omega), Nat.mul_succ, Finset.sum_range_add, add_assoc, Finset.sum_range (fun x => g (256 * k + x))]
  rw [h 8 le_rfl, Finset.sum_range]

/-- Four points that each add their rows, the first from nothing. -/
theorem sumAt_four {ι : Type} (z0 : ι → EReal) (f : Fin cfg0.N → ℕ → (ι → EReal) → ι → EReal) (g : Fin cfg0.N → ℕ → EReal) (z : ι) (hz : z0 z = 0)
    (hf : ∀ t, ∀ k < 8, ∀ y, f t k y z = y z + ∑ p : Fin 256, g t (256 * k + p.val)) (t : Fin cfg0.N) (ht : t.val % 4 = 3) :
    sumAt z0 f t.val t.isLt z = ∑ b : Fin 4, ∑ r : Fin 2048, g ⟨4 * (t.val / 4) + b.val, by have := b.isLt; have := t.isLt; omega⟩ r.val := by
  have hlt := t.isLt
  have key (n : ℕ) (hn : n < cfg0.N) (h0 : n % 4 = 0) : sumAt z0 f n hn z = ∑ r : Fin 2048, g ⟨n, hn⟩ r.val := by
    rw [sumAt_first z0 f ⟨n, hn⟩ h0, trips_sum _ _ _ (hf ⟨n, hn⟩), hz, zero_add]
  have step (n : ℕ) (hn : n + 1 < cfg0.N) (h0 : ¬(n + 1) % 4 = 0) :
      sumAt z0 f (n + 1) hn z = sumAt z0 f n (Nat.lt_of_succ_lt hn) z + ∑ r : Fin 2048, g ⟨n + 1, hn⟩ r.val := by
    rw [sumAt_later z0 f ⟨n + 1, hn⟩ h0, trips_sum _ _ _ (hf ⟨n + 1, hn⟩)]; rfl
  obtain ⟨n, hn⟩ := t
  obtain ⟨j, rfl⟩ : ∃ j, n = 4 * j + 3 := ⟨n / 4, by dsimp only at ht; omega⟩
  have e : (4 * j + 3) / 4 = j := by omega
  simp only [e]
  rw [step (4 * j + 2) hn (by omega), step (4 * j + 1) (by omega) (by omega), step (4 * j) (by omega) (by omega), key (4 * j) (by omega) (by omega),
    Fin.sum_univ_four]
  rfl

section rows

variable (x4 x5 : Vec Ideal S2048x256 .bf16) (x6 x2 : Vec Ideal S2048x256 .f32)

theorem rows3_0 (a b c : Vec Ideal S1x256 .f32) (q : Fin 256) : rows3 a b c (ix2 0 q) = a (ix2 0 q) := by
  show (if (0 : ℕ) = 0 then a (ValueIdx.ix2 0 q) else _) = _
  rw [if_pos rfl, ix2_eq]
theorem rows3_1 (a b c : Vec Ideal S1x256 .f32) (q : Fin 256) : rows3 a b c (ix2 1 q) = b (ix2 0 q) := by
  show (if (1 : ℕ) = 0 then _ else if (1 : ℕ) = 1 then b (ValueIdx.ix2 0 q) else _) = _
  rw [if_neg (by decide), if_pos rfl, ix2_eq]
theorem rows3_2 (a b c : Vec Ideal S1x256 .f32) (q : Fin 256) : rows3 a b c (ix2 2 q) = c (ix2 0 q) := by
  show (if (2 : ℕ) = 0 then _ else if (2 : ℕ) = 1 then _ else c (ValueIdx.ix2 0 q)) = _
  rw [if_neg (by decide), if_neg (by decide), ix2_eq]
theorem rowOf_at (i : Fin 3) (y : Vec Ideal S3x256 .f32) (q : Fin 256) : rowOf i y (ix2 0 q) = y (ix2 i q) :=
  congrArg y (ix2_eq i q)

theorem dwA_at (k : ℕ) (hk : k < 8) (y : Vec Ideal S3x256 .f32) (i : Fin 3) (q : Fin 256) :
    dwA x2 x4 x5 x6 k y (ix2 i q) = y (ix2 i q) + ∑ p : Fin 256, DA x4 x5 x6 (256 * k + p.val + (2 - i.val)) q * HN x2 (256 * k + p.val) q := by
  unfold dwA
  fin_cases i
  · refine (rows3_0 _ _ _ q).trans ?_
    have e (l : BitVec 1) (d h : FVec Ideal S256x256 .f32) (c c' : FVec Ideal S16x256 .f32) (y : Vec Ideal S1x256 .f32) :
        k0_pay22 (F := Ideal) l d c c' h y (ix2 0 q) = y (ix2 0 q) + ∑ p : Fin 256, k0_pay20 l d c c' (ix2 p q) * h (ix2 p q) := by
      pointwise [k0_pay22]
    rw [e, rowOf_at]
    exact congrArg _ (Finset.sum_congr rfl fun p _ => congrArg₂ _ (upA2_at x4 x5 x6 k hk p q) (HN_at x2 k hk p q))
  · refine (rows3_1 _ _ _ q).trans ?_
    have e (l : BitVec 1) (d h : FVec Ideal S256x256 .f32) (c c' : FVec Ideal S16x256 .f32) (y : Vec Ideal S1x256 .f32) :
        k0_pay23 (F := Ideal) l d c c' h y (ix2 0 q) = y (ix2 0 q) + ∑ p : Fin 256, k0_pay19 l d c c' (ix2 p q) * h (ix2 p q) := by
      pointwise [k0_pay23]
    rw [e, rowOf_at]
    exact congrArg _ (Finset.sum_congr rfl fun p _ => congrArg₂ _ (upA1_at x4 x5 x6 k hk p q) (HN_at x2 k hk p q))
  · refine (rows3_2 _ _ _ q).trans ?_
    have e (d h : FVec Ideal S256x256 .f32) (y : Vec Ideal S1x256 .f32) :
        k0_pay24 (F := Ideal) d h y (ix2 0 q) = y (ix2 0 q) + ∑ p : Fin 256, d (ix2 p q) * h (ix2 p q) := by
      pointwise [k0_pay24]
    rw [e, rowOf_at]
    exact congrArg _ (Finset.sum_congr rfl fun p _ => congrArg₂ _ (duA_at x4 x5 x6 k hk p q) (HN_at x2 k hk p q))

theorem dwV_at (k : ℕ) (hk : k < 8) (y : Vec Ideal S3x256 .f32) (i : Fin 3) (q : Fin 256) :
    dwV x2 x4 x6 k y (ix2 i q) = y (ix2 i q) + ∑ p : Fin 256, DV x4 x6 (256 * k + p.val + (2 - i.val)) q * HN x2 (256 * k + p.val) q := by
  unfold dwV
  fin_cases i
  · refine (rows3_0 _ _ _ q).trans ?_
    have e (d h : FVec Ideal S256x256 .f32) (y : Vec Ideal S1x256 .f32) :
        k0_pay5 (F := Ideal) d h (k0_pay29 y) (ix2 0 q) = y (ix2 0 q) + ∑ p : Fin 256, d (ix2 p q) * h (ix2 p q) := by
      pointwise [k0_pay5, k0_pay29]
    rw [e, rowOf_at]
    exact congrArg _ (Finset.sum_congr rfl fun p _ => congrArg₂ _ (upV2_at x4 x6 k hk p q) (HN_at x2 k hk p q))
  · refine (rows3_1 _ _ _ q).trans ?_
    have e (d h : FVec Ideal S256x256 .f32) (y : Vec Ideal S1x256 .f32) :
        k0_pay6 (F := Ideal) d h y (ix2 0 q) = y (ix2 0 q) + ∑ p : Fin 256, d (ix2 p q) * h (ix2 p q) := by
      pointwise [k0_pay6]
    rw [e, rowOf_at]
    exact congrArg _ (Finset.sum_congr rfl fun p _ => congrArg₂ _ (upV1_at x4 x6 k hk p q) (HN_at x2 k hk p q))
  · refine (rows3_2 _ _ _ q).trans ?_
    have e (d h : FVec Ideal S256x256 .f32) (y : Vec Ideal S1x256 .f32) :
        k0_pay7 (F := Ideal) d h y (ix2 0 q) = y (ix2 0 q) + ∑ p : Fin 256, d (ix2 p q) * h (ix2 p q) := by
      pointwise [k0_pay7]
    rw [e, rowOf_at]
    exact congrArg _ (Finset.sum_congr rfl fun p _ => congrArg₂ _ (duV_at x4 x6 k hk p q) (HN_at x2 k hk p q))

theorem dbA_at (k : ℕ) (hk : k < 8) (y : Vec Ideal S1x256 .f32) (q : Fin 256) :
    dbA x4 x5 x6 k y (ix2 0 q) = y (ix2 0 q) + ∑ p : Fin 256, DA x4 x5 x6 (256 * k + p.val) q := by
  have e (d : FVec Ideal S256x256 .f32) (y : Vec Ideal S1x256 .f32) :
      k0_pay25 (F := Ideal) d y (ix2 0 q) = y (ix2 0 q) + ∑ p : Fin 256, d (ix2 p q) := by
    pointwise [k0_pay25]
  unfold dbA
  rw [e]
  exact congrArg _ (Finset.sum_congr rfl fun p _ => duA_at x4 x5 x6 k hk p q)

theorem dbV_at (k : ℕ) (hk : k < 8) (y : Vec Ideal S1x256 .f32) (q : Fin 256) :
    dbV x4 x6 k y (ix2 0 q) = y (ix2 0 q) + ∑ p : Fin 256, DV x4 x6 (256 * k + p.val) q := by
  have e (d : FVec Ideal S256x256 .f32) (y : Vec Ideal S1x256 .f32) :
      k0_pay8 (F := Ideal) d y (ix2 0 q) = y (ix2 0 q) + ∑ p : Fin 256, d (ix2 p q) := by
    pointwise [k0_pay8]
  unfold dbV
  rw [e]
  exact congrArg _ (Finset.sum_congr rfl fun p _ => duV_at x4 x6 k hk p q)

end rows

end Cert.KernelIdeal.Conv

end
-- ==== Proof.ConvRef.lean ====
/- The reference of the convolution's gradient, read at an index: the convolution itself, the gradient at its output,
   and from that the six results. -/
module

public import proofs.«01_k».proof.Proof.Gen.ReferenceIdeal.Run
public import proofs.«01_k».proof.Proof.Gen.ReferenceIdeal.Read
public import Idealize.ShloMosaic.Lib.Pipeline.ValueKit
public import Idealize.ShloMosaic.Lib.Claim

@[expose] public section

set_option maxRecDepth 16384

noncomputable section

open Idealize.ShloMosaic Idealize.ShloMosaic.TcCoe

namespace Cert.ReferenceIdeal.Conv

open Cert.ReferenceIdeal Cert.ReferenceIdeal.Gen Cert.ReferenceIdeal.Read

variable (x0 : FVec Ideal S8192x5632 .f32) (x1 : FVec Ideal S3x5632 .f32) (x2 : FVec Ideal S1x5632 .f32) (x3 : FVec Ideal S8192x2816 .f32)

/-- Row `r` of sequence `b` of the convolution's input, zero past the end, and the same rows two further down. -/
def hn (b : Fin 4) (r : ℕ) (q : Fin 5632) : EReal :=
  if h : r < 2048 then x0 (ix2 ⟨b.val * 2048 + r, by have := b.isLt; omega⟩ q) else 0
def hp (b : Fin 4) (s : ℕ) (q : Fin 5632) : EReal := if 2 ≤ s then hn x0 b (s - 2) q else 0

/-- The convolution's output. -/
def U (b : Fin 4) (s : ℕ) (q : Fin 5632) : EReal :=
  x2 (ix2 0 q) + x1 (ix2 0 q) * hp x0 b s q + x1 (ix2 1 q) * hp x0 b (1 + s) q + x1 (ix2 2 q) * hp x0 b (2 + s) q

/-- The gradient at the convolution's output, of one element. -/
def rA (ua uv da : EReal) : EReal := da * uv * Ideal.logistic ua + ua * (da * uv) * (Ideal.logistic ua * (1 - Ideal.logistic ua))
def rV (ua da : EReal) : EReal := ua * Ideal.logistic ua * da

/-- The gradient at the convolution's output, zero past the end of a sequence. -/
def DU (b : Fin 4) (s : ℕ) (q : Fin 5632) : EReal := if h : s < 2048 then val_main_v36 (F := Ideal) x0 x1 x2 x3 (ix3 b ⟨s, h⟩ q) else 0

theorem hp_ge (b : Fin 4) (s : ℕ) (q : Fin 5632) (h : 2 ≤ s) (h' : s - 2 < 2048) :
    hp x0 b s q = x0 (ix2 ⟨b.val * 2048 + (s - 2), by have := b.isLt; omega⟩ q) := by
  unfold hp hn; rw [if_pos h, dif_pos h']

theorem hp_lt (b : Fin 4) (s : ℕ) (q : Fin 5632) (h : s < 2) : hp x0 b s q = 0 := if_neg (by omega)

theorem v3_at (b : Fin 4) (s : Fin 2050) (q : Fin 5632) : val_main_v3 (F := Ideal) x0 (ix3 b s q) = hp x0 b s.val q := by
  have hs := s.isLt
  pointwise [val_main_v3, val_main_v0, val_main_v2, val_main_cst]
  by_cases h : s.val < 2
  · rw [dif_pos h, hp_lt _ _ _ _ h]
  · rw [dif_neg h]
    exact (hp_ge x0 b s.val q (by omega) (by omega)).symm

theorem u_at (b : Fin 4) (s : Fin 2048) (q : Fin 5632) : val_main_v27 (F := Ideal) x0 x1 x2 (ix3 b s q) = U x0 x1 x2 b s.val q := by
  pointwise [val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v1]
  rw [v3_at, v3_at, v3_at]
  rfl

theorem duA_at (b : Fin 4) (s : Fin 2048) (q : Fin 2816) : val_main_v35 (F := Ideal) x0 x1 x2 x3 (ix3 b s q) =
    rA (U x0 x1 x2 b s.val ⟨q.val, by have := q.isLt; omega⟩) (U x0 x1 x2 b s.val ⟨2816 + q.val, by have := q.isLt; omega⟩)
      (x3 (ix2 ⟨b.val * 2048 + s.val, by have := b.isLt; have := s.isLt; omega⟩ q)) := by
  pointwise [val_main_v35, val_main_v34, val_main_v32, val_main_v29, val_main_v28, val_main_call1_v0, val_main_call1_v1, val_main_call1_v2, val_main_v30_1, val_main_v30_2, val_main_call0_v0, val_main_call0_v1, val_main_call0_v2, val_main_call0_v3, val_main_call0_v4, val_main_call0_v6, val_main_call0_v7, val_main_call0_cst, val_main_call0_cst_0, val_main_call0_cst_1]
  rw [u_at, u_at]
  rfl

theorem duV_at (b : Fin 4) (s : Fin 2048) (q : Fin 2816) : val_main_v33 (F := Ideal) x0 x1 x2 x3 (ix3 b s q) =
    rV (U x0 x1 x2 b s.val ⟨q.val, by have := q.isLt; omega⟩) (x3 (ix2 ⟨b.val * 2048 + s.val, by have := b.isLt; have := s.isLt; omega⟩ q)) := by
  pointwise [val_main_v33, val_main_v32, val_main_v28, val_main_v30_0, val_main_v30_2, val_main_call0_v0, val_main_call0_v1, val_main_call0_v2, val_main_call0_v3, val_main_call0_v4, val_main_call0_v6, val_main_call0_v7, val_main_call0_cst, val_main_call0_cst_0, val_main_call0_cst_1]
  rw [u_at]
  rfl

/-- The two halves of the gradient at the convolution's output. -/
theorem DU_A (b : Fin 4) (s : ℕ) (hs : s < 2048) (q : Fin 2816) : DU x0 x1 x2 x3 b s ⟨q.val, by have := q.isLt; omega⟩ =
    rA (U x0 x1 x2 b s ⟨q.val, by have := q.isLt; omega⟩) (U x0 x1 x2 b s ⟨2816 + q.val, by have := q.isLt; omega⟩)
      (x3 (ix2 ⟨b.val * 2048 + s, by have := b.isLt; omega⟩ q)) := by
  have hq := q.isLt
  unfold DU
  rw [dif_pos hs, ← duA_at x0 x1 x2 x3 b ⟨s, hs⟩ q]
  pointwise [val_main_v36]

theorem DU_V (b : Fin 4) (s : ℕ) (hs : s < 2048) (q : Fin 2816) : DU x0 x1 x2 x3 b s ⟨2816 + q.val, by have := q.isLt; omega⟩ =
    rV (U x0 x1 x2 b s ⟨q.val, by have := q.isLt; omega⟩) (x3 (ix2 ⟨b.val * 2048 + s, by have := b.isLt; omega⟩ q)) := by
  have hq := q.isLt
  unfold DU
  rw [dif_pos hs, ← duV_at x0 x1 x2 x3 b ⟨s, hs⟩ q]
  pointwise [val_main_v36]

/-- A product masked on one side is the product with the factor masked. -/
theorem mul_dite {P Q : Prop} [Decidable P] [Decidable Q] (a : EReal) (f : P → EReal) (g : Q → EReal) (hPQ : P ↔ Q) (hfg : ∀ h h', f h = g h') :
    (if h : P then a * f h else 0) = a * (if h : Q then g h else 0) := by
  by_cases h : P
  · rw [dif_pos h, dif_pos (hPQ.mp h), hfg h (hPQ.mp h)]
  · rw [dif_neg h, dif_neg (fun h' => h (hPQ.mpr h')), mul_zero]

/-- The gradient at the convolution's input. -/
theorem dh_at (p : Fin 8192) (q : Fin 5632) : val_main_v74 (F := Ideal) x0 x1 x2 x3 (ix2 p q) =
    x1 (ix2 2 q) * DU x0 x1 x2 x3 ⟨p.val / 2048, by have := p.isLt; omega⟩ (p.val % 2048) q
      + x1 (ix2 1 q) * DU x0 x1 x2 x3 ⟨p.val / 2048, by have := p.isLt; omega⟩ (p.val % 2048 + 1) q
      + x1 (ix2 0 q) * DU x0 x1 x2 x3 ⟨p.val / 2048, by have := p.isLt; omega⟩ (p.val % 2048 + 2) q := by
  have hp := p.isLt
  pointwise [val_main_v74, val_main_v73, val_main_v72, val_main_v67, val_main_v66, val_main_v53, val_main_v52, val_main_v43, val_main_v61, val_main_v47, val_main_v38, val_main_v60, val_main_v46, val_main_v37, val_main_v24, val_main_v17, val_main_v8, val_main_cst_13, val_main_cst_3, val_main_cst_7, val_main_v6, val_main_v15, val_main_v5, val_main_v14, val_main_v22, val_main_v21]
  unfold DU
  refine congrArg₂ (· + ·) (congrArg₂ (· + ·) (mul_dite _ _ _ ?_ ?_) (mul_dite _ _ _ ?_ ?_)) (mul_dite _ _ _ ?_ ?_)
  · omega
  · intros; rfl
  · omega
  · intro h h'; exact congrArg (fun s : Fin 2048 => val_main_v36 (F := Ideal) x0 x1 x2 x3 (ix3 ⟨p.val / 2048, h.1⟩ s q)) (Fin.ext (by show 2 + p.val % 2048 - 1 = p.val % 2048 + 1; omega) : (⟨2 + p.val % 2048 - 1, h.2.2⟩ : Fin 2048) = ⟨p.val % 2048 + 1, h'⟩)
  · omega
  · intro h h'; exact congrArg (fun s : Fin 2048 => val_main_v36 (F := Ideal) x0 x1 x2 x3 (ix3 ⟨p.val / 2048, h.1⟩ s q)) (Fin.ext (by show 2 + p.val % 2048 = p.val % 2048 + 2; omega) : (⟨2 + p.val % 2048, h.2⟩ : Fin 2048) = ⟨p.val % 2048 + 2, h'⟩)

/-- The host's sum over the first two axes of three. -/
theorem reduce01 {n0 n1 n2 : ℕ} (h : (⟨3, ![n0, n1, n2]⟩ : Shape).ReducesTo [0, 1] ⟨1, ![n2]⟩) (v : (⟨3, ![n0, n1, n2]⟩ : Shape).Idx → EReal) (init : EReal)
    (q : Fin n2) : Ideal.hostReduceAdd h v init (ix1 q) = init + ∑ a : Fin n0, ∑ b : Fin n1, v (ix3 a b q) := by
  have hd (a : Fin n0) (b : Fin n1) (c : Fin n2) : h.drop (ix3 a b c) = ix1 q ↔ c = q := by
    constructor
    · intro e; exact congrFun e 0
    · rintro rfl; funext i; match i with | ⟨0, _⟩ => rfl
  unfold Ideal.hostReduceAdd
  rw [Finset.sum_filter, sum_idx3]
  congr 1
  refine Finset.sum_congr rfl fun a _ => Finset.sum_congr rfl fun b _ => ?_
  simp only [hd]
  rw [Finset.sum_ite_eq' Finset.univ q]
  simp

theorem sum01 (v : FVec Ideal S4x2048x5632 .f32) (w : FVec Ideal S_ .f32) (hw : w (Shape.Idx.first h_S_) = 0) (q : Fin 5632) :
    Host.reduceAdd (F := Ideal) v w reducesTo_S4x2048x5632_S5632_d0_1 h_S_ (ix1 q) = ∑ b : Fin 4, ∑ s : Fin 2048, v (ix3 b s q) := by
  rw [Host.reduceAdd_apply]
  show Ideal.hostReduceAdd _ v _ (ix1 q) = _
  rw [reduce01, hw, zero_add]

theorem sum11 (v : FVec Ideal S1x1x5632 .f32) (w : FVec Ideal S_ .f32) (hw : w (Shape.Idx.first h_S_) = 0) (q : Fin 5632) :
    Host.reduceAdd (F := Ideal) v w reducesTo_S1x1x5632_S5632_d0_1 h_S_ (ix1 q) = v (ix3 0 0 q) := by
  rw [Host.reduceAdd_apply]
  show Ideal.hostReduceAdd _ v _ (ix1 q) = _
  rw [reduce01, hw, zero_add, Fin.sum_univ_one, Fin.sum_univ_one]

theorem dw_at (i : Fin 3) (q : Fin 5632) : val_main_v70 (F := Ideal) x0 x1 x2 x3 (ix2 i q) =
    if i.val = 0 then val_main_v65 (F := Ideal) x0 x1 x2 x3 (ix1 q) else if i.val = 1 then val_main_v51 (F := Ideal) x0 x1 x2 x3 (ix1 q) else val_main_v42 (F := Ideal) x0 x1 x2 x3 (ix1 q) := by
  pointwise [val_main_v70, val_main_v69, val_main_v68, val_main_v56, val_main_v55, val_main_v54, val_main_v45, val_main_v44, val_main_cst_14, val_main_cst_8, val_main_cst_4]
  fin_cases i <;> simp

theorem v65_at (q : Fin 5632) : val_main_v65 (F := Ideal) x0 x1 x2 x3 (ix1 q) = ∑ b : Fin 4, ∑ s : Fin 2048, DU x0 x1 x2 x3 b s.val q * hp x0 b s.val q := by
  have c1 : val_main_cst_12 (F := Ideal) (Shape.Idx.first h_S_) = 0 := by pointwise [val_main_cst_12]
  have c2 : val_main_cst_11 (F := Ideal) (Shape.Idx.first h_S_) = 0 := by pointwise [val_main_cst_11]
  have e : val_main_v64 (F := Ideal) x0 x1 x2 x3 (ix3 0 0 q) = val_main_v63 (F := Ideal) x0 x1 x2 x3 (ix1 q) := by pointwise [val_main_v64]
  unfold val_main_v65
  rw [sum11 _ _ c1, e]
  unfold val_main_v63
  rw [sum01 _ _ c2]
  refine Finset.sum_congr rfl fun b _ => Finset.sum_congr rfl fun s _ => ?_
  unfold DU
  rw [dif_pos s.isLt]
  pointwise [val_main_v62, val_main_v7]
  exact congrArg _ (v3_at x0 b _ q)

theorem v51_at (q : Fin 5632) : val_main_v51 (F := Ideal) x0 x1 x2 x3 (ix1 q) = ∑ b : Fin 4, ∑ s : Fin 2048, DU x0 x1 x2 x3 b s.val q * hp x0 b (1 + s.val) q := by
  have c1 : val_main_cst_6 (F := Ideal) (Shape.Idx.first h_S_) = 0 := by pointwise [val_main_cst_6]
  have c2 : val_main_cst_5 (F := Ideal) (Shape.Idx.first h_S_) = 0 := by pointwise [val_main_cst_5]
  have e : val_main_v50 (F := Ideal) x0 x1 x2 x3 (ix3 0 0 q) = val_main_v49 (F := Ideal) x0 x1 x2 x3 (ix1 q) := by pointwise [val_main_v50]
  unfold val_main_v51
  rw [sum11 _ _ c1, e]
  unfold val_main_v49
  rw [sum01 _ _ c2]
  refine Finset.sum_congr rfl fun b _ => Finset.sum_congr rfl fun s _ => ?_
  unfold DU
  rw [dif_pos s.isLt]
  pointwise [val_main_v48, val_main_v16]
  exact congrArg _ (v3_at x0 b _ q)

theorem v42_at (q : Fin 5632) : val_main_v42 (F := Ideal) x0 x1 x2 x3 (ix1 q) = ∑ b : Fin 4, ∑ s : Fin 2048, DU x0 x1 x2 x3 b s.val q * hp x0 b (2 + s.val) q := by
  have c1 : val_main_cst_2 (F := Ideal) (Shape.Idx.first h_S_) = 0 := by pointwise [val_main_cst_2]
  have c2 : val_main_cst_1 (F := Ideal) (Shape.Idx.first h_S_) = 0 := by pointwise [val_main_cst_1]
  have e : val_main_v41 (F := Ideal) x0 x1 x2 x3 (ix3 0 0 q) = val_main_v40 (F := Ideal) x0 x1 x2 x3 (ix1 q) := by pointwise [val_main_v41]
  unfold val_main_v42
  rw [sum11 _ _ c1, e]
  unfold val_main_v40
  rw [sum01 _ _ c2]
  refine Finset.sum_congr rfl fun b _ => Finset.sum_congr rfl fun s _ => ?_
  unfold DU
  rw [dif_pos s.isLt]
  pointwise [val_main_v39, val_main_v23]
  exact congrArg _ (v3_at x0 b _ q)

theorem v59_at (q : Fin 5632) : val_main_v59 (F := Ideal) x0 x1 x2 x3 (ix1 q) = ∑ b : Fin 4, ∑ s : Fin 2048, DU x0 x1 x2 x3 b s.val q := by
  have c1 : val_main_cst_10 (F := Ideal) (Shape.Idx.first h_S_) = 0 := by pointwise [val_main_cst_10]
  have c2 : val_main_cst_9 (F := Ideal) (Shape.Idx.first h_S_) = 0 := by pointwise [val_main_cst_9]
  have e : val_main_v58 (F := Ideal) x0 x1 x2 x3 (ix3 0 0 q) = val_main_v57 (F := Ideal) x0 x1 x2 x3 (ix1 q) := by pointwise [val_main_v58]
  unfold val_main_v59
  rw [sum11 _ _ c1, e]
  unfold val_main_v57
  rw [sum01 _ _ c2]
  refine Finset.sum_congr rfl fun b _ => Finset.sum_congr rfl fun s _ => ?_
  unfold DU
  rw [dif_pos s.isLt]

theorem db_at (q : Fin 5632) : val_main_v75 (F := Ideal) x0 x1 x2 x3 (ix2 0 q) = ∑ b : Fin 4, ∑ s : Fin 2048, DU x0 x1 x2 x3 b s.val q := by
  rw [← v59_at]
  pointwise [val_main_v75]

/-- A sum of products, one factor `k` rows down, is the sum with the other factor `k` rows up. -/
theorem sum_shift (f g : ℕ → EReal) (k N : ℕ) (hf : ∀ r, N ≤ r → f r = 0) :
    ∑ s : Fin N, f s.val * (if k ≤ s.val then g (s.val - k) else 0) = ∑ r : Fin N, f (r.val + k) * g r.val := by
  rw [← Finset.sum_range (fun s => f s * (if k ≤ s then g (s - k) else 0)), ← Finset.sum_range (fun r => f (r + k) * g r)]
  by_cases hk : k ≤ N
  · obtain ⟨M, rfl⟩ := Nat.exists_eq_add_of_le hk
    rw [Finset.sum_range_add, Finset.sum_eq_zero (s := Finset.range k), zero_add, Nat.add_comm k M, Finset.sum_range_add]
    · rw [Finset.sum_eq_zero (s := Finset.range k), add_zero]
      · refine Finset.sum_congr rfl fun r _ => ?_
        rw [if_pos (by omega), Nat.add_comm k r, Nat.add_sub_cancel]
      · intro r _; rw [hf _ (by omega), zero_mul]
    · intro r hr; rw [if_neg (by have := Finset.mem_range.mp hr; omega), mul_zero]
  · rw [Finset.sum_eq_zero, Finset.sum_eq_zero]
    · intro r _; rw [hf _ (by omega), zero_mul]
    · intro r hr; rw [if_neg (by have := Finset.mem_range.mp hr; omega), mul_zero]

/-- The gradient of tap `i`: row `r` of the input meets the gradient `2 - i` rows on. -/
theorem dtap_at (i : Fin 3) (q : Fin 5632) : val_main_v70 (F := Ideal) x0 x1 x2 x3 (ix2 i q) =
    ∑ b : Fin 4, ∑ r : Fin 2048, DU x0 x1 x2 x3 b (r.val + (2 - i.val)) q * hn x0 b r.val q := by
  have key (k : ℕ) (hk : k ≤ 2) (b : Fin 4) : ∑ s : Fin 2048, DU x0 x1 x2 x3 b s.val q * hp x0 b (2 - k + s.val) q
      = ∑ r : Fin 2048, DU x0 x1 x2 x3 b (r.val + k) q * hn x0 b r.val q := by
    rw [← sum_shift (fun r => DU x0 x1 x2 x3 b r q) (fun r => hn x0 b r q) k 2048 (fun r hr => by unfold DU; exact dif_neg (by omega))]
    refine Finset.sum_congr rfl fun s _ => congrArg _ ?_
    unfold hp
    by_cases h : k ≤ s.val
    · rw [if_pos (by omega), if_pos h]; exact congrArg (fun r => hn x0 b r q) (by omega)
    · rw [if_neg (by omega), if_neg h]
  rw [dw_at]
  fin_cases i
  · refine (if_pos rfl).trans ((v65_at x0 x1 x2 x3 q).trans (Finset.sum_congr rfl fun b _ => ?_))
    refine Eq.trans ?_ (key 2 (by decide) b)
    exact Finset.sum_congr rfl fun s _ => congrArg (fun r => _ * hp x0 b r q) (by omega)
  · exact (if_neg (by decide)).trans ((if_pos rfl).trans ((v51_at x0 x1 x2 x3 q).trans (Finset.sum_congr rfl fun b _ => key 1 (by decide) b)))
  · exact (if_neg (by decide)).trans ((if_neg (by decide)).trans ((v42_at x0 x1 x2 x3 q).trans (Finset.sum_congr rfl fun b _ => key 0 (by decide) b)))

end Cert.ReferenceIdeal.Conv

end
-- ==== Proof.ConvOps.lean ====
/- The operands of the convolution's gradient: the convolution, computed before the call, and the blocks the call reads. -/
module

public import proofs.«01_k».proof.Proof.ConvSum
public import proofs.«01_k».proof.Proof.ConvRef
public import proofs.«01_k».proof.Proof.Gen.KernelIdeal.Frame
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Conv

open Cert.KernelIdeal Cert.KernelIdeal.Gen
open Cert.ReferenceIdeal.Conv (U hp hn)

variable (m : (ℓ : Loc nD τ sig) → Buf (Elt Ideal) ℓ)

/-- The call's arguments, each with its shape. -/
abbrev X0 (c : Dev nD) : FVec Ideal S8192x5632 .f32 := m ((c : Thread nD τ).loc main_arg0)
abbrev X1 (c : Dev nD) : FVec Ideal S3x5632 .f32 := m ((c : Thread nD τ).loc main_arg1)
abbrev X2 (c : Dev nD) : FVec Ideal S1x5632 .f32 := m ((c : Thread nD τ).loc main_arg2)
abbrev X3 (c : Dev nD) : FVec Ideal S8192x2816 .f32 := m ((c : Thread nD τ).loc main_arg3)

theorem hp_dite (c : Dev nD) (b : Fin 4) (s : ℕ) (q : Fin 5632) (hs : s < 2050) (f : ¬s < 2 → EReal)
    (hf : ∀ h : ¬s < 2, f h = X0 m c (ix2 ⟨b.val * 2048 + (s - 2), by have := b.isLt; omega⟩ q)) :
    (if h : s < 2 then (0 : EReal) else f h) = hp (X0 m c) b s q := by
  by_cases h : s < 2
  · rw [dif_pos h, Cert.ReferenceIdeal.Conv.hp_lt _ _ _ _ h]
  · rw [dif_neg h, hf h]
    exact (Cert.ReferenceIdeal.Conv.hp_ge (X0 m c) b s q (by omega) (by omega)).symm

theorem hp_two (c : Dev nD) (b : Fin 4) (s : ℕ) (q : Fin 5632) (hs : s < 2048) :
    X0 m c (ix2 ⟨b.val * 2048 + s, by have := b.isLt; omega⟩ q) = hp (X0 m c) b (2 + s) q := by
  refine Eq.trans ?_ (Cert.ReferenceIdeal.Conv.hp_ge (X0 m c) b (2 + s) q (by omega) (by omega)).symm
  exact congrArg (fun r => X0 m c (ix2 r q)) (Fin.ext (by show b.val * 2048 + s = b.val * 2048 + (2 + s - 2); omega))

theorem taps_congr (a w0 w1 w2 h0 h1 h2 k0 k1 k2 : EReal) (e0 : h0 = k0) (e1 : h1 = k1) (e2 : h2 = k2) :
    a + w0 * h0 + w1 * h1 + w2 * h2 = a + w0 * k0 + w1 * k1 + w2 * k2 := by rw [e0, e1, e2]

/-- The gate's half of the convolution, computed before the call. -/
theorem v30_at (c : Dev nD) (p : Fin 8192) (q : Fin 2816) : (V m c main_v30 : FVec Ideal S8192x2816 .bf16) (ix2 p q) =
    U (X0 m c) (X1 m c) (X2 m c) ⟨p.val / 2048, by have := p.isLt; omega⟩ (p.val % 2048) ⟨q.val, by have := q.isLt; omega⟩ := by
  have hp := p.isLt
  entry_read
  pointwise
  unfold U
  refine taps_congr _ _ _ _ _ _ _ _ _ _ ?_ ?_ ?_
  · exact hp_dite m c ⟨p.val / 2048, by omega⟩ _ _ (by omega) _ (fun _ => rfl)
  · exact hp_dite m c ⟨p.val / 2048, by omega⟩ _ _ (by omega) _ (fun _ => rfl)
  · exact hp_two m c ⟨p.val / 2048, by omega⟩ _ _ (by omega)

/-- The value's half. -/
theorem v31_at (c : Dev nD) (p : Fin 8192) (q : Fin 2816) : (V m c main_v31 : FVec Ideal S8192x2816 .bf16) (ix2 p q) =
    U (X0 m c) (X1 m c) (X2 m c) ⟨p.val / 2048, by have := p.isLt; omega⟩ (p.val % 2048) ⟨2816 + q.val, by have := q.isLt; omega⟩ := by
  have hp := p.isLt
  entry_read
  pointwise
  unfold U
  refine taps_congr _ _ _ _ _ _ _ _ _ _ ?_ ?_ ?_
  · exact hp_dite m c ⟨p.val / 2048, by omega⟩ _ _ (by omega) _ (fun _ => rfl)
  · exact hp_dite m c ⟨p.val / 2048, by omega⟩ _ _ (by omega) _ (fun _ => rfl)
  · exact hp_two m c ⟨p.val / 2048, by omega⟩ _ _ (by omega)

/-- Which block every window is at: the column blocks outside, the sequences inside. -/
theorem idx : ∀ t : Fin cfg0.N, win0_0.index t = ![t.val % 4, t.val / 4] ∧ win0_1.index t = ![t.val % 4, t.val / 4 + 11]
    ∧ win0_2.index t = ![t.val % 4, t.val / 4] ∧ win0_3.index t = ![t.val % 4, t.val / 4] ∧ win0_4.index t = ![t.val % 4, t.val / 4]
    ∧ win0_5.index t = ![0, t.val / 4] ∧ win0_6.index t = ![0, t.val / 4 + 11] ∧ win0_7.index t = ![t.val % 4, t.val / 4]
    ∧ win0_8.index t = ![t.val % 4, t.val / 4] ∧ win0_9.index t = ![0, t.val / 4] ∧ win0_10.index t = ![0, t.val / 4]
    ∧ win0_11.index t = ![0, t.val / 4] ∧ win0_12.index t = ![0, t.val / 4] :=
  (by decide +kernel : ∀ t : Fin grid0.N, _)

theorem col_lt (t : Fin cfg0.N) (q : Fin 256) : t.val / 4 * 256 + q.val < 2816 := by
  have hN : t.val < 44 := t.isLt
  have := q.isLt
  omega
theorem row_lt (t : Fin cfg0.N) (r : Fin 2048) : t.val % 4 * 2048 + r.val < 8192 := by
  have := r.isLt
  omega

/-- The column of the gate's half and of the value's that a block's column is, and the sequence a point is at. -/
def colA (t : Fin cfg0.N) (q : Fin 256) : Fin 5632 := ⟨t.val / 4 * 256 + q.val, by have := col_lt t q; omega⟩
def colV (t : Fin cfg0.N) (q : Fin 256) : Fin 5632 := ⟨2816 + (t.val / 4 * 256 + q.val), by have := col_lt t q; omega⟩
def sq (t : Fin cfg0.N) : Fin 4 := ⟨t.val % 4, Nat.mod_lt _ (by decide)⟩

/-- The operands' blocks at a point. -/
def B0 (c : Dev nD) (t : Fin cfg0.N) : FVec Ideal S2048x256 .f32 := iblk m c 0 t
def B1 (c : Dev nD) (t : Fin cfg0.N) : FVec Ideal S2048x256 .f32 := iblk m c 1 t
def B2 (c : Dev nD) (t : Fin cfg0.N) : FVec Ideal S2048x256 .bf16 := iblk m c 2 t
def B3 (c : Dev nD) (t : Fin cfg0.N) : FVec Ideal S2048x256 .bf16 := iblk m c 3 t
def B4 (c : Dev nD) (t : Fin cfg0.N) : FVec Ideal S2048x256 .f32 := iblk m c 4 t
def B5 (c : Dev nD) (t : Fin cfg0.N) : FVec Ideal S3x256 .f32 := iblk m c 5 t
def B6 (c : Dev nD) (t : Fin cfg0.N) : FVec Ideal S3x256 .f32 := iblk m c 6 t

theorem B0_at (c : Dev nD) (t : Fin cfg0.N) (r : Fin 2048) (q : Fin 256) : B0 m c t (ix2 r q) = X0 m c (ix2 ⟨t.val % 4 * 2048 + r.val, row_lt t r⟩ (colA t q)) := by
  unfold B0 colA
  blk_point [iblk, V, idx t]

theorem B1_at (c : Dev nD) (t : Fin cfg0.N) (r : Fin 2048) (q : Fin 256) : B1 m c t (ix2 r q) = X0 m c (ix2 ⟨t.val % 4 * 2048 + r.val, row_lt t r⟩ (colV t q)) := by
  unfold B1 colV
  blk_point [iblk, V, idx t]

theorem B4_at (c : Dev nD) (t : Fin cfg0.N) (r : Fin 2048) (q : Fin 256) : B4 m c t (ix2 r q) = X3 m c (ix2 ⟨t.val % 4 * 2048 + r.val, row_lt t r⟩ ⟨t.val / 4 * 256 + q.val, col_lt t q⟩) := by
  unfold B4
  blk_point [iblk, V, idx t]

theorem B5_at (c : Dev nD) (t : Fin cfg0.N) (i : Fin 3) (q : Fin 256) : B5 m c t (ix2 i q) = X1 m c (ix2 i (colA t q)) := by
  unfold B5 colA
  blk_point [iblk, V, idx t]

theorem B6_at (c : Dev nD) (t : Fin cfg0.N) (i : Fin 3) (q : Fin 256) : B6 m c t (ix2 i q) = X1 m c (ix2 i (colV t q)) := by
  unfold B6 colV
  blk_point [iblk, V, idx t]

theorem B2_at (c : Dev nD) (t : Fin cfg0.N) (r : Fin 2048) (q : Fin 256) : B2 m c t (ix2 r q) = U (X0 m c) (X1 m c) (X2 m c) (sq t) r.val (colA t q) := by
  have e : B2 m c t (ix2 r q) = (V m c main_v30 : FVec Ideal S8192x2816 .bf16) (ix2 ⟨t.val % 4 * 2048 + r.val, row_lt t r⟩ ⟨t.val / 4 * 256 + q.val, col_lt t q⟩) := by
    unfold B2 iblk
    generalize hV : V m c = W
    blk_point [idx t]
  have hr := r.isLt
  rw [e, v30_at]
  have e1 : (t.val % 4 * 2048 + r.val) / 2048 = t.val % 4 := by omega
  have e2 : (t.val % 4 * 2048 + r.val) % 2048 = r.val := by omega
  simp only [e1, e2]
  rfl

theorem B3_at (c : Dev nD) (t : Fin cfg0.N) (r : Fin 2048) (q : Fin 256) : B3 m c t (ix2 r q) = U (X0 m c) (X1 m c) (X2 m c) (sq t) r.val (colV t q) := by
  have e : B3 m c t (ix2 r q) = (V m c main_v31 : FVec Ideal S8192x2816 .bf16) (ix2 ⟨t.val % 4 * 2048 + r.val, row_lt t r⟩ ⟨t.val / 4 * 256 + q.val, col_lt t q⟩) := by
    unfold B3 iblk
    generalize hV : V m c = W
    blk_point [idx t]
  have hr := r.isLt
  rw [e, v31_at]
  have e1 : (t.val % 4 * 2048 + r.val) / 2048 = t.val % 4 := by omega
  have e2 : (t.val % 4 * 2048 + r.val) % 2048 = r.val := by omega
  simp only [e1, e2]
  rfl

end Cert.KernelIdeal.Conv

end
-- ==== Proof.ConvFinite.lean ====
/- Where the arguments are finite, the kernel's form of the gate's gradient and the reference's agree. -/
module

public import proofs.«01_k».proof.Pre_finite
public import proofs.«01_k».proof.Proof.ConvPoint
public import proofs.«01_k».proof.Proof.ConvRef

@[expose] public section

set_option maxRecDepth 16384

noncomputable section

open Idealize.ShloMosaic Idealize.ShloMosaic.TcCoe

namespace Cert.KernelIdeal.Conv

open Cert.ReferenceIdeal.Conv (U hp hn rA rV)

theorem finiteFacts : Cert.Pre_finite.Facts where
  bcast_S_S8192x5632 := by decide
  bcast_S_S3x5632 := by decide
  bcast_S_S1x5632 := by decide
  bcast_S_S8192x2816 := by decide

/-- Being a real number. -/
def Fin' (x : EReal) : Prop := ∃ r : ℝ, x = r

theorem fin_zero : Fin' 0 := ⟨0, rfl⟩
theorem fin_add {x y : EReal} (hx : Fin' x) (hy : Fin' y) : Fin' (x + y) := by
  obtain ⟨a, rfl⟩ := hx; obtain ⟨b, rfl⟩ := hy; exact ⟨a + b, (EReal.coe_add a b).symm⟩
theorem fin_mul {x y : EReal} (hx : Fin' x) (hy : Fin' y) : Fin' (x * y) := by
  obtain ⟨a, rfl⟩ := hx; obtain ⟨b, rfl⟩ := hy; exact ⟨a * b, (EReal.coe_mul a b).symm⟩

/-- The two forms of the gate's gradient. -/
theorem gA_eq {ua uv da : EReal} (ha : Fin' ua) (hv : Fin' uv) (hd : Fin' da) : gA ua uv da = rA ua uv da := by
  obtain ⟨a, rfl⟩ := ha; obtain ⟨v, rfl⟩ := hv; obtain ⟨d, rfl⟩ := hd
  unfold gA rA
  rw [Ideal.logistic_coe]
  norm_cast
  ring

theorem gV_eq (ua da : EReal) : gV ua da = rV ua da := mul_comm _ _

/-- The convolution of finite arguments is finite. -/
theorem fin_U (x0 : FVec Ideal Cert.ReferenceIdeal.S8192x5632 .f32) (x1 : FVec Ideal Cert.ReferenceIdeal.S3x5632 .f32) (x2 : FVec Ideal Cert.ReferenceIdeal.S1x5632 .f32)
    (h0 : ∀ i, Fin' (x0 i)) (h1 : ∀ i, Fin' (x1 i)) (h2 : ∀ i, Fin' (x2 i)) (b : Fin 4) (s : ℕ) (q : Fin 5632) : Fin' (U x0 x1 x2 b s q) := by
  have hhn (r : ℕ) : Fin' (hn x0 b r q) := by
    unfold hn; split
    · exact h0 _
    · exact fin_zero
  have hhp (r : ℕ) : Fin' (hp x0 b r q) := by
    unfold hp; split
    · exact hhn _
    · exact fin_zero
  exact fin_add (fin_add (fin_add (h2 _) (fin_mul (h1 _) (hhp _))) (fin_mul (h1 _) (hhp _))) (fin_mul (h1 _) (hhp _))

/-- What the precondition says of one element. -/
theorem fin_of_lt {x : EReal} (h : BitVec.ofBool (decide (FloatOps.absf (F := Ideal) (φ := .f32) x < Ideal.ofBits .f32 0x7F800000#32)) = 1#1) : Fin' x := by
  have ht : Ideal.ofBits .f32 0x7F800000#32 = ⊤ := by simp [Ideal.ofBits, Ideal.ieee]
  rw [ht] at h
  have h : max x (-x) < ⊤ := by
    by_contra hn
    have e : decide (FloatOps.absf (F := Ideal) (φ := .f32) x < (⊤ : EReal)) = false := decide_eq_false hn
    rw [e] at h
    exact absurd h (by decide)
  induction x using EReal.rec with
  | bot => simp at h
  | top => simp at h
  | coe r => exact ⟨r, rfl⟩

section pre

attribute [local instance] finiteFacts

variable (a0 : FVec Ideal Cert.Pre_finite.S8192x5632 .f32) (a1 : FVec Ideal Cert.Pre_finite.S3x5632 .f32) (a2 : FVec Ideal Cert.Pre_finite.S1x5632 .f32)
  (a3 : FVec Ideal Cert.Pre_finite.S8192x2816 .f32)

theorem pre0 (h : (Cert.Pre_finite.fn (F := Ideal) a0 a1 a2 a3).1 = fun _ => 1#1) (i) : Fin' (a0 i) := by
  have h' := congrFun h i
  revert h'
  pointwise [Cert.Pre_finite.fn]
  exact fin_of_lt

theorem pre1 (h : (Cert.Pre_finite.fn (F := Ideal) a0 a1 a2 a3).2.1 = fun _ => 1#1) (i) : Fin' (a1 i) := by
  have h' := congrFun h i
  revert h'
  pointwise [Cert.Pre_finite.fn]
  exact fin_of_lt

theorem pre2 (h : (Cert.Pre_finite.fn (F := Ideal) a0 a1 a2 a3).2.2.1 = fun _ => 1#1) (i) : Fin' (a2 i) := by
  have h' := congrFun h i
  revert h'
  pointwise [Cert.Pre_finite.fn]
  exact fin_of_lt

theorem pre3 (h : (Cert.Pre_finite.fn (F := Ideal) a0 a1 a2 a3).2.2.2 = fun _ => 1#1) (i) : Fin' (a3 i) := by
  have h' := congrFun h i
  revert h'
  pointwise [Cert.Pre_finite.fn]
  exact fin_of_lt

end pre

end Cert.KernelIdeal.Conv

end
-- ==== Proof.ConvValue.lean ====
/- The gradient of the convolution and its gate: the call's six results are the reference's, where the arguments are
   finite. -/
module

public import proofs.«01_k».proof.Defs
public import proofs.«01_k».proof.Proof.ConvOps
public import proofs.«01_k».proof.Proof.ConvFinite
public import proofs.«01_k».proof.Proof.Gen.KernelIdeal.Frame
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Conv

open Cert.KernelIdeal Cert.KernelIdeal.Gen
open Cert.ReferenceIdeal.Conv (U hp hn DU)
open Cert.ReferenceIdeal.Read

variable (m : (ℓ : Loc nD τ sig) → Buf (Elt Ideal) ℓ)

/-- The four arguments are finite. -/
def AllFin (c : Dev nD) : Prop :=
  (∀ i, Fin' (X0 m c i)) ∧ (∀ i, Fin' (X1 m c i)) ∧ (∀ i, Fin' (X2 m c i)) ∧ ∀ i, Fin' (X3 m c i)

/-- The reference's gradient at the convolution's output, of the call's arguments. -/
abbrev D (c : Dev nD) (b : Fin 4) (s : ℕ) (q : Fin 5632) : EReal := DU (X0 m c) (X1 m c) (X2 m c) (X3 m c) b s q

theorem DA_eq (c : Dev nD) (h : AllFin m c) (t : Fin cfg0.N) (r : ℕ) (q : Fin 256) :
    DA (B2 m c t) (B3 m c t) (B4 m c t) r q = D m c (sq t) r (colA t q) := by
  by_cases hr : r < 2048
  · unfold DA
    rw [dif_pos hr, B2_at, B3_at, B4_at]
    refine (gA_eq (fin_U _ _ _ h.1 h.2.1 h.2.2.1 _ _ _) (fin_U _ _ _ h.1 h.2.1 h.2.2.1 _ _ _) (h.2.2.2 _)).trans ?_
    exact (Cert.ReferenceIdeal.Conv.DU_A (X0 m c) (X1 m c) (X2 m c) (X3 m c) (sq t) r hr ⟨t.val / 4 * 256 + q.val, col_lt t q⟩).symm
  · unfold DA D DU
    rw [dif_neg hr, dif_neg hr]

theorem DV_eq (c : Dev nD) (t : Fin cfg0.N) (r : ℕ) (q : Fin 256) :
    DV (B2 m c t) (B4 m c t) r q = D m c (sq t) r (colV t q) := by
  by_cases hr : r < 2048
  · unfold DV
    rw [dif_pos hr, B2_at, B4_at]
    refine (gV_eq _ _).trans ?_
    exact (Cert.ReferenceIdeal.Conv.DU_V (X0 m c) (X1 m c) (X2 m c) (X3 m c) (sq t) r hr ⟨t.val / 4 * 256 + q.val, col_lt t q⟩).symm
  · unfold DV D DU
    rw [dif_neg hr, dif_neg hr]

theorem HN0_eq (c : Dev nD) (t : Fin cfg0.N) (r : ℕ) (q : Fin 256) : HN (B0 m c t) r q = hn (X0 m c) (sq t) r (colA t q) := by
  unfold HN hn
  by_cases hr : r < 2048
  · rw [dif_pos hr, dif_pos hr, B0_at]; rfl
  · rw [dif_neg hr, dif_neg hr]

theorem HN1_eq (c : Dev nD) (t : Fin cfg0.N) (r : ℕ) (q : Fin 256) : HN (B1 m c t) r q = hn (X0 m c) (sq t) r (colV t q) := by
  unfold HN hn
  by_cases hr : r < 2048
  · rw [dif_pos hr, dif_pos hr, B1_at]; rfl
  · rw [dif_neg hr, dif_neg hr]

/-- The point of sequence `b` in the column block of `t`. -/
def pt (t : Fin cfg0.N) (b : Fin 4) : Fin cfg0.N := ⟨4 * (t.val / 4) + b.val, by have := b.isLt; have hN : t.val < 44 := t.isLt; show 4 * (t.val / 4) + b.val < 44; omega⟩

theorem sq_pt (t : Fin cfg0.N) (b : Fin 4) : sq (pt t b) = b :=
  Fin.ext (by have := b.isLt; show (4 * (t.val / 4) + b.val) % 4 = b.val; omega)
theorem colA_pt (t : Fin cfg0.N) (b : Fin 4) (q : Fin 256) : colA (pt t b) q = colA t q :=
  Fin.ext (by have := b.isLt; show (4 * (t.val / 4) + b.val) / 4 * 256 + q.val = t.val / 4 * 256 + q.val; omega)
theorem colV_pt (t : Fin cfg0.N) (b : Fin 4) (q : Fin 256) : colV (pt t b) q = colV t q :=
  Fin.ext (by have := b.isLt; show 2816 + ((4 * (t.val / 4) + b.val) / 4 * 256 + q.val) = 2816 + (t.val / 4 * 256 + q.val); omega)

theorem v76_at (c : Dev nD) (p : Fin 8192) (q : Fin 2816) : val_main_v76 (F := Ideal) (X0 m c) (X1 m c) (X2 m c) (X3 m c) (ix2 p q)
    = val_main_v74 (F := Ideal) (X0 m c) (X1 m c) (X2 m c) (X3 m c) (ix2 p ⟨q.val, by have := q.isLt; omega⟩) := by
  pointwise [val_main_v76]
theorem v77_at (c : Dev nD) (p : Fin 8192) (q : Fin 2816) : val_main_v77 (F := Ideal) (X0 m c) (X1 m c) (X2 m c) (X3 m c) (ix2 p q)
    = val_main_v74 (F := Ideal) (X0 m c) (X1 m c) (X2 m c) (X3 m c) (ix2 p ⟨2816 + q.val, by have := q.isLt; omega⟩) := by
  pointwise [val_main_v77]
theorem v78_at (c : Dev nD) (p : Fin 3) (q : Fin 2816) : val_main_v78 (F := Ideal) (X0 m c) (X1 m c) (X2 m c) (X3 m c) (ix2 p q)
    = val_main_v70 (F := Ideal) (X0 m c) (X1 m c) (X2 m c) (X3 m c) (ix2 p ⟨q.val, by have := q.isLt; omega⟩) := by
  pointwise [val_main_v78]
theorem v79_at (c : Dev nD) (p : Fin 3) (q : Fin 2816) : val_main_v79 (F := Ideal) (X0 m c) (X1 m c) (X2 m c) (X3 m c) (ix2 p q)
    = val_main_v70 (F := Ideal) (X0 m c) (X1 m c) (X2 m c) (X3 m c) (ix2 p ⟨2816 + q.val, by have := q.isLt; omega⟩) := by
  pointwise [val_main_v79]
theorem v80_at (c : Dev nD) (p : Fin 1) (q : Fin 2816) : val_main_v80 (F := Ideal) (X0 m c) (X1 m c) (X2 m c) (X3 m c) (ix2 p q)
    = val_main_v75 (F := Ideal) (X0 m c) (X1 m c) (X2 m c) (X3 m c) (ix2 p ⟨q.val, by have := q.isLt; omega⟩) := by
  obtain rfl : p = 0 := Subsingleton.elim _ _
  pointwise [val_main_v80]
theorem v81_at (c : Dev nD) (p : Fin 1) (q : Fin 2816) : val_main_v81 (F := Ideal) (X0 m c) (X1 m c) (X2 m c) (X3 m c) (ix2 p q)
    = val_main_v75 (F := Ideal) (X0 m c) (X1 m c) (X2 m c) (X3 m c) (ix2 p ⟨2816 + q.val, by have := q.isLt; omega⟩) := by
  obtain rfl : p = 0 := Subsingleton.elim _ _
  pointwise [val_main_v81]

/-- Where an element of a block lies. -/
theorem emb7 (t : Fin cfg0.N) (r : Fin 2048) (q : Fin 256) :
    (win0_7.blk t).view.emb (ix2 r q) = ix2 ⟨t.val % 4 * 2048 + r.val, row_lt t r⟩ ⟨t.val / 4 * 256 + q.val, col_lt t q⟩ := by
  blk_point [idx t]
theorem emb8 (t : Fin cfg0.N) (r : Fin 2048) (q : Fin 256) :
    (win0_8.blk t).view.emb (ix2 r q) = ix2 ⟨t.val % 4 * 2048 + r.val, row_lt t r⟩ ⟨t.val / 4 * 256 + q.val, col_lt t q⟩ := by
  blk_point [idx t]
theorem emb9 (t : Fin cfg0.N) (i : Fin 3) (q : Fin 256) :
    (win0_9.blk t).view.emb (ix2 i q) = ix2 i ⟨t.val / 4 * 256 + q.val, col_lt t q⟩ := by
  blk_point [idx t]
theorem emb10 (t : Fin cfg0.N) (i : Fin 3) (q : Fin 256) :
    (win0_10.blk t).view.emb (ix2 i q) = ix2 i ⟨t.val / 4 * 256 + q.val, col_lt t q⟩ := by
  blk_point [idx t]
theorem emb11 (t : Fin cfg0.N) (i : Fin 1) (q : Fin 256) :
    (win0_11.blk t).view.emb (ix2 i q) = ix2 i ⟨t.val / 4 * 256 + q.val, col_lt t q⟩ := by
  blk_point [idx t]
theorem emb12 (t : Fin cfg0.N) (i : Fin 1) (q : Fin 256) :
    (win0_12.blk t).view.emb (ix2 i q) = ix2 i ⟨t.val / 4 * 256 + q.val, col_lt t q⟩ := by
  blk_point [idx t]

/-- The gradient at the convolution's input, the gate's half. -/
theorem final7 (c : Dev nD) (h : AllFin m c) : (dats m 0 c).arrAt 7 (cfgs 0).N = val_main_v76 (F := Ideal) (X0 m c) (X1 m c) (X2 m c) (X3 m c) := by
  refine (dats m 0 c).arrAt_eq_of_covers 7 _ (by decide +kernel) fun t hf y => ?_
  obtain ⟨r, q, rfl⟩ : ∃ (r : Fin 2048) (q : Fin 256), y = ix2 r q := ⟨y 0, y 1, eq_ix2 y⟩
  have hr := r.isLt
  blk_simp
  rw [after0_7, emb7, v76_at, Cert.ReferenceIdeal.Conv.dh_at]
  have e : out7 m c t (ix2 r q) = B5 m c t (ix2 2 q) * DA (B2 m c t) (B3 m c t) (B4 m c t) r.val q + B5 m c t (ix2 1 q) * DA (B2 m c t) (B3 m c t) (B4 m c t) (r.val + 1) q
      + B5 m c t (ix2 0 q) * DA (B2 m c t) (B3 m c t) (B4 m c t) (r.val + 2) q := allA_at (B2 m c t) (B3 m c t) (B4 m c t) (B5 m c t) r q
  refine e.trans ?_
  simp only [B5_at, DA_eq m c h t]
  have e1 : (t.val % 4 * 2048 + r.val) / 2048 = t.val % 4 := by omega
  have e2 : (t.val % 4 * 2048 + r.val) % 2048 = r.val := by omega
  simp only [e1, e2]
  rfl

/-- The gradient at the convolution's input, the value's half. -/
theorem final8 (c : Dev nD) : (dats m 0 c).arrAt 8 (cfgs 0).N = val_main_v77 (F := Ideal) (X0 m c) (X1 m c) (X2 m c) (X3 m c) := by
  refine (dats m 0 c).arrAt_eq_of_covers 8 _ (by decide +kernel) fun t hf y => ?_
  obtain ⟨r, q, rfl⟩ : ∃ (r : Fin 2048) (q : Fin 256), y = ix2 r q := ⟨y 0, y 1, eq_ix2 y⟩
  have hr := r.isLt
  blk_simp
  rw [after0_8, emb8, v77_at, Cert.ReferenceIdeal.Conv.dh_at]
  have e : out8 m c t (ix2 r q) = B6 m c t (ix2 2 q) * DV (B2 m c t) (B4 m c t) r.val q + B6 m c t (ix2 1 q) * DV (B2 m c t) (B4 m c t) (r.val + 1) q
      + B6 m c t (ix2 0 q) * DV (B2 m c t) (B4 m c t) (r.val + 2) q := allV_at (B2 m c t) (B4 m c t) (B6 m c t) r q
  refine e.trans ?_
  simp only [B6_at, DV_eq m c t]
  have e1 : (t.val % 4 * 2048 + r.val) / 2048 = t.val % 4 := by omega
  have e2 : (t.val % 4 * 2048 + r.val) % 2048 = r.val := by omega
  simp only [e1, e2]
  rfl

/-- The taps' gradient, the gate's half. -/
theorem sum9_at (c : Dev nD) (t : Fin cfg0.N) (ht : t.val % 4 = 3) (i : Fin 3) (q : Fin 256) :
    out9 m c t.val t.isLt (ix2 i q) = ∑ b : Fin 4, ∑ r : Fin 2048, DA (B2 m c (pt t b)) (B3 m c (pt t b)) (B4 m c (pt t b)) (r.val + (2 - i.val)) q * HN (B0 m c (pt t b)) r.val q :=
  sumAt_four (ι := S3x256.Idx) (k0_pay1 (F := Ideal)) (fun t k y => dwA (F := Ideal) (B0 m c t) (B2 m c t) (B3 m c t) (B4 m c t) k y) (fun t r => DA (B2 m c t) (B3 m c t) (B4 m c t) (r + (2 - i.val)) q * HN (B0 m c t) r q) (ix2 i q)
    (by pointwise [k0_pay1]) (fun t k hk y => dwA_at (B2 m c t) (B3 m c t) (B4 m c t) (B0 m c t) k hk y i q) t ht

theorem final9 (c : Dev nD) (h : AllFin m c) : (dats m 0 c).arrAt 9 (cfgs 0).N = val_main_v78 (F := Ideal) (X0 m c) (X1 m c) (X2 m c) (X3 m c) := by
  refine (dats m 0 c).arrAt_eq_of_covers 9 _ (by decide +kernel) fun t hf y => ?_
  obtain ⟨i, q, rfl⟩ : ∃ (i : Fin 3) (q : Fin 256), y = ix2 i q := ⟨y 0, y 1, eq_ix2 y⟩
  blk_simp
  rw [after0_9, emb9, v78_at, Cert.ReferenceIdeal.Conv.dtap_at]
  refine (sum9_at m c t ((flush0_9 t).mp hf) i q).trans ?_
  refine Finset.sum_congr rfl fun b _ => Finset.sum_congr rfl fun r _ => ?_
  rw [DA_eq m c h (pt t b), HN0_eq m c (pt t b), sq_pt, colA_pt]
  rfl

/-- The taps' gradient, the value's half. -/
theorem sum10_at (c : Dev nD) (t : Fin cfg0.N) (ht : t.val % 4 = 3) (i : Fin 3) (q : Fin 256) :
    out10 m c t.val t.isLt (ix2 i q) = ∑ b : Fin 4, ∑ r : Fin 2048, DV (B2 m c (pt t b)) (B4 m c (pt t b)) (r.val + (2 - i.val)) q * HN (B1 m c (pt t b)) r.val q :=
  sumAt_four (ι := S3x256.Idx) (k0_pay2 (F := Ideal)) (fun t k y => dwV (F := Ideal) (B1 m c t) (B2 m c t) (B4 m c t) k y) (fun t r => DV (B2 m c t) (B4 m c t) (r + (2 - i.val)) q * HN (B1 m c t) r q) (ix2 i q)
    (by pointwise [k0_pay2]) (fun t k hk y => dwV_at (B2 m c t) (B4 m c t) (B1 m c t) k hk y i q) t ht

theorem final10 (c : Dev nD) : (dats m 0 c).arrAt 10 (cfgs 0).N = val_main_v79 (F := Ideal) (X0 m c) (X1 m c) (X2 m c) (X3 m c) := by
  refine (dats m 0 c).arrAt_eq_of_covers 10 _ (by decide +kernel) fun t hf y => ?_
  obtain ⟨i, q, rfl⟩ : ∃ (i : Fin 3) (q : Fin 256), y = ix2 i q := ⟨y 0, y 1, eq_ix2 y⟩
  blk_simp
  rw [after0_10, emb10, v79_at, Cert.ReferenceIdeal.Conv.dtap_at]
  refine (sum10_at m c t ((flush0_10 t).mp hf) i q).trans ?_
  refine Finset.sum_congr rfl fun b _ => Finset.sum_congr rfl fun r _ => ?_
  rw [DV_eq m c (pt t b), HN1_eq m c (pt t b), sq_pt, colV_pt]
  rfl

/-- The biases' gradient, the gate's half. -/
theorem sum11_at (c : Dev nD) (t : Fin cfg0.N) (ht : t.val % 4 = 3) (q : Fin 256) :
    out11 m c t.val t.isLt (ix2 0 q) = ∑ b : Fin 4, ∑ r : Fin 2048, DA (B2 m c (pt t b)) (B3 m c (pt t b)) (B4 m c (pt t b)) r.val q :=
  sumAt_four (ι := S1x256.Idx) (k0_pay3 (F := Ideal)) (fun t k y => dbA (F := Ideal) (B2 m c t) (B3 m c t) (B4 m c t) k y) (fun t r => DA (B2 m c t) (B3 m c t) (B4 m c t) r q) (ix2 0 q)
    (by pointwise [k0_pay3]) (fun t k hk y => dbA_at (B2 m c t) (B3 m c t) (B4 m c t) k hk y q) t ht

theorem final11 (c : Dev nD) (h : AllFin m c) : (dats m 0 c).arrAt 11 (cfgs 0).N = val_main_v80 (F := Ideal) (X0 m c) (X1 m c) (X2 m c) (X3 m c) := by
  refine (dats m 0 c).arrAt_eq_of_covers 11 _ (by decide +kernel) fun t hf y => ?_
  obtain ⟨i, q, rfl⟩ : ∃ (i : Fin 1) (q : Fin 256), y = ix2 i q := ⟨y 0, y 1, eq_ix2 y⟩
  obtain rfl : i = 0 := Subsingleton.elim _ _
  blk_simp
  rw [after0_11, emb11, v80_at, Cert.ReferenceIdeal.Conv.db_at]
  refine (sum11_at m c t ((flush0_11 t).mp hf) q).trans ?_
  refine Finset.sum_congr rfl fun b _ => Finset.sum_congr rfl fun r _ => ?_
  rw [DA_eq m c h (pt t b), sq_pt, colA_pt]
  rfl

/-- The biases' gradient, the value's half. -/
theorem sum12_at (c : Dev nD) (t : Fin cfg0.N) (ht : t.val % 4 = 3) (q : Fin 256) :
    out12 m c t.val t.isLt (ix2 0 q) = ∑ b : Fin 4, ∑ r : Fin 2048, DV (B2 m c (pt t b)) (B4 m c (pt t b)) r.val q :=
  sumAt_four (ι := S1x256.Idx) (k0_pay4 (F := Ideal)) (fun t k y => dbV (F := Ideal) (B2 m c t) (B4 m c t) k y) (fun t r => DV (B2 m c t) (B4 m c t) r q) (ix2 0 q)
    (by pointwise [k0_pay4]) (fun t k hk y => dbV_at (B2 m c t) (B4 m c t) k hk y q) t ht

theorem final12 (c : Dev nD) : (dats m 0 c).arrAt 12 (cfgs 0).N = val_main_v81 (F := Ideal) (X0 m c) (X1 m c) (X2 m c) (X3 m c) := by
  refine (dats m 0 c).arrAt_eq_of_covers 12 _ (by decide +kernel) fun t hf y => ?_
  obtain ⟨i, q, rfl⟩ : ∃ (i : Fin 1) (q : Fin 256), y = ix2 i q := ⟨y 0, y 1, eq_ix2 y⟩
  obtain rfl : i = 0 := Subsingleton.elim _ _
  blk_simp
  rw [after0_12, emb12, v81_at, Cert.ReferenceIdeal.Conv.db_at]
  refine (sum12_at m c t ((flush0_12 t).mp hf) q).trans ?_
  refine Finset.sum_congr rfl fun b _ => Finset.sum_congr rfl fun r _ => ?_
  rw [DV_eq m c (pt t b), sq_pt, colV_pt]
  rfl

/-- Every execution leaves the six arrays, and the arguments as they were. -/
theorem run_blocks (ρ : Dev nD → PrngReg) : θ_run defs (onTc (τ := τ) (main (F := Ideal))) ⟨m, fun _ => 0, ρ⟩ fun r => ∀ c : Dev nD,
      r.2.mem ((c : Thread nD τ).loc main_v32_0) = (dats m 0 c).arrAt 7 (cfgs 0).N
      ∧ r.2.mem ((c : Thread nD τ).loc main_v32_1) = (dats m 0 c).arrAt 8 (cfgs 0).N
      ∧ r.2.mem ((c : Thread nD τ).loc main_v32_2) = (dats m 0 c).arrAt 9 (cfgs 0).N
      ∧ r.2.mem ((c : Thread nD τ).loc main_v32_3) = (dats m 0 c).arrAt 10 (cfgs 0).N
      ∧ r.2.mem ((c : Thread nD τ).loc main_v32_4) = (dats m 0 c).arrAt 11 (cfgs 0).N
      ∧ r.2.mem ((c : Thread nD τ).loc main_v32_5) = (dats m 0 c).arrAt 12 (cfgs 0).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 7, (h c).1 8, (h c).1 9, (h c).1 10, (h c).1 11, (h c).1 12,
      ((h c).1 1).trans (((dats m 0 c).arrAt_in 1 rfl _).trans ((A_eq m c 1).trans (V_main_arg0 m c))),
      ((h c).1 6).trans (((dats m 0 c).arrAt_in 6 rfl _).trans ((A_eq m c 6).trans (V_main_arg1 m c))),
      ((h c).2 main_arg2 (Pipeline.mem_restRefs_of main_arg2 (by decide) (by decide))).trans (V_main_arg2 m c),
      ((h c).1 4).trans (((dats m 0 c).arrAt_in 4 rfl _).trans ((A_eq m c 4).trans (V_main_arg3 m c)))⟩)
    (run_main m ρ)

attribute [local instance] finiteFacts

/-- The precondition says that the four arguments are finite. -/
theorem allFin_of (h : Cert.Pre_KernelIdeal_finite m) (c : Dev nD) : AllFin m c :=
  ⟨pre0 _ _ _ _ (h c).1, pre1 _ _ _ _ (h c).2.1, pre2 _ _ _ _ (h c).2.2.1, pre3 _ _ _ _ (h c).2.2.2⟩

set_option maxHeartbeats 2000000 in
/-- The claim: the call's six results are the reference's. -/
theorem algebraic : Cert.algebraic_KernelIdeal_ReferenceIdeal_pre_finite := by
  intro m g m' g' hpre hagree
  have hf := allFin_of m hpre
  refine ⟨fun c => (dats m 0 c).arrAt 7 (cfgs 0).N, fun c => (dats m 0 c).arrAt 8 (cfgs 0).N, fun c => (dats m 0 c).arrAt 9 (cfgs 0).N,
    fun c => (dats m 0 c).arrAt 10 (cfgs 0).N, fun c => (dats m 0 c).arrAt 11 (cfgs 0).N, fun c => (dats m 0 c).arrAt 12 (cfgs 0).N, run_blocks m g, ?_⟩
  refine (θ_run _ _ _).mono (fun r h c => ?_) (Cert.ReferenceIdeal.Value.run (F := Ideal) m' g')
  obtain ⟨h0, h1, h2, h3⟩ := hagree c
  obtain ⟨r0, r1, r2, r3, r4, r5, rest⟩ := h c
  refine ⟨r0.trans ?_, r1.trans ?_, r2.trans ?_, r3.trans ?_, r4.trans ?_, r5.trans ?_, rest⟩
  · rw [val_main_v76_eq, h0, h1, h2, h3]; exact (final7 m c (hf c)).symm
  · rw [val_main_v77_eq, h0, h1, h2, h3]; exact (final8 m c).symm
  · rw [val_main_v78_eq, h0, h1, h2, h3]; exact (final9 m c (hf c)).symm
  · rw [val_main_v79_eq, h0, h1, h2, h3]; exact (final10 m c).symm
  · rw [val_main_v80_eq, h0, h1, h2, h3]; exact (final11 m c (hf c)).symm
  · rw [val_main_v81_eq, h0, h1, h2, h3]; exact (final12 m c).symm

end Cert.KernelIdeal.Conv

end
-- ==== Proof.Rms.lean ====
/- The gradient of the norm, in the extended reals: what the kernels compute of a row is what the reference's
   differentiation writes of it. No finiteness is needed, for the one factor distributed over a sum is the inverse root
   of a positive number, which is a real and not negative. -/
module

public import Idealize.ShloMosaic.Lib.IdealHost

@[expose] public section

noncomputable section

open Idealize.ShloMosaic

namespace Cert.Rms

/-- 1024, the width of a row. -/
abbrev K : EReal := Ideal.ofBits .f32 1149239296#32
/-- The small number added to the mean square. -/
abbrev E : EReal := Ideal.ofBits .f32 897988541#32
/-- Minus one half. -/
abbrev H : EReal := Ideal.ofBits .f32 3204448256#32

theorem K_eq : K = ((1024 : ℝ) : EReal) := by
  simp [K, Ideal.ofBits, Ideal.ieee, -EReal.coe_mul]; norm_num

theorem H_eq : H = ((-(1 / 2) : ℝ) : EReal) := by
  simp [H, Ideal.ofBits, Ideal.ieee, -EReal.coe_mul, -EReal.coe_neg]; norm_num

theorem E_pos : 0 < E := by
  simp [E, Ideal.ofBits, Ideal.ieee, -EReal.coe_mul]

/-- A division by the width is a product with its inverse. -/
theorem div_K (x : EReal) : Ideal.div x K = x * ((1 / 1024 : ℝ) : EReal) := by
  rw [K_eq, Ideal.div, if_neg (by norm_num), ← EReal.coe_inv]
  norm_num

/-- A square is not negative. -/
theorem sq_nonneg (x : EReal) : 0 ≤ x * x := by
  rcases le_total 0 x with h | h
  · exact mul_nonneg h h
  · have h' : 0 ≤ -x := by simpa using EReal.neg_le_neg_iff.mpr h
    have := mul_nonneg h' h'
    rwa [EReal.neg_mul, mul_comm, EReal.neg_mul, neg_neg] at this

/-- The mean square of a row plus the small number. -/
abbrev v (x : Fin 1024 → EReal) : EReal := Ideal.div (∑ k, x k * x k) K + E

theorem v_pos (x : Fin 1024 → EReal) : 0 < v x := by
  have h : 0 ≤ Ideal.div (∑ k, x k * x k) K := by
    rw [div_K]
    exact mul_nonneg (Finset.sum_nonneg fun k _ => sq_nonneg _) (by exact_mod_cast (by norm_num : (0 : ℝ) ≤ 1 / 1024))
  exact lt_of_lt_of_le E_pos (le_add_of_nonneg_left h)

/-- A real that is not negative is distributed over a sum. -/
theorem coe_mul_sum {r : ℝ} (h : 0 ≤ r) {n : ℕ} (f : Fin n → EReal) : (r : EReal) * ∑ k, f k = ∑ k, (r : EReal) * f k := by
  have h0 : (0 : EReal) ≤ r := by exact_mod_cast h
  induction (Finset.univ : Finset (Fin n)) using Finset.cons_induction with
  | empty => simp
  | cons a s ha ih =>
    rw [Finset.sum_cons, Finset.sum_cons, EReal.left_distrib_of_nonneg_of_ne_top h0 (EReal.coe_ne_top r), ih]

/-- Two equal negative parts make the whole. -/
theorem half_half (w : EReal) {c : ℝ} (h : 0 ≤ c) :
    w * ((-(c / 2) : ℝ) : EReal) + w * ((-(c / 2) : ℝ) : EReal) = -(w * (c : EReal)) := by
  have hc : (0 : EReal) ≤ ((c / 2 : ℝ) : EReal) := by exact_mod_cast (by positivity)
  have e : ((c : ℝ) : EReal) = ((c / 2 : ℝ) : EReal) + ((c / 2 : ℝ) : EReal) := by
    rw [← EReal.coe_add]; congr 1; ring
  rw [e, EReal.left_distrib_of_nonneg hc hc, EReal.coe_neg, mul_neg, EReal.neg_add, sub_eq_add_neg]
  · by_cases hb : w * ((c / 2 : ℝ) : EReal) = ⊥
    · right; rw [hb]; exact bot_ne_top
    · left; exact hb
  · by_cases hb : w * ((c / 2 : ℝ) : EReal) = ⊥
    · left; rw [hb]; exact bot_ne_top
    · right; exact hb

/-- The gradient of one element of a row, from the row's gradient before the norm. -/
theorem dx_eq (x a : Fin 1024 → EReal) (d xi ai : EReal) :
    d + Ideal.rsqrt (v x) * (ai - xi * Ideal.rsqrt (v x) * Ideal.div (∑ k, a k * (x k * Ideal.rsqrt (v x))) K)
      = d + ai * Ideal.rsqrt (v x)
          + xi * (∑ _z : Fin 1, Ideal.div ((∑ k, x k * a k) * (H * Ideal.div (Ideal.rsqrt (v x)) (v x))) K)
          + (∑ _z : Fin 1, Ideal.div ((∑ k, x k * a k) * (H * Ideal.div (Ideal.rsqrt (v x)) (v x))) K) * xi := by
  have hv := v_pos x
  generalize v x = w at hv
  rw [Fin.sum_univ_one, div_K, div_K]
  induction w with
  | bot => exact absurd hv (by simp)
  | top => simp [Ideal.div]
  | coe w =>
    have hw : 0 < w := by exact_mod_cast hv
    have hr : Ideal.rsqrt (w : EReal) = (((Real.sqrt w)⁻¹ : ℝ) : EReal) := by
      rw [Ideal.rsqrt_coe, if_neg (not_lt.mpr hw.le), if_neg hw.ne']
    rw [hr]
    set r : ℝ := (Real.sqrt w)⁻¹ with hrd
    have r0 : 0 ≤ r := by positivity
    have rw' : w⁻¹ = r * r := by
      rw [hrd, ← mul_inv, Real.mul_self_sqrt hw.le]
    have r0' : (0 : EReal) ≤ (r : EReal) := by exact_mod_cast r0
    have hd : Ideal.div (r : EReal) (w : EReal) = ((r * (r * r) : ℝ) : EReal) := by
      rw [Ideal.div, if_neg (by exact_mod_cast hw.ne'), ← EReal.coe_inv, ← EReal.coe_mul, rw']
    have hs : ∑ k, a k * (x k * (r : EReal)) = (r : EReal) * ∑ k, x k * a k := by
      rw [coe_mul_sum r0]
      exact Finset.sum_congr rfl fun k _ => by rw [← mul_assoc, mul_comm, mul_comm (a k)]
    rw [hd, hs, H_eq]
    generalize ∑ k, x k * a k = S
    have e1 : xi * (S * (((-(1 / 2) : ℝ) : EReal) * ((r * (r * r) : ℝ) : EReal)) * ((1 / 1024 : ℝ) : EReal))
        = (xi * S) * ((-((r * (r * r) / 1024) / 2) : ℝ) : EReal) := by
      rw [← EReal.coe_mul, mul_assoc S, ← EReal.coe_mul, mul_assoc]
      rw [show -(1 / 2) * (r * (r * r) * (1 / 1024)) = -((r * (r * r) / 1024) / 2) by ring, mul_assoc]
    have e2 : (r : EReal) * (xi * (r : EReal) * ((r : EReal) * S * ((1 / 1024 : ℝ) : EReal)))
        = (xi * S) * ((r * (r * r) / 1024 : ℝ) : EReal) := by
      have : ((r * (r * r) / 1024 : ℝ) : EReal) = (r : EReal) * ((r : EReal) * (r : EReal)) * ((1 / 1024 : ℝ) : EReal) := by
        rw [← EReal.coe_mul, ← EReal.coe_mul, ← EReal.coe_mul]; congr 1; ring
      rw [this]
      ac_rfl
    rw [mul_comm _ xi, e1, add_assoc (d + _), half_half _ (by positivity), sub_eq_add_neg,
      EReal.left_distrib_of_nonneg_of_ne_top r0' (EReal.coe_ne_top r), mul_neg, e2, add_assoc, mul_comm ai]

/-- The same without a gradient to add to. -/
theorem dx_eq0 (x a : Fin 1024 → EReal) (xi ai : EReal) :
    Ideal.rsqrt (v x) * (ai - xi * Ideal.rsqrt (v x) * Ideal.div (∑ k, a k * (x k * Ideal.rsqrt (v x))) K)
      = ai * Ideal.rsqrt (v x)
          + xi * (∑ _z : Fin 1, Ideal.div ((∑ k, x k * a k) * (H * Ideal.div (Ideal.rsqrt (v x)) (v x))) K)
          + (∑ _z : Fin 1, Ideal.div ((∑ k, x k * a k) * (H * Ideal.div (Ideal.rsqrt (v x)) (v x))) K) * xi := by
  have h := dx_eq x a 0 xi ai
  rwa [zero_add, zero_add] at h

/-- One half. -/
abbrev H2 : EReal := Ideal.ofBits .f32 1056964608#32
/-- Two. -/
abbrev T2 : EReal := Ideal.ofBits .f32 1073741824#32
/-- One over the width. -/
abbrev C : EReal := Ideal.ofBits .f32 981467136#32

theorem H2_eq : H2 = ((1 / 2 : ℝ) : EReal) := by
  simp [H2, Ideal.ofBits, Ideal.ieee, -EReal.coe_mul]; norm_num

theorem T2_eq : T2 = ((2 : ℝ) : EReal) := by
  simp [T2, Ideal.ofBits, Ideal.ieee, -EReal.coe_mul]; norm_num

theorem C_eq : C = ((1 / 1024 : ℝ) : EReal) := by
  simp [C, Ideal.ofBits, Ideal.ieee, -EReal.coe_mul]; norm_num

/-- The gradient of half the mean of the squares is the error over the width. -/
theorem dy_eq (e : EReal) : Ideal.div H2 K * (T2 * e) = e * C := by
  rw [div_K, H2_eq, T2_eq, C_eq, ← mul_assoc, ← EReal.coe_mul, ← EReal.coe_mul, mul_comm]
  congr 2
  norm_num

/-- The error of a row's norm against its target. -/
def err (y g t : Fin 1024 → EReal) (k : Fin 1024) : EReal := y k * Ideal.rsqrt (v y) * g k - t k

/-- The gradient of the loss at the row's norm. -/
def dy (y g t : Fin 1024 → EReal) (k : Fin 1024) : EReal := err y g t k * C

/-- The gradient of the loss at the row. -/
def DX (y g t : Fin 1024 → EReal) (q : Fin 1024) : EReal :=
  dy y g t q * g q * Ideal.rsqrt (v y)
    + y q * (∑ _z : Fin 1, Ideal.div ((∑ k, y k * (dy y g t k * g k)) * (H * Ideal.div (Ideal.rsqrt (v y)) (v y))) K)
    + (∑ _z : Fin 1, Ideal.div ((∑ k, y k * (dy y g t k * g k)) * (H * Ideal.div (Ideal.rsqrt (v y)) (v y))) K) * y q

end Cert.Rms

end
-- ==== Proof.Dh2Value.lean ====
/- The gradient through the up projection and the norm before it: for each block of rows the two halves of the
  product are accumulated in a scratch array, then the norm's gradient is taken of it, and its weight's gradient summed. -/
module

public import proofs.«01_k».proof.Defs
public import proofs.«01_k».proof.Proof.Gen.Dh2Ideal.Value
public import proofs.«01_k».proof.Proof.Gen.Dh2RefIdeal.Run
public import Idealize.ShloMosaic.Lib.Pipeline.ValueKit
public import Idealize.ShloMosaic.Lib.Pipeline.ReadBack
public import Idealize.ShloMosaic.Lib.Claim
public import proofs.«01_k».proof.Proof.Rms

@[expose] public section

set_option maxRecDepth 16384

noncomputable section

open Idealize.ShloMosaic Idealize.ShloMosaic.TcCoe Idealize.SL.Sem
open Idealize.ShloMosaic.Pipeline (Dat)

namespace Cert.Dh2Ideal.Alg

open Cert.Dh2Ideal Cert.Dh2Ideal.Gen

variable (m : (ℓ : Loc nD τ sig) → Buf (Elt Ideal) ℓ)

/-- The reference's first result, over the call's arguments. -/
abbrev REF (a0 : FVec Ideal Cert.Dh2RefIdeal.S8192x2816 .bf16) (a1 : FVec Ideal Cert.Dh2RefIdeal.S8192x2816 .bf16) (a2 : FVec Ideal Cert.Dh2RefIdeal.S5632x1024 .bf16) (a3 : FVec Ideal Cert.Dh2RefIdeal.S8192x1024 .f32) (a4 : FVec Ideal Cert.Dh2RefIdeal.S1x1024 .f32) (a5 : FVec Ideal Cert.Dh2RefIdeal.S8192x1024 .f32) :
    FVec Ideal Cert.Dh2RefIdeal.S8192x1024 .f32 :=
  addf (addf (addf a5 (mulf (mulf (Host.dotGeneral Cert.Dh2RefIdeal.dot_S8192x5632_S1024x5632_S8192x1024_1_1_0_0_n_n none (extf .f32 (concatenate Cert.Dh2RefIdeal.S8192x5632 1 [⟨Cert.Dh2RefIdeal.S8192x2816, a0⟩, ⟨Cert.Dh2RefIdeal.S8192x2816, a1⟩] Cert.Dh2RefIdeal.Gen.concatenates_S8192x2816_S8192x2816_S8192x5632_d1) Cert.Dh2RefIdeal.Gen.bitsLt_bf16_f32) (transpose Cert.Dh2RefIdeal.S1024x5632 [1, 0] (extf .f32 a2 Cert.Dh2RefIdeal.Gen.bitsLt_bf16_f32) Cert.Dh2RefIdeal.Gen.transposes_S5632x1024_S1024x5632_1_0)) (broadcastInDim Cert.Dh2RefIdeal.S8192x1024 ![0, 1] Cert.Dh2RefIdeal.Gen.bcast_S1x1024_S8192x1024_0_1 (broadcastInDim Cert.Dh2RefIdeal.S1x1024 ![1] Cert.Dh2RefIdeal.Gen.bcast_S1024_S1x1024_1 (shapeCast _ a4 Cert.Dh2RefIdeal.Gen.shapeCasts_S1x1024_S1024)))) (broadcastInDim Cert.Dh2RefIdeal.S8192x1024 ![0, 1] Cert.Dh2RefIdeal.Gen.bcast_S8192x1_S8192x1024_0_1 (Host.rsqrt (addf (Host.divf (broadcastInDim Cert.Dh2RefIdeal.S8192x1 ![0] Cert.Dh2RefIdeal.Gen.bcast_S8192_S8192x1_0 (Host.reduceAdd (mulf a3 a3) (constant Cert.Dh2RefIdeal.S_ .f32 0x00000000#32) Cert.Dh2RefIdeal.Gen.reducesTo_S8192x1024_S8192_d1 Cert.Dh2RefIdeal.Gen.h_S_)) (broadcastInDim Cert.Dh2RefIdeal.S8192x1 ![] Cert.Dh2RefIdeal.Gen.bcast_S_S8192x1 (constant Cert.Dh2RefIdeal.S_ .f32 0x44800000#32))) (broadcastInDim Cert.Dh2RefIdeal.S8192x1 ![] Cert.Dh2RefIdeal.Gen.bcast_S_S8192x1 (constant Cert.Dh2RefIdeal.S_ .f32 0x358637BD#32))))))) (mulf a3 (broadcastInDim Cert.Dh2RefIdeal.S8192x1024 ![0] Cert.Dh2RefIdeal.Gen.bcast_S8192_S8192x1024_0 (Host.reduceAdd (Host.divf (mulf (shapeCast _ (Host.reduceAdd (mulf a3 (mulf (Host.dotGeneral Cert.Dh2RefIdeal.dot_S8192x5632_S1024x5632_S8192x1024_1_1_0_0_n_n none (extf .f32 (concatenate Cert.Dh2RefIdeal.S8192x5632 1 [⟨Cert.Dh2RefIdeal.S8192x2816, a0⟩, ⟨Cert.Dh2RefIdeal.S8192x2816, a1⟩] Cert.Dh2RefIdeal.Gen.concatenates_S8192x2816_S8192x2816_S8192x5632_d1) Cert.Dh2RefIdeal.Gen.bitsLt_bf16_f32) (transpose Cert.Dh2RefIdeal.S1024x5632 [1, 0] (extf .f32 a2 Cert.Dh2RefIdeal.Gen.bitsLt_bf16_f32) Cert.Dh2RefIdeal.Gen.transposes_S5632x1024_S1024x5632_1_0)) (broadcastInDim Cert.Dh2RefIdeal.S8192x1024 ![0, 1] Cert.Dh2RefIdeal.Gen.bcast_S1x1024_S8192x1024_0_1 (broadcastInDim Cert.Dh2RefIdeal.S1x1024 ![1] Cert.Dh2RefIdeal.Gen.bcast_S1024_S1x1024_1 (shapeCast _ a4 Cert.Dh2RefIdeal.Gen.shapeCasts_S1x1024_S1024))))) (constant Cert.Dh2RefIdeal.S_ .f32 0x00000000#32) Cert.Dh2RefIdeal.Gen.reducesTo_S8192x1024_S8192_d1 Cert.Dh2RefIdeal.Gen.h_S_) Cert.Dh2RefIdeal.Gen.shapeCasts_S8192_S8192x1) (mulf (broadcastInDim Cert.Dh2RefIdeal.S8192x1 ![] Cert.Dh2RefIdeal.Gen.bcast_S_S8192x1 (constant Cert.Dh2RefIdeal.S_ .f32 0xBF000000#32)) (Host.divf (Host.rsqrt (addf (Host.divf (broadcastInDim Cert.Dh2RefIdeal.S8192x1 ![0] Cert.Dh2RefIdeal.Gen.bcast_S8192_S8192x1_0 (Host.reduceAdd (mulf a3 a3) (constant Cert.Dh2RefIdeal.S_ .f32 0x00000000#32) Cert.Dh2RefIdeal.Gen.reducesTo_S8192x1024_S8192_d1 Cert.Dh2RefIdeal.Gen.h_S_)) (broadcastInDim Cert.Dh2RefIdeal.S8192x1 ![] Cert.Dh2RefIdeal.Gen.bcast_S_S8192x1 (constant Cert.Dh2RefIdeal.S_ .f32 0x44800000#32))) (broadcastInDim Cert.Dh2RefIdeal.S8192x1 ![] Cert.Dh2RefIdeal.Gen.bcast_S_S8192x1 (constant Cert.Dh2RefIdeal.S_ .f32 0x358637BD#32)))) (addf (Host.divf (broadcastInDim Cert.Dh2RefIdeal.S8192x1 ![0] Cert.Dh2RefIdeal.Gen.bcast_S8192_S8192x1_0 (Host.reduceAdd (mulf a3 a3) (constant Cert.Dh2RefIdeal.S_ .f32 0x00000000#32) Cert.Dh2RefIdeal.Gen.reducesTo_S8192x1024_S8192_d1 Cert.Dh2RefIdeal.Gen.h_S_)) (broadcastInDim Cert.Dh2RefIdeal.S8192x1 ![] Cert.Dh2RefIdeal.Gen.bcast_S_S8192x1 (constant Cert.Dh2RefIdeal.S_ .f32 0x44800000#32))) (broadcastInDim Cert.Dh2RefIdeal.S8192x1 ![] Cert.Dh2RefIdeal.Gen.bcast_S_S8192x1 (constant Cert.Dh2RefIdeal.S_ .f32 0x358637BD#32)))))) (broadcastInDim Cert.Dh2RefIdeal.S8192x1 ![] Cert.Dh2RefIdeal.Gen.bcast_S_S8192x1 (constant Cert.Dh2RefIdeal.S_ .f32 0x44800000#32))) (constant Cert.Dh2RefIdeal.S_ .f32 0x00000000#32) Cert.Dh2RefIdeal.Gen.reducesTo_S8192x1_S8192_d1 Cert.Dh2RefIdeal.Gen.h_S_)))) (mulf (broadcastInDim Cert.Dh2RefIdeal.S8192x1024 ![0] Cert.Dh2RefIdeal.Gen.bcast_S8192_S8192x1024_0 (Host.reduceAdd (Host.divf (mulf (shapeCast _ (Host.reduceAdd (mulf a3 (mulf (Host.dotGeneral Cert.Dh2RefIdeal.dot_S8192x5632_S1024x5632_S8192x1024_1_1_0_0_n_n none (extf .f32 (concatenate Cert.Dh2RefIdeal.S8192x5632 1 [⟨Cert.Dh2RefIdeal.S8192x2816, a0⟩, ⟨Cert.Dh2RefIdeal.S8192x2816, a1⟩] Cert.Dh2RefIdeal.Gen.concatenates_S8192x2816_S8192x2816_S8192x5632_d1) Cert.Dh2RefIdeal.Gen.bitsLt_bf16_f32) (transpose Cert.Dh2RefIdeal.S1024x5632 [1, 0] (extf .f32 a2 Cert.Dh2RefIdeal.Gen.bitsLt_bf16_f32) Cert.Dh2RefIdeal.Gen.transposes_S5632x1024_S1024x5632_1_0)) (broadcastInDim Cert.Dh2RefIdeal.S8192x1024 ![0, 1] Cert.Dh2RefIdeal.Gen.bcast_S1x1024_S8192x1024_0_1 (broadcastInDim Cert.Dh2RefIdeal.S1x1024 ![1] Cert.Dh2RefIdeal.Gen.bcast_S1024_S1x1024_1 (shapeCast _ a4 Cert.Dh2RefIdeal.Gen.shapeCasts_S1x1024_S1024))))) (constant Cert.Dh2RefIdeal.S_ .f32 0x00000000#32) Cert.Dh2RefIdeal.Gen.reducesTo_S8192x1024_S8192_d1 Cert.Dh2RefIdeal.Gen.h_S_) Cert.Dh2RefIdeal.Gen.shapeCasts_S8192_S8192x1) (mulf (broadcastInDim Cert.Dh2RefIdeal.S8192x1 ![] Cert.Dh2RefIdeal.Gen.bcast_S_S8192x1 (constant Cert.Dh2RefIdeal.S_ .f32 0xBF000000#32)) (Host.divf (Host.rsqrt (addf (Host.divf (broadcastInDim Cert.Dh2RefIdeal.S8192x1 ![0] Cert.Dh2RefIdeal.Gen.bcast_S8192_S8192x1_0 (Host.reduceAdd (mulf a3 a3) (constant Cert.Dh2RefIdeal.S_ .f32 0x00000000#32) Cert.Dh2RefIdeal.Gen.reducesTo_S8192x1024_S8192_d1 Cert.Dh2RefIdeal.Gen.h_S_)) (broadcastInDim Cert.Dh2RefIdeal.S8192x1 ![] Cert.Dh2RefIdeal.Gen.bcast_S_S8192x1 (constant Cert.Dh2RefIdeal.S_ .f32 0x44800000#32))) (broadcastInDim Cert.Dh2RefIdeal.S8192x1 ![] Cert.Dh2RefIdeal.Gen.bcast_S_S8192x1 (constant Cert.Dh2RefIdeal.S_ .f32 0x358637BD#32)))) (addf (Host.divf (broadcastInDim Cert.Dh2RefIdeal.S8192x1 ![0] Cert.Dh2RefIdeal.Gen.bcast_S8192_S8192x1_0 (Host.reduceAdd (mulf a3 a3) (constant Cert.Dh2RefIdeal.S_ .f32 0x00000000#32) Cert.Dh2RefIdeal.Gen.reducesTo_S8192x1024_S8192_d1 Cert.Dh2RefIdeal.Gen.h_S_)) (broadcastInDim Cert.Dh2RefIdeal.S8192x1 ![] Cert.Dh2RefIdeal.Gen.bcast_S_S8192x1 (constant Cert.Dh2RefIdeal.S_ .f32 0x44800000#32))) (broadcastInDim Cert.Dh2RefIdeal.S8192x1 ![] Cert.Dh2RefIdeal.Gen.bcast_S_S8192x1 (constant Cert.Dh2RefIdeal.S_ .f32 0x358637BD#32)))))) (broadcastInDim Cert.Dh2RefIdeal.S8192x1 ![] Cert.Dh2RefIdeal.Gen.bcast_S_S8192x1 (constant Cert.Dh2RefIdeal.S_ .f32 0x44800000#32))) (constant Cert.Dh2RefIdeal.S_ .f32 0x00000000#32) Cert.Dh2RefIdeal.Gen.reducesTo_S8192x1_S8192_d1 Cert.Dh2RefIdeal.Gen.h_S_)) a3)

/-- Its result 2. -/
abbrev REF1 (a0 : FVec Ideal Cert.Dh2RefIdeal.S8192x2816 .bf16) (a1 : FVec Ideal Cert.Dh2RefIdeal.S8192x2816 .bf16) (a2 : FVec Ideal Cert.Dh2RefIdeal.S5632x1024 .bf16) (a3 : FVec Ideal Cert.Dh2RefIdeal.S8192x1024 .f32) (a4 : FVec Ideal Cert.Dh2RefIdeal.S1x1024 .f32) (a5 : FVec Ideal Cert.Dh2RefIdeal.S8192x1024 .f32) :
    FVec Ideal Cert.Dh2RefIdeal.S1x1024 .f32 :=
  broadcastInDim Cert.Dh2RefIdeal.S1x1024 ![1] Cert.Dh2RefIdeal.Gen.bcast_S1024_S1x1024_1 (Host.reduceAdd (shapeCast _ (Host.reduceAdd (mulf (mulf a3 (broadcastInDim Cert.Dh2RefIdeal.S8192x1024 ![0, 1] Cert.Dh2RefIdeal.Gen.bcast_S8192x1_S8192x1024_0_1 (Host.rsqrt (addf (Host.divf (broadcastInDim Cert.Dh2RefIdeal.S8192x1 ![0] Cert.Dh2RefIdeal.Gen.bcast_S8192_S8192x1_0 (Host.reduceAdd (mulf a3 a3) (constant Cert.Dh2RefIdeal.S_ .f32 0x00000000#32) Cert.Dh2RefIdeal.Gen.reducesTo_S8192x1024_S8192_d1 Cert.Dh2RefIdeal.Gen.h_S_)) (broadcastInDim Cert.Dh2RefIdeal.S8192x1 ![] Cert.Dh2RefIdeal.Gen.bcast_S_S8192x1 (constant Cert.Dh2RefIdeal.S_ .f32 0x44800000#32))) (broadcastInDim Cert.Dh2RefIdeal.S8192x1 ![] Cert.Dh2RefIdeal.Gen.bcast_S_S8192x1 (constant Cert.Dh2RefIdeal.S_ .f32 0x358637BD#32)))))) (Host.dotGeneral Cert.Dh2RefIdeal.dot_S8192x5632_S1024x5632_S8192x1024_1_1_0_0_n_n none (extf .f32 (concatenate Cert.Dh2RefIdeal.S8192x5632 1 [⟨Cert.Dh2RefIdeal.S8192x2816, a0⟩, ⟨Cert.Dh2RefIdeal.S8192x2816, a1⟩] Cert.Dh2RefIdeal.Gen.concatenates_S8192x2816_S8192x2816_S8192x5632_d1) Cert.Dh2RefIdeal.Gen.bitsLt_bf16_f32) (transpose Cert.Dh2RefIdeal.S1024x5632 [1, 0] (extf .f32 a2 Cert.Dh2RefIdeal.Gen.bitsLt_bf16_f32) Cert.Dh2RefIdeal.Gen.transposes_S5632x1024_S1024x5632_1_0))) (constant Cert.Dh2RefIdeal.S_ .f32 0x00000000#32) Cert.Dh2RefIdeal.Gen.reducesTo_S8192x1024_S1024_d0 Cert.Dh2RefIdeal.Gen.h_S_) Cert.Dh2RefIdeal.Gen.shapeCasts_S1024_S1x1024) (constant Cert.Dh2RefIdeal.S_ .f32 0x00000000#32) Cert.Dh2RefIdeal.Gen.reducesTo_S1x1024_S1024_d0 Cert.Dh2RefIdeal.Gen.h_S_)

/-- Which block every window is at, for all points of the grid. -/
theorem idx : ∀ t : Fin cfg0.N, win0_0.index t = ![t.val / 4, min (t.val % 4) 1]
    ∧ win0_1.index t = ![t.val % 4, 0] ∧ win0_2.index t = ![t.val / 4, t.val % 4 - 2]
    ∧ win0_3.index t = ![t.val / 4, 0] ∧ win0_4.index t = ![0, 0] ∧ win0_5.index t = ![t.val / 4, 0]
    ∧ win0_6.index t = ![t.val / 4, 0] ∧ win0_7.index t = ![0, 0] :=
  (by decide +kernel : ∀ t : Fin grid0.N, _)

/-- The scratch array's zero fill. -/
theorem zero_at (j : S1024x1024.Idx) : k0_pay2 (F := Ideal) j = 0 := by pointwise [k0_pay2]

/-- The weight gradient's zero fill. -/
theorem zero1_at (j : S1x1024.Idx) : k0_pay1 (F := Ideal) j = 0 := by pointwise [k0_pay1]

/-- One step with the first operand. -/
theorem step_at (acc : FVec Ideal S1024x1024 .f32) (x0 : FVec Ideal S1024x1408 .bf16) (x1 : FVec Ideal S1408x1024 .bf16)
    (j : S1024x1024.Idx) :
    k0_pay3 (F := Ideal) acc x0 x1 j = acc j + ∑ k : Fin 1408, x0 (ix2 (j 0) k) * x1 (ix2 k (j 1)) := by
  pointwise [k0_pay3]

/-- One step with the second operand. -/
theorem step2_at (acc : FVec Ideal S1024x1024 .f32) (x0 : FVec Ideal S1024x1408 .bf16) (x1 : FVec Ideal S1408x1024 .bf16)
    (j : S1024x1024.Idx) :
    k0_pay4 (F := Ideal) acc x0 x1 j = acc j + ∑ k : Fin 1408, x0 (ix2 (j 0) k) * x1 (ix2 k (j 1)) := by
  pointwise [k0_pay4]

/-- Every row of a block is a row of the array. -/
theorem row_lt (t : Fin cfg0.N) (p : Fin 1024) : t.val / 4 * 1024 + p.val < 8192 := by
  have hN : t.val < 32 := t.isLt
  omega

/-- The call's arguments, each with its shape. -/
abbrev A0 (c : Dev nD) : FVec Ideal S8192x2816 .bf16 := m ((c : Thread nD τ).loc main_arg0)
abbrev A1 (c : Dev nD) : FVec Ideal S8192x2816 .bf16 := m ((c : Thread nD τ).loc main_arg1)
abbrev A2 (c : Dev nD) : FVec Ideal S5632x1024 .bf16 := m ((c : Thread nD τ).loc main_arg2)
abbrev A3 (c : Dev nD) : FVec Ideal S8192x1024 .f32 := m ((c : Thread nD τ).loc main_arg3)
abbrev A4 (c : Dev nD) : FVec Ideal S1x1024 .f32 := m ((c : Thread nD τ).loc main_arg4)
abbrev A5 (c : Dev nD) : FVec Ideal S8192x1024 .f32 := m ((c : Thread nD τ).loc main_arg5)

/-- The first half's block at a point. -/
def B0 (c : Dev nD) (t : Fin cfg0.N) : FVec Ideal S1024x1408 .bf16 := iblk m c 0 t
/-- The weight's block at a point. -/
def B1 (c : Dev nD) (t : Fin cfg0.N) : FVec Ideal S1408x1024 .bf16 := iblk m c 1 t
/-- The second half's block at a point. -/
def B2 (c : Dev nD) (t : Fin cfg0.N) : FVec Ideal S1024x1408 .bf16 := iblk m c 2 t

/-- The residual stream's block at a point. -/
def B3 (c : Dev nD) (t : Fin cfg0.N) : FVec Ideal S1024x1024 .f32 := iblk m c 3 t

/-- The norm's weight at a point. -/
def B4 (c : Dev nD) (t : Fin cfg0.N) : FVec Ideal S1x1024 .f32 := iblk m c 4 t
/-- The residual's gradient at a point. -/
def B5 (c : Dev nD) (t : Fin cfg0.N) : FVec Ideal S1024x1024 .f32 := iblk m c 5 t
/-- The scratch array after a point. -/
def SC (c : Dev nD) (t : Fin cfg0.N) : FVec Ideal S1024x1024 .f32 := (outsAt0 m c t.val t.isLt).2.2

theorem B4_at (c : Dev nD) (t : Fin cfg0.N) (q : Fin 1024) : B4 m c t (ix2 0 q) = A4 m c (ix2 0 q) := by
  unfold B4
  blk_point [iblk, V, idx t]

theorem B5_at (c : Dev nD) (t : Fin cfg0.N) (p : Fin 1024) (q : Fin 1024) :
    B5 m c t (ix2 p q) = A5 m c (ix2 ⟨t.val / 4 * 1024 + p.val, row_lt t p⟩ q) := by
  unfold B5
  blk_point [iblk, V, idx t]

theorem B0_at (c : Dev nD) (t : Fin cfg0.N) (p : Fin 1024) (k : Fin 1408) :
    B0 m c t (ix2 p k) = A0 m c (ix2 ⟨t.val / 4 * 1024 + p.val, row_lt t p⟩ ⟨min (t.val % 4) 1 * 1408 + k.val, by omega⟩) := by
  unfold B0
  blk_point [iblk, V, idx t]

theorem B1_at (c : Dev nD) (t : Fin cfg0.N) (k : Fin 1408) (q : Fin 1024) :
    B1 m c t (ix2 k q) = A2 m c (ix2 ⟨t.val % 4 * 1408 + k.val, by omega⟩ q) := by
  unfold B1
  blk_point [iblk, V, idx t]

theorem B2_at (c : Dev nD) (t : Fin cfg0.N) (p : Fin 1024) (k : Fin 1408) :
    B2 m c t (ix2 p k) = A1 m c (ix2 ⟨t.val / 4 * 1024 + p.val, row_lt t p⟩ ⟨(t.val % 4 - 2) * 1408 + k.val, by omega⟩) := by
  unfold B2
  blk_point [iblk, V, idx t]

theorem B3_at (c : Dev nD) (t : Fin cfg0.N) (p : Fin 1024) (q : Fin 1024) :
    B3 m c t (ix2 p q) = A3 m c (ix2 ⟨t.val / 4 * 1024 + p.val, row_lt t p⟩ q) := by
  unfold B3
  blk_point [iblk, V, idx t]

/-- The gradient behind the norm: the product of the two halves, side by side, with the weight. -/
def DH (c : Dev nD) (p : Fin 8192) (q : Fin 1024) : EReal :=
  ∑ x : Fin 2816, A0 m c (ix2 p x) * A2 m c (ix2 ⟨x.val, by omega⟩ q)
    + ∑ x : Fin 2816, A1 m c (ix2 p x) * A2 m c (ix2 ⟨2816 + x.val, by omega⟩ q)

/-- The scratch array after the last point of a block of rows. -/
theorem scratch (c : Dev nD) (t : Fin cfg0.N) (h : t.val % 4 = 3) (p : Fin 1024) (q : Fin 1024) :
    SC m c t (ix2 p q) = DH m c ⟨t.val / 4 * 1024 + p.val, row_lt t p⟩ q := by
  have hN : t.val < 32 := t.isLt
  unfold SC
  rw [Pipeline.eq_sum_fin_of_reset_step_apply_of_flush (fun n h => (outsAt0 m c n h).2.2) 4 (fun _ => 0)
    (fun t j => ∑ k : Fin 1408, (if t.val % 4 ≤ 1 then B0 m c t else B2 m c t) (ix2 (j 0) k) * B1 m c t (ix2 k (j 1)))
    (fun t h j => by
      by_cases h0 : t.val % 32 = 0
      · rw [outsAt0_A m c t h0 h (by omega) (by omega) (by omega)]; frame_out; rw [step_at, zero_at, if_pos (by omega)]; rfl
      · rw [outsAt0_E m c t h0 h (by omega) (by omega) (by omega)]; frame_out; rw [step_at, zero_at, if_pos (by omega)]; rfl)
    (fun t h j => by
      by_cases h2 : t.val % 4 ≤ 1
      · rw [outsAt0_B m c t (by omega) h h2 (by omega) (by omega)]; frame_out; rw [step_at, read_unread_whole, if_pos h2]; rfl
      · by_cases h3 : t.val % 4 = 3
        · rw [outsAt0_D m c t (by omega) h h2 (by omega) h3]; frame_out; rw [step2_at, read_unread_whole, if_neg h2]; rfl
        · rw [outsAt0_C m c t (by omega) h h2 (by omega) h3]; frame_out; rw [step2_at, read_unread_whole, if_neg h2]; rfl)
    t h _, zero_add]
  have h1 : ∑ s : Fin 2, ∑ k : Fin 1408, B0 m c ⟨4 * (t.val / 4) + s.val, by have := s.isLt; have : cfg0.N = 32 := rfl; omega⟩ (ix2 p k)
      * B1 m c ⟨4 * (t.val / 4) + s.val, by have := s.isLt; have : cfg0.N = 32 := rfl; omega⟩ (ix2 k q)
      = ∑ x : Fin 2816, A0 m c (ix2 ⟨t.val / 4 * 1024 + p.val, row_lt t p⟩ x) * A2 m c (ix2 ⟨x.val, by omega⟩ q) := by
    refine Fin.sum_mul_add_congr fun s k hl => ?_
    have hs := s.isLt
    rw [B0_at, B1_at]
    congr 3 <;> (apply Fin.ext; simp only []; omega)
  have h2 : ∑ s : Fin 2, ∑ k : Fin 1408, B2 m c ⟨4 * (t.val / 4) + 2 + s.val, by have := s.isLt; have : cfg0.N = 32 := rfl; omega⟩ (ix2 p k)
      * B1 m c ⟨4 * (t.val / 4) + 2 + s.val, by have := s.isLt; have : cfg0.N = 32 := rfl; omega⟩ (ix2 k q)
      = ∑ x : Fin 2816, A1 m c (ix2 ⟨t.val / 4 * 1024 + p.val, row_lt t p⟩ x) * A2 m c (ix2 ⟨2816 + x.val, by omega⟩ q) := by
    refine Fin.sum_mul_add_congr fun s k hl => ?_
    have hs := s.isLt
    rw [B2_at, B1_at]
    congr 3 <;> (apply Fin.ext; simp only []; omega)
  rw [DH, ← h1, ← h2, Fin.sum_univ_two, Fin.sum_univ_two, Fin.sum_univ_four, add_assoc (_ + _)]
  have m0 : (4 * (t.val / 4) + (0 : Fin 4).val) % 4 ≤ 1 := by show (4 * (t.val / 4) + 0) % 4 ≤ 1; omega
  have m1 : (4 * (t.val / 4) + (1 : Fin 4).val) % 4 ≤ 1 := by show (4 * (t.val / 4) + 1) % 4 ≤ 1; omega
  have m2 : ¬ (4 * (t.val / 4) + (2 : Fin 4).val) % 4 ≤ 1 := by show ¬ (4 * (t.val / 4) + 2) % 4 ≤ 1; omega
  have m3 : ¬ (4 * (t.val / 4) + (3 : Fin 4).val) % 4 ≤ 1 := by show ¬ (4 * (t.val / 4) + 3) % 4 ≤ 1; omega
  rw [if_pos m0, if_pos m1, if_neg m2, if_neg m3]
  rfl

/-- The gradient's block of rows. -/
theorem dx_last (c : Dev nD) (t : Fin cfg0.N) (h : t.val % 4 = 3) :
    (outsAt0 m c t.val t.isLt).1 = k0_pay7 (F := Ideal) (SC m c t) (B3 m c t) (B4 m c t) (B5 m c t) := by
  unfold SC
  rw [outsAt0_D m c t (by omega) (by omega) (by omega) (by omega) h]
  frame_out
  rfl

/-- One element of the gradient's block, the product already a row of `DH`. -/
theorem dx_at (a x d : FVec Ideal S1024x1024 .f32) (g : FVec Ideal S1x1024 .f32) (j : S1024x1024.Idx) :
    k0_pay7 (F := Ideal) a x g d j = d j + a j * g (ix2 0 (j 1)) * Ideal.rsqrt (Rms.v fun k => x (ix2 (j 0) k))
      + x j * (∑ _z : Fin 1, Ideal.div ((∑ k, x (ix2 (j 0) k) * (a (ix2 (j 0) k) * g (ix2 0 k)))
          * (Rms.H * Ideal.div (Ideal.rsqrt (Rms.v fun k => x (ix2 (j 0) k))) (Rms.v fun k => x (ix2 (j 0) k)))) Rms.K)
      + (∑ _z : Fin 1, Ideal.div ((∑ k, x (ix2 (j 0) k) * (a (ix2 (j 0) k) * g (ix2 0 k)))
          * (Rms.H * Ideal.div (Ideal.rsqrt (Rms.v fun k => x (ix2 (j 0) k))) (Rms.v fun k => x (ix2 (j 0) k)))) Rms.K) * x j := by
  pointwise [k0_pay7, k0_pay6, k0_pay5]
  exact Rms.dx_eq (fun k => x (ix2 (j 0) k)) (fun k => a (ix2 (j 0) k) * g (ix2 0 k)) (d j) (x j) (a j * g (ix2 0 (j 1)))

/-- What one block of rows adds to the gradient of the norm's weight. -/
theorem dg_at (a x : FVec Ideal S1024x1024 .f32) (g : FVec Ideal S1x1024 .f32) (j : S1x1024.Idx) :
    k0_pay8 (F := Ideal) a x g j = g j + ∑ k : Fin 1024, x (ix2 k (j 1)) * Ideal.rsqrt (Rms.v fun l => x (ix2 k l)) * a (ix2 k (j 1)) := by
  pointwise [k0_pay8, k0_pay6, k0_pay5]
  exact congrArg (g j + ·) (Finset.sum_congr rfl fun _ _ => mul_comm _ _)

/-- The reference's first result at an index. -/
theorem ref_at (c : Dev nD) (p : Fin 8192) (q : Fin 1024) : REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 p q)
    = A5 m c (ix2 p q) + DH m c p q * A4 m c (ix2 0 q) * Ideal.rsqrt (Rms.v fun k => A3 m c (ix2 p k))
      + A3 m c (ix2 p q) * (∑ _z : Fin 1, Ideal.div ((∑ k, A3 m c (ix2 p k) * (DH m c p k * A4 m c (ix2 0 k))) * (Rms.H * Ideal.div (Ideal.rsqrt (Rms.v fun k => A3 m c (ix2 p k))) (Rms.v fun k => A3 m c (ix2 p k)))) Rms.K)
      + (∑ _z : Fin 1, Ideal.div ((∑ k, A3 m c (ix2 p k) * (DH m c p k * A4 m c (ix2 0 k))) * (Rms.H * Ideal.div (Ideal.rsqrt (Rms.v fun k => A3 m c (ix2 p k))) (Rms.v fun k => A3 m c (ix2 p k)))) Rms.K) * A3 m c (ix2 p q) := by
  pointwise [REF]
  rfl

/-- Where an element of the gradient's block lies. -/
theorem emb6 (t : Fin cfg0.N) (p : Fin 1024) (q : Fin 1024) :
    (win0_6.blk t).view.emb (ix2 p q) = ix2 ⟨t.val / 4 * 1024 + p.val, row_lt t p⟩ q := by
  blk_point [idx t]

/-- The gradient's array. -/
theorem final (c : Dev nD) : (dats m 0 c).arrAt 6 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  have h3 := (flush0_6 t).mp hf
  obtain ⟨p, q, rfl⟩ : ∃ (p : Fin 1024) (q : Fin 1024), y = ix2 p q := ⟨y 0, y 1, eq_ix2 y⟩
  blk_simp
  rw [after0_6, dx_last m c t h3, emb6, ref_at, dx_at]
  simp only [ix2_0, ix2_1, B3_at, B4_at, B5_at, scratch m c t h3]

/-- What a point adds to the gradient of the norm's weight: at the last point of a block of rows, that block's. -/
def DG (c : Dev nD) (t : Fin cfg0.N) (q : Fin 1024) : EReal :=
  if t.val % 4 = 3 then ∑ k : Fin 1024, B3 m c t (ix2 k q) * Ideal.rsqrt (Rms.v fun l => B3 m c t (ix2 k l))
    * DH m c ⟨t.val / 4 * 1024 + k.val, row_lt t k⟩ q else 0

/-- A point that is not the last of its block of rows adds nothing. -/
theorem DG_neg (c : Dev nD) (t : Fin cfg0.N) (q : Fin 1024) (h : ¬ t.val % 4 = 3) : DG m c t q = 0 := if_neg h

/-- The last point of a block of rows adds the block's part to the gradient of the norm's weight. -/
theorem dg_step (c : Dev nD) (t : Fin cfg0.N) (h : ¬ t.val % 32 = 0) (h1 : ¬ t.val % 4 = 0) (h2 : ¬ t.val % 4 ≤ 1) (h3 : t.val % 4 = 3)
    (q : Fin 1024) :
    (outsAt0 m c t.val t.isLt).2.1 (ix2 0 q) = (outsAt0 m c (t.val - 1) (Nat.lt_of_le_of_lt (Nat.sub_le _ _) t.isLt)).2.1 (ix2 0 q)
      + ∑ k : Fin 1024, B3 m c t (ix2 k q) * Ideal.rsqrt (Rms.v fun l => B3 m c t (ix2 k l))
        * DH m c ⟨t.val / 4 * 1024 + k.val, row_lt t k⟩ q := by
  have e : (outsAt0 m c t.val t.isLt).2.1 = k0_pay8 (SC m c t) (B3 m c t)
      (outsAt0 m c (t.val - 1) (Nat.lt_of_le_of_lt (Nat.sub_le _ _) t.isLt)).2.1 := by
    unfold SC
    rw [outsAt0_D m c t h h1 h2 (by omega) h3]
    frame_out
    rfl
  rw [e, dg_at]
  simp only [ix2_1, scratch m c t h3]

/-- The reference's second result at an index. -/
theorem ref1_at (c : Dev nD) (q : Fin 1024) : REF1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 0 q)
    = ∑ x : Fin 8192, A3 m c (ix2 x q) * Ideal.rsqrt (Rms.v fun k => A3 m c (ix2 x k)) * DH m c x q := by
  pointwise [REF1]
  rw [Fin.sum_univ_one]
  rfl

/-- Where an element of the weight gradient's block lies. -/
theorem emb7 (t : Fin cfg0.N) (q : Fin 1024) : (win0_7.blk t).view.emb (ix2 0 q) = ix2 0 q := by
  blk_point [idx t]

/-- All points' parts, summed: only the last point of a block of rows has one. -/
theorem DG_sum (c : Dev nD) (q : Fin 1024) : ∑ s : Fin 32, DG m c s q
    = ∑ x : Fin 8192, A3 m c (ix2 x q) * Ideal.rsqrt (Rms.v fun k => A3 m c (ix2 x k)) * DH m c x q := by
  rw [← Fin.sum_mul_add_congr (S := 8) (n := 4) (f := fun s : Fin 32 => DG m c s q)
      (F := fun s j => DG m c ⟨s.val * 4 + j.val, by have : cfg0.N = 32 := rfl; omega⟩ q) (fun s k hl => rfl),
    ← Fin.sum_mul_add_congr (S := 8) (n := 1024)
      (f := fun x : Fin 8192 => A3 m c (ix2 x q) * Ideal.rsqrt (Rms.v fun k => A3 m c (ix2 x k)) * DH m c x q)
      (F := fun s k => A3 m c (ix2 ⟨s.val * 1024 + k.val, by omega⟩ q)
        * Ideal.rsqrt (Rms.v fun l => A3 m c (ix2 ⟨s.val * 1024 + k.val, by omega⟩ l)) * DH m c ⟨s.val * 1024 + k.val, by omega⟩ q)
      (fun s k hl => rfl)]
  refine Finset.sum_congr rfl fun s _ => ?_
  rw [Fin.sum_univ_four, DG_neg m c _ _ (show ¬ (s.val * 4 + 0) % 4 = 3 by omega), DG_neg m c _ _ (show ¬ (s.val * 4 + 1) % 4 = 3 by omega),
    DG_neg m c _ _ (show ¬ (s.val * 4 + 2) % 4 = 3 by omega), zero_add, zero_add, zero_add]
  refine (if_pos (show (s.val * 4 + 3) % 4 = 3 by omega)).trans ?_
  have e : (s.val * 4 + (3 : Fin 4).val) / 4 = s.val := by show (s.val * 4 + 3) / 4 = s.val; omega
  simp only [B3_at, e]

/-- The weight gradient's array. -/
theorem final1 (c : Dev nD) : (dats m 0 c).arrAt 7 (cfgs 0).N = REF1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  have hN : t.val < 32 := t.isLt
  obtain ⟨z, q, rfl⟩ : ∃ (z : Fin 1) (q : Fin 1024), y = ix2 z q := ⟨y 0, y 1, eq_ix2 y⟩
  obtain rfl : z = 0 := Subsingleton.elim _ _
  blk_simp
  rw [after0_7, emb7, ref1_at, ← DG_sum,
    Pipeline.eq_sum_fin_of_reset_step_apply_of_flush (fun n h => (outsAt0 m c n h).2.1) 32 (fun _ => 0) (fun t j => DG m c t (j 1))
    (fun t h j => by
      rw [outsAt0_A m c t h (by omega) (by omega) (by omega) (by omega)]; frame_out; rw [zero1_at]; exact (congrArg (_ + ·) (DG_neg m c t _ (by omega))).trans (add_zero _) |>.symm)
    (fun t h j => by
      by_cases h1 : t.val % 4 = 0
      · rw [outsAt0_E m c t h h1 (by omega) (by omega) (by omega)]; frame_out; exact (congrArg (_ + ·) (DG_neg m c t _ (by omega))).trans (add_zero _) |>.symm
      · by_cases h2 : t.val % 4 ≤ 1
        · rw [outsAt0_B m c t h h1 h2 (by omega) (by omega)]; frame_out; exact (congrArg (_ + ·) (DG_neg m c t _ (by omega))).trans (add_zero _) |>.symm
        · by_cases h3 : t.val % 4 = 3
          · obtain ⟨z, q, rfl⟩ : ∃ (z : Fin 1) (q : Fin 1024), j = ix2 z q := ⟨j 0, j 1, eq_ix2 j⟩
            obtain rfl : z = 0 := Subsingleton.elim _ _
            exact (dg_step m c t h h1 h2 h3 q).trans (congrArg (_ + ·) (if_pos h3).symm)
          · rw [outsAt0_C m c t h h1 h2 (by omega) h3]; frame_out; exact (congrArg (_ + ·) (DG_neg m c t _ h3)).trans (add_zero _) |>.symm)
    t ((flush0_7 t).mp hf) _, zero_add]
  have e : ∀ s : Fin 32, (⟨32 * (t.val / 32) + s.val, by have : cfg0.N = 32 := rfl; omega⟩ : Fin cfg0.N) = s := fun s => by
    apply Fin.ext
    show 32 * (t.val / 32) + s.val = s.val
    omega
  exact congrArg (fun f : Fin 32 → Fin cfg0.N => ∑ s, DG m c (f s) q) (funext e)

/-- The claim: the call's two results are the reference's. -/
theorem algebraic : Cert.algebraic_Dh2Ideal_Dh2RefIdeal := by
  pair_intro
  · run_from Cert.Dh2Ideal.Value.run_blocks m g
  · run_from Cert.Dh2RefIdeal.Value.run (F := Ideal) m' g'
    · obtain ⟨h0, h1, h2, h3, h4, h5⟩ := hagree c
      refine Eq.trans ?_ (final m c).symm
      unfold Cert.Dh2RefIdeal.Value.res_main_v43
      rw [h0, h1, h2, h3, h4, h5]
    · exact (final1 m c).symm

end Cert.Dh2Ideal.Alg

end
-- ==== Proof.LossValue.lean ====
/- The down projection, the final norm and the loss, and the loss's gradient at the residual stream: row blocks one by one,
   the weight gradient and the loss summed over them. -/
module

public import proofs.«01_k».proof.Defs
public import proofs.«01_k».proof.Proof.Gen.LossIdeal.Value
public import proofs.«01_k».proof.Proof.Gen.LossRefIdeal.Run
public import Idealize.ShloMosaic.Lib.Pipeline.ValueKit
public import Idealize.ShloMosaic.Lib.Pipeline.ReadBack
public import Idealize.ShloMosaic.Lib.Claim
public import proofs.«01_k».proof.Proof.Rms

@[expose] public section

set_option maxRecDepth 16384

noncomputable section

open Idealize.ShloMosaic Idealize.ShloMosaic.TcCoe Idealize.SL.Sem
open Idealize.ShloMosaic.Pipeline (Dat)

namespace Cert.LossIdeal.Alg

open Cert.LossIdeal Cert.LossIdeal.Gen

variable (m : (ℓ : Loc nD τ sig) → Buf (Elt Ideal) ℓ)

/-- The reference's first result, over the call's arguments. -/
abbrev REF (a0 : FVec Ideal Cert.LossRefIdeal.S8192x2816 .bf16) (a1 : FVec Ideal Cert.LossRefIdeal.S2816x1024 .bf16) (a2 : FVec Ideal Cert.LossRefIdeal.S8192x1024 .f32) (a3 : FVec Ideal Cert.LossRefIdeal.S8192x1024 .f32) (a4 : FVec Ideal Cert.LossRefIdeal.S1x1024 .f32) :
    FVec Ideal Cert.LossRefIdeal.S8192x1024 .f32 :=
  addf (addf (mulf (mulf (mulf (broadcastInDim Cert.LossRefIdeal.S8192x1024 ![0] Cert.LossRefIdeal.Gen.bcast_S8192_S8192x1024_0 (Host.divf (broadcastInDim Cert.LossRefIdeal.S8192 ![] Cert.LossRefIdeal.Gen.bcast_S_S8192 (mulf (constant Cert.LossRefIdeal.S_ .f32 0x3F000000#32) (constant Cert.LossRefIdeal.S_ .f32 0x3F800000#32))) (broadcastInDim Cert.LossRefIdeal.S8192 ![] Cert.LossRefIdeal.Gen.bcast_S_S8192 (constant Cert.LossRefIdeal.S_ .f32 0x44800000#32)))) (mulf (broadcastInDim Cert.LossRefIdeal.S8192x1024 ![] Cert.LossRefIdeal.Gen.bcast_S_S8192x1024 (constant Cert.LossRefIdeal.S_ .f32 0x40000000#32)) (subf (mulf (mulf (addf a2 (Host.dotGeneral Cert.LossRefIdeal.dot_S8192x2816_S2816x1024_S8192x1024_1_0_0_1_n_n none (extf .f32 a0 Cert.LossRefIdeal.Gen.bitsLt_bf16_f32) (extf .f32 a1 Cert.LossRefIdeal.Gen.bitsLt_bf16_f32))) (broadcastInDim Cert.LossRefIdeal.S8192x1024 ![0, 1] Cert.LossRefIdeal.Gen.bcast_S8192x1_S8192x1024_0_1 (Host.rsqrt (addf (Host.divf (broadcastInDim Cert.LossRefIdeal.S8192x1 ![0] Cert.LossRefIdeal.Gen.bcast_S8192_S8192x1_0 (Host.reduceAdd (mulf (addf a2 (Host.dotGeneral Cert.LossRefIdeal.dot_S8192x2816_S2816x1024_S8192x1024_1_0_0_1_n_n none (extf .f32 a0 Cert.LossRefIdeal.Gen.bitsLt_bf16_f32) (extf .f32 a1 Cert.LossRefIdeal.Gen.bitsLt_bf16_f32))) (addf a2 (Host.dotGeneral Cert.LossRefIdeal.dot_S8192x2816_S2816x1024_S8192x1024_1_0_0_1_n_n none (extf .f32 a0 Cert.LossRefIdeal.Gen.bitsLt_bf16_f32) (extf .f32 a1 Cert.LossRefIdeal.Gen.bitsLt_bf16_f32)))) (constant Cert.LossRefIdeal.S_ .f32 0x00000000#32) Cert.LossRefIdeal.Gen.reducesTo_S8192x1024_S8192_d1 Cert.LossRefIdeal.Gen.h_S_)) (broadcastInDim Cert.LossRefIdeal.S8192x1 ![] Cert.LossRefIdeal.Gen.bcast_S_S8192x1 (constant Cert.LossRefIdeal.S_ .f32 0x44800000#32))) (broadcastInDim Cert.LossRefIdeal.S8192x1 ![] Cert.LossRefIdeal.Gen.bcast_S_S8192x1 (constant Cert.LossRefIdeal.S_ .f32 0x358637BD#32)))))) (broadcastInDim Cert.LossRefIdeal.S8192x1024 ![0, 1] Cert.LossRefIdeal.Gen.bcast_S1x1024_S8192x1024_0_1 (broadcastInDim Cert.LossRefIdeal.S1x1024 ![1] Cert.LossRefIdeal.Gen.bcast_S1024_S1x1024_1 (shapeCast _ a4 Cert.LossRefIdeal.Gen.shapeCasts_S1x1024_S1024)))) a3))) (broadcastInDim Cert.LossRefIdeal.S8192x1024 ![0, 1] Cert.LossRefIdeal.Gen.bcast_S1x1024_S8192x1024_0_1 (broadcastInDim Cert.LossRefIdeal.S1x1024 ![1] Cert.LossRefIdeal.Gen.bcast_S1024_S1x1024_1 (shapeCast _ a4 Cert.LossRefIdeal.Gen.shapeCasts_S1x1024_S1024)))) (broadcastInDim Cert.LossRefIdeal.S8192x1024 ![0, 1] Cert.LossRefIdeal.Gen.bcast_S8192x1_S8192x1024_0_1 (Host.rsqrt (addf (Host.divf (broadcastInDim Cert.LossRefIdeal.S8192x1 ![0] Cert.LossRefIdeal.Gen.bcast_S8192_S8192x1_0 (Host.reduceAdd (mulf (addf a2 (Host.dotGeneral Cert.LossRefIdeal.dot_S8192x2816_S2816x1024_S8192x1024_1_0_0_1_n_n none (extf .f32 a0 Cert.LossRefIdeal.Gen.bitsLt_bf16_f32) (extf .f32 a1 Cert.LossRefIdeal.Gen.bitsLt_bf16_f32))) (addf a2 (Host.dotGeneral Cert.LossRefIdeal.dot_S8192x2816_S2816x1024_S8192x1024_1_0_0_1_n_n none (extf .f32 a0 Cert.LossRefIdeal.Gen.bitsLt_bf16_f32) (extf .f32 a1 Cert.LossRefIdeal.Gen.bitsLt_bf16_f32)))) (constant Cert.LossRefIdeal.S_ .f32 0x00000000#32) Cert.LossRefIdeal.Gen.reducesTo_S8192x1024_S8192_d1 Cert.LossRefIdeal.Gen.h_S_)) (broadcastInDim Cert.LossRefIdeal.S8192x1 ![] Cert.LossRefIdeal.Gen.bcast_S_S8192x1 (constant Cert.LossRefIdeal.S_ .f32 0x44800000#32))) (broadcastInDim Cert.LossRefIdeal.S8192x1 ![] Cert.LossRefIdeal.Gen.bcast_S_S8192x1 (constant Cert.LossRefIdeal.S_ .f32 0x358637BD#32)))))) (mulf (addf a2 (Host.dotGeneral Cert.LossRefIdeal.dot_S8192x2816_S2816x1024_S8192x1024_1_0_0_1_n_n none (extf .f32 a0 Cert.LossRefIdeal.Gen.bitsLt_bf16_f32) (extf .f32 a1 Cert.LossRefIdeal.Gen.bitsLt_bf16_f32))) (broadcastInDim Cert.LossRefIdeal.S8192x1024 ![0] Cert.LossRefIdeal.Gen.bcast_S8192_S8192x1024_0 (Host.reduceAdd (Host.divf (mulf (shapeCast _ (Host.reduceAdd (mulf (addf a2 (Host.dotGeneral Cert.LossRefIdeal.dot_S8192x2816_S2816x1024_S8192x1024_1_0_0_1_n_n none (extf .f32 a0 Cert.LossRefIdeal.Gen.bitsLt_bf16_f32) (extf .f32 a1 Cert.LossRefIdeal.Gen.bitsLt_bf16_f32))) (mulf (mulf (broadcastInDim Cert.LossRefIdeal.S8192x1024 ![0] Cert.LossRefIdeal.Gen.bcast_S8192_S8192x1024_0 (Host.divf (broadcastInDim Cert.LossRefIdeal.S8192 ![] Cert.LossRefIdeal.Gen.bcast_S_S8192 (mulf (constant Cert.LossRefIdeal.S_ .f32 0x3F000000#32) (constant Cert.LossRefIdeal.S_ .f32 0x3F800000#32))) (broadcastInDim Cert.LossRefIdeal.S8192 ![] Cert.LossRefIdeal.Gen.bcast_S_S8192 (constant Cert.LossRefIdeal.S_ .f32 0x44800000#32)))) (mulf (broadcastInDim Cert.LossRefIdeal.S8192x1024 ![] Cert.LossRefIdeal.Gen.bcast_S_S8192x1024 (constant Cert.LossRefIdeal.S_ .f32 0x40000000#32)) (subf (mulf (mulf (addf a2 (Host.dotGeneral Cert.LossRefIdeal.dot_S8192x2816_S2816x1024_S8192x1024_1_0_0_1_n_n none (extf .f32 a0 Cert.LossRefIdeal.Gen.bitsLt_bf16_f32) (extf .f32 a1 Cert.LossRefIdeal.Gen.bitsLt_bf16_f32))) (broadcastInDim Cert.LossRefIdeal.S8192x1024 ![0, 1] Cert.LossRefIdeal.Gen.bcast_S8192x1_S8192x1024_0_1 (Host.rsqrt (addf (Host.divf (broadcastInDim Cert.LossRefIdeal.S8192x1 ![0] Cert.LossRefIdeal.Gen.bcast_S8192_S8192x1_0 (Host.reduceAdd (mulf (addf a2 (Host.dotGeneral Cert.LossRefIdeal.dot_S8192x2816_S2816x1024_S8192x1024_1_0_0_1_n_n none (extf .f32 a0 Cert.LossRefIdeal.Gen.bitsLt_bf16_f32) (extf .f32 a1 Cert.LossRefIdeal.Gen.bitsLt_bf16_f32))) (addf a2 (Host.dotGeneral Cert.LossRefIdeal.dot_S8192x2816_S2816x1024_S8192x1024_1_0_0_1_n_n none (extf .f32 a0 Cert.LossRefIdeal.Gen.bitsLt_bf16_f32) (extf .f32 a1 Cert.LossRefIdeal.Gen.bitsLt_bf16_f32)))) (constant Cert.LossRefIdeal.S_ .f32 0x00000000#32) Cert.LossRefIdeal.Gen.reducesTo_S8192x1024_S8192_d1 Cert.LossRefIdeal.Gen.h_S_)) (broadcastInDim Cert.LossRefIdeal.S8192x1 ![] Cert.LossRefIdeal.Gen.bcast_S_S8192x1 (constant Cert.LossRefIdeal.S_ .f32 0x44800000#32))) (broadcastInDim Cert.LossRefIdeal.S8192x1 ![] Cert.LossRefIdeal.Gen.bcast_S_S8192x1 (constant Cert.LossRefIdeal.S_ .f32 0x358637BD#32)))))) (broadcastInDim Cert.LossRefIdeal.S8192x1024 ![0, 1] Cert.LossRefIdeal.Gen.bcast_S1x1024_S8192x1024_0_1 (broadcastInDim Cert.LossRefIdeal.S1x1024 ![1] Cert.LossRefIdeal.Gen.bcast_S1024_S1x1024_1 (shapeCast _ a4 Cert.LossRefIdeal.Gen.shapeCasts_S1x1024_S1024)))) a3))) (broadcastInDim Cert.LossRefIdeal.S8192x1024 ![0, 1] Cert.LossRefIdeal.Gen.bcast_S1x1024_S8192x1024_0_1 (broadcastInDim Cert.LossRefIdeal.S1x1024 ![1] Cert.LossRefIdeal.Gen.bcast_S1024_S1x1024_1 (shapeCast _ a4 Cert.LossRefIdeal.Gen.shapeCasts_S1x1024_S1024))))) (constant Cert.LossRefIdeal.S_ .f32 0x00000000#32) Cert.LossRefIdeal.Gen.reducesTo_S8192x1024_S8192_d1 Cert.LossRefIdeal.Gen.h_S_) Cert.LossRefIdeal.Gen.shapeCasts_S8192_S8192x1) (mulf (broadcastInDim Cert.LossRefIdeal.S8192x1 ![] Cert.LossRefIdeal.Gen.bcast_S_S8192x1 (constant Cert.LossRefIdeal.S_ .f32 0xBF000000#32)) (Host.divf (Host.rsqrt (addf (Host.divf (broadcastInDim Cert.LossRefIdeal.S8192x1 ![0] Cert.LossRefIdeal.Gen.bcast_S8192_S8192x1_0 (Host.reduceAdd (mulf (addf a2 (Host.dotGeneral Cert.LossRefIdeal.dot_S8192x2816_S2816x1024_S8192x1024_1_0_0_1_n_n none (extf .f32 a0 Cert.LossRefIdeal.Gen.bitsLt_bf16_f32) (extf .f32 a1 Cert.LossRefIdeal.Gen.bitsLt_bf16_f32))) (addf a2 (Host.dotGeneral Cert.LossRefIdeal.dot_S8192x2816_S2816x1024_S8192x1024_1_0_0_1_n_n none (extf .f32 a0 Cert.LossRefIdeal.Gen.bitsLt_bf16_f32) (extf .f32 a1 Cert.LossRefIdeal.Gen.bitsLt_bf16_f32)))) (constant Cert.LossRefIdeal.S_ .f32 0x00000000#32) Cert.LossRefIdeal.Gen.reducesTo_S8192x1024_S8192_d1 Cert.LossRefIdeal.Gen.h_S_)) (broadcastInDim Cert.LossRefIdeal.S8192x1 ![] Cert.LossRefIdeal.Gen.bcast_S_S8192x1 (constant Cert.LossRefIdeal.S_ .f32 0x44800000#32))) (broadcastInDim Cert.LossRefIdeal.S8192x1 ![] Cert.LossRefIdeal.Gen.bcast_S_S8192x1 (constant Cert.LossRefIdeal.S_ .f32 0x358637BD#32)))) (addf (Host.divf (broadcastInDim Cert.LossRefIdeal.S8192x1 ![0] Cert.LossRefIdeal.Gen.bcast_S8192_S8192x1_0 (Host.reduceAdd (mulf (addf a2 (Host.dotGeneral Cert.LossRefIdeal.dot_S8192x2816_S2816x1024_S8192x1024_1_0_0_1_n_n none (extf .f32 a0 Cert.LossRefIdeal.Gen.bitsLt_bf16_f32) (extf .f32 a1 Cert.LossRefIdeal.Gen.bitsLt_bf16_f32))) (addf a2 (Host.dotGeneral Cert.LossRefIdeal.dot_S8192x2816_S2816x1024_S8192x1024_1_0_0_1_n_n none (extf .f32 a0 Cert.LossRefIdeal.Gen.bitsLt_bf16_f32) (extf .f32 a1 Cert.LossRefIdeal.Gen.bitsLt_bf16_f32)))) (constant Cert.LossRefIdeal.S_ .f32 0x00000000#32) Cert.LossRefIdeal.Gen.reducesTo_S8192x1024_S8192_d1 Cert.LossRefIdeal.Gen.h_S_)) (broadcastInDim Cert.LossRefIdeal.S8192x1 ![] Cert.LossRefIdeal.Gen.bcast_S_S8192x1 (constant Cert.LossRefIdeal.S_ .f32 0x44800000#32))) (broadcastInDim Cert.LossRefIdeal.S8192x1 ![] Cert.LossRefIdeal.Gen.bcast_S_S8192x1 (constant Cert.LossRefIdeal.S_ .f32 0x358637BD#32)))))) (broadcastInDim Cert.LossRefIdeal.S8192x1 ![] Cert.LossRefIdeal.Gen.bcast_S_S8192x1 (constant Cert.LossRefIdeal.S_ .f32 0x44800000#32))) (constant Cert.LossRefIdeal.S_ .f32 0x00000000#32) Cert.LossRefIdeal.Gen.reducesTo_S8192x1_S8192_d1 Cert.LossRefIdeal.Gen.h_S_)))) (mulf (broadcastInDim Cert.LossRefIdeal.S8192x1024 ![0] Cert.LossRefIdeal.Gen.bcast_S8192_S8192x1024_0 (Host.reduceAdd (Host.divf (mulf (shapeCast _ (Host.reduceAdd (mulf (addf a2 (Host.dotGeneral Cert.LossRefIdeal.dot_S8192x2816_S2816x1024_S8192x1024_1_0_0_1_n_n none (extf .f32 a0 Cert.LossRefIdeal.Gen.bitsLt_bf16_f32) (extf .f32 a1 Cert.LossRefIdeal.Gen.bitsLt_bf16_f32))) (mulf (mulf (broadcastInDim Cert.LossRefIdeal.S8192x1024 ![0] Cert.LossRefIdeal.Gen.bcast_S8192_S8192x1024_0 (Host.divf (broadcastInDim Cert.LossRefIdeal.S8192 ![] Cert.LossRefIdeal.Gen.bcast_S_S8192 (mulf (constant Cert.LossRefIdeal.S_ .f32 0x3F000000#32) (constant Cert.LossRefIdeal.S_ .f32 0x3F800000#32))) (broadcastInDim Cert.LossRefIdeal.S8192 ![] Cert.LossRefIdeal.Gen.bcast_S_S8192 (constant Cert.LossRefIdeal.S_ .f32 0x44800000#32)))) (mulf (broadcastInDim Cert.LossRefIdeal.S8192x1024 ![] Cert.LossRefIdeal.Gen.bcast_S_S8192x1024 (constant Cert.LossRefIdeal.S_ .f32 0x40000000#32)) (subf (mulf (mulf (addf a2 (Host.dotGeneral Cert.LossRefIdeal.dot_S8192x2816_S2816x1024_S8192x1024_1_0_0_1_n_n none (extf .f32 a0 Cert.LossRefIdeal.Gen.bitsLt_bf16_f32) (extf .f32 a1 Cert.LossRefIdeal.Gen.bitsLt_bf16_f32))) (broadcastInDim Cert.LossRefIdeal.S8192x1024 ![0, 1] Cert.LossRefIdeal.Gen.bcast_S8192x1_S8192x1024_0_1 (Host.rsqrt (addf (Host.divf (broadcastInDim Cert.LossRefIdeal.S8192x1 ![0] Cert.LossRefIdeal.Gen.bcast_S8192_S8192x1_0 (Host.reduceAdd (mulf (addf a2 (Host.dotGeneral Cert.LossRefIdeal.dot_S8192x2816_S2816x1024_S8192x1024_1_0_0_1_n_n none (extf .f32 a0 Cert.LossRefIdeal.Gen.bitsLt_bf16_f32) (extf .f32 a1 Cert.LossRefIdeal.Gen.bitsLt_bf16_f32))) (addf a2 (Host.dotGeneral Cert.LossRefIdeal.dot_S8192x2816_S2816x1024_S8192x1024_1_0_0_1_n_n none (extf .f32 a0 Cert.LossRefIdeal.Gen.bitsLt_bf16_f32) (extf .f32 a1 Cert.LossRefIdeal.Gen.bitsLt_bf16_f32)))) (constant Cert.LossRefIdeal.S_ .f32 0x00000000#32) Cert.LossRefIdeal.Gen.reducesTo_S8192x1024_S8192_d1 Cert.LossRefIdeal.Gen.h_S_)) (broadcastInDim Cert.LossRefIdeal.S8192x1 ![] Cert.LossRefIdeal.Gen.bcast_S_S8192x1 (constant Cert.LossRefIdeal.S_ .f32 0x44800000#32))) (broadcastInDim Cert.LossRefIdeal.S8192x1 ![] Cert.LossRefIdeal.Gen.bcast_S_S8192x1 (constant Cert.LossRefIdeal.S_ .f32 0x358637BD#32)))))) (broadcastInDim Cert.LossRefIdeal.S8192x1024 ![0, 1] Cert.LossRefIdeal.Gen.bcast_S1x1024_S8192x1024_0_1 (broadcastInDim Cert.LossRefIdeal.S1x1024 ![1] Cert.LossRefIdeal.Gen.bcast_S1024_S1x1024_1 (shapeCast _ a4 Cert.LossRefIdeal.Gen.shapeCasts_S1x1024_S1024)))) a3))) (broadcastInDim Cert.LossRefIdeal.S8192x1024 ![0, 1] Cert.LossRefIdeal.Gen.bcast_S1x1024_S8192x1024_0_1 (broadcastInDim Cert.LossRefIdeal.S1x1024 ![1] Cert.LossRefIdeal.Gen.bcast_S1024_S1x1024_1 (shapeCast _ a4 Cert.LossRefIdeal.Gen.shapeCasts_S1x1024_S1024))))) (constant Cert.LossRefIdeal.S_ .f32 0x00000000#32) Cert.LossRefIdeal.Gen.reducesTo_S8192x1024_S8192_d1 Cert.LossRefIdeal.Gen.h_S_) Cert.LossRefIdeal.Gen.shapeCasts_S8192_S8192x1) (mulf (broadcastInDim Cert.LossRefIdeal.S8192x1 ![] Cert.LossRefIdeal.Gen.bcast_S_S8192x1 (constant Cert.LossRefIdeal.S_ .f32 0xBF000000#32)) (Host.divf (Host.rsqrt (addf (Host.divf (broadcastInDim Cert.LossRefIdeal.S8192x1 ![0] Cert.LossRefIdeal.Gen.bcast_S8192_S8192x1_0 (Host.reduceAdd (mulf (addf a2 (Host.dotGeneral Cert.LossRefIdeal.dot_S8192x2816_S2816x1024_S8192x1024_1_0_0_1_n_n none (extf .f32 a0 Cert.LossRefIdeal.Gen.bitsLt_bf16_f32) (extf .f32 a1 Cert.LossRefIdeal.Gen.bitsLt_bf16_f32))) (addf a2 (Host.dotGeneral Cert.LossRefIdeal.dot_S8192x2816_S2816x1024_S8192x1024_1_0_0_1_n_n none (extf .f32 a0 Cert.LossRefIdeal.Gen.bitsLt_bf16_f32) (extf .f32 a1 Cert.LossRefIdeal.Gen.bitsLt_bf16_f32)))) (constant Cert.LossRefIdeal.S_ .f32 0x00000000#32) Cert.LossRefIdeal.Gen.reducesTo_S8192x1024_S8192_d1 Cert.LossRefIdeal.Gen.h_S_)) (broadcastInDim Cert.LossRefIdeal.S8192x1 ![] Cert.LossRefIdeal.Gen.bcast_S_S8192x1 (constant Cert.LossRefIdeal.S_ .f32 0x44800000#32))) (broadcastInDim Cert.LossRefIdeal.S8192x1 ![] Cert.LossRefIdeal.Gen.bcast_S_S8192x1 (constant Cert.LossRefIdeal.S_ .f32 0x358637BD#32)))) (addf (Host.divf (broadcastInDim Cert.LossRefIdeal.S8192x1 ![0] Cert.LossRefIdeal.Gen.bcast_S8192_S8192x1_0 (Host.reduceAdd (mulf (addf a2 (Host.dotGeneral Cert.LossRefIdeal.dot_S8192x2816_S2816x1024_S8192x1024_1_0_0_1_n_n none (extf .f32 a0 Cert.LossRefIdeal.Gen.bitsLt_bf16_f32) (extf .f32 a1 Cert.LossRefIdeal.Gen.bitsLt_bf16_f32))) (addf a2 (Host.dotGeneral Cert.LossRefIdeal.dot_S8192x2816_S2816x1024_S8192x1024_1_0_0_1_n_n none (extf .f32 a0 Cert.LossRefIdeal.Gen.bitsLt_bf16_f32) (extf .f32 a1 Cert.LossRefIdeal.Gen.bitsLt_bf16_f32)))) (constant Cert.LossRefIdeal.S_ .f32 0x00000000#32) Cert.LossRefIdeal.Gen.reducesTo_S8192x1024_S8192_d1 Cert.LossRefIdeal.Gen.h_S_)) (broadcastInDim Cert.LossRefIdeal.S8192x1 ![] Cert.LossRefIdeal.Gen.bcast_S_S8192x1 (constant Cert.LossRefIdeal.S_ .f32 0x44800000#32))) (broadcastInDim Cert.LossRefIdeal.S8192x1 ![] Cert.LossRefIdeal.Gen.bcast_S_S8192x1 (constant Cert.LossRefIdeal.S_ .f32 0x358637BD#32)))))) (broadcastInDim Cert.LossRefIdeal.S8192x1 ![] Cert.LossRefIdeal.Gen.bcast_S_S8192x1 (constant Cert.LossRefIdeal.S_ .f32 0x44800000#32))) (constant Cert.LossRefIdeal.S_ .f32 0x00000000#32) Cert.LossRefIdeal.Gen.reducesTo_S8192x1_S8192_d1 Cert.LossRefIdeal.Gen.h_S_)) (addf a2 (Host.dotGeneral Cert.LossRefIdeal.dot_S8192x2816_S2816x1024_S8192x1024_1_0_0_1_n_n none (extf .f32 a0 Cert.LossRefIdeal.Gen.bitsLt_bf16_f32) (extf .f32 a1 Cert.LossRefIdeal.Gen.bitsLt_bf16_f32))))

/-- Its result 2. -/
abbrev REF1 (a0 : FVec Ideal Cert.LossRefIdeal.S8192x2816 .bf16) (a1 : FVec Ideal Cert.LossRefIdeal.S2816x1024 .bf16) (a2 : FVec Ideal Cert.LossRefIdeal.S8192x1024 .f32) (a3 : FVec Ideal Cert.LossRefIdeal.S8192x1024 .f32) (a4 : FVec Ideal Cert.LossRefIdeal.S1x1024 .f32) :
    FVec Ideal Cert.LossRefIdeal.S1x1024 .f32 :=
  broadcastInDim Cert.LossRefIdeal.S1x1024 ![1] Cert.LossRefIdeal.Gen.bcast_S1024_S1x1024_1 (Host.reduceAdd (shapeCast _ (Host.reduceAdd (mulf (mulf (addf a2 (Host.dotGeneral Cert.LossRefIdeal.dot_S8192x2816_S2816x1024_S8192x1024_1_0_0_1_n_n none (extf .f32 a0 Cert.LossRefIdeal.Gen.bitsLt_bf16_f32) (extf .f32 a1 Cert.LossRefIdeal.Gen.bitsLt_bf16_f32))) (broadcastInDim Cert.LossRefIdeal.S8192x1024 ![0, 1] Cert.LossRefIdeal.Gen.bcast_S8192x1_S8192x1024_0_1 (Host.rsqrt (addf (Host.divf (broadcastInDim Cert.LossRefIdeal.S8192x1 ![0] Cert.LossRefIdeal.Gen.bcast_S8192_S8192x1_0 (Host.reduceAdd (mulf (addf a2 (Host.dotGeneral Cert.LossRefIdeal.dot_S8192x2816_S2816x1024_S8192x1024_1_0_0_1_n_n none (extf .f32 a0 Cert.LossRefIdeal.Gen.bitsLt_bf16_f32) (extf .f32 a1 Cert.LossRefIdeal.Gen.bitsLt_bf16_f32))) (addf a2 (Host.dotGeneral Cert.LossRefIdeal.dot_S8192x2816_S2816x1024_S8192x1024_1_0_0_1_n_n none (extf .f32 a0 Cert.LossRefIdeal.Gen.bitsLt_bf16_f32) (extf .f32 a1 Cert.LossRefIdeal.Gen.bitsLt_bf16_f32)))) (constant Cert.LossRefIdeal.S_ .f32 0x00000000#32) Cert.LossRefIdeal.Gen.reducesTo_S8192x1024_S8192_d1 Cert.LossRefIdeal.Gen.h_S_)) (broadcastInDim Cert.LossRefIdeal.S8192x1 ![] Cert.LossRefIdeal.Gen.bcast_S_S8192x1 (constant Cert.LossRefIdeal.S_ .f32 0x44800000#32))) (broadcastInDim Cert.LossRefIdeal.S8192x1 ![] Cert.LossRefIdeal.Gen.bcast_S_S8192x1 (constant Cert.LossRefIdeal.S_ .f32 0x358637BD#32)))))) (mulf (broadcastInDim Cert.LossRefIdeal.S8192x1024 ![0] Cert.LossRefIdeal.Gen.bcast_S8192_S8192x1024_0 (Host.divf (broadcastInDim Cert.LossRefIdeal.S8192 ![] Cert.LossRefIdeal.Gen.bcast_S_S8192 (mulf (constant Cert.LossRefIdeal.S_ .f32 0x3F000000#32) (constant Cert.LossRefIdeal.S_ .f32 0x3F800000#32))) (broadcastInDim Cert.LossRefIdeal.S8192 ![] Cert.LossRefIdeal.Gen.bcast_S_S8192 (constant Cert.LossRefIdeal.S_ .f32 0x44800000#32)))) (mulf (broadcastInDim Cert.LossRefIdeal.S8192x1024 ![] Cert.LossRefIdeal.Gen.bcast_S_S8192x1024 (constant Cert.LossRefIdeal.S_ .f32 0x40000000#32)) (subf (mulf (mulf (addf a2 (Host.dotGeneral Cert.LossRefIdeal.dot_S8192x2816_S2816x1024_S8192x1024_1_0_0_1_n_n none (extf .f32 a0 Cert.LossRefIdeal.Gen.bitsLt_bf16_f32) (extf .f32 a1 Cert.LossRefIdeal.Gen.bitsLt_bf16_f32))) (broadcastInDim Cert.LossRefIdeal.S8192x1024 ![0, 1] Cert.LossRefIdeal.Gen.bcast_S8192x1_S8192x1024_0_1 (Host.rsqrt (addf (Host.divf (broadcastInDim Cert.LossRefIdeal.S8192x1 ![0] Cert.LossRefIdeal.Gen.bcast_S8192_S8192x1_0 (Host.reduceAdd (mulf (addf a2 (Host.dotGeneral Cert.LossRefIdeal.dot_S8192x2816_S2816x1024_S8192x1024_1_0_0_1_n_n none (extf .f32 a0 Cert.LossRefIdeal.Gen.bitsLt_bf16_f32) (extf .f32 a1 Cert.LossRefIdeal.Gen.bitsLt_bf16_f32))) (addf a2 (Host.dotGeneral Cert.LossRefIdeal.dot_S8192x2816_S2816x1024_S8192x1024_1_0_0_1_n_n none (extf .f32 a0 Cert.LossRefIdeal.Gen.bitsLt_bf16_f32) (extf .f32 a1 Cert.LossRefIdeal.Gen.bitsLt_bf16_f32)))) (constant Cert.LossRefIdeal.S_ .f32 0x00000000#32) Cert.LossRefIdeal.Gen.reducesTo_S8192x1024_S8192_d1 Cert.LossRefIdeal.Gen.h_S_)) (broadcastInDim Cert.LossRefIdeal.S8192x1 ![] Cert.LossRefIdeal.Gen.bcast_S_S8192x1 (constant Cert.LossRefIdeal.S_ .f32 0x44800000#32))) (broadcastInDim Cert.LossRefIdeal.S8192x1 ![] Cert.LossRefIdeal.Gen.bcast_S_S8192x1 (constant Cert.LossRefIdeal.S_ .f32 0x358637BD#32)))))) (broadcastInDim Cert.LossRefIdeal.S8192x1024 ![0, 1] Cert.LossRefIdeal.Gen.bcast_S1x1024_S8192x1024_0_1 (broadcastInDim Cert.LossRefIdeal.S1x1024 ![1] Cert.LossRefIdeal.Gen.bcast_S1024_S1x1024_1 (shapeCast _ a4 Cert.LossRefIdeal.Gen.shapeCasts_S1x1024_S1024)))) a3)))) (constant Cert.LossRefIdeal.S_ .f32 0x00000000#32) Cert.LossRefIdeal.Gen.reducesTo_S8192x1024_S1024_d0 Cert.LossRefIdeal.Gen.h_S_) Cert.LossRefIdeal.Gen.shapeCasts_S1024_S1x1024) (constant Cert.LossRefIdeal.S_ .f32 0x00000000#32) Cert.LossRefIdeal.Gen.reducesTo_S1x1024_S1024_d0 Cert.LossRefIdeal.Gen.h_S_)

/-- Its result 3. -/
abbrev REF2 (a0 : FVec Ideal Cert.LossRefIdeal.S8192x2816 .bf16) (a1 : FVec Ideal Cert.LossRefIdeal.S2816x1024 .bf16) (a2 : FVec Ideal Cert.LossRefIdeal.S8192x1024 .f32) (a3 : FVec Ideal Cert.LossRefIdeal.S8192x1024 .f32) (a4 : FVec Ideal Cert.LossRefIdeal.S1x1024 .f32) :
    FVec Ideal Cert.LossRefIdeal.S1x128 .f32 :=
  broadcastInDim Cert.LossRefIdeal.S1x128 ![] Cert.LossRefIdeal.Gen.bcast_S_S1x128 (mulf (constant Cert.LossRefIdeal.S_ .f32 0x3F000000#32) (Host.reduceAdd (Host.divf (Host.reduceAdd (mulf (subf (mulf (mulf (addf a2 (Host.dotGeneral Cert.LossRefIdeal.dot_S8192x2816_S2816x1024_S8192x1024_1_0_0_1_n_n none (extf .f32 a0 Cert.LossRefIdeal.Gen.bitsLt_bf16_f32) (extf .f32 a1 Cert.LossRefIdeal.Gen.bitsLt_bf16_f32))) (broadcastInDim Cert.LossRefIdeal.S8192x1024 ![0, 1] Cert.LossRefIdeal.Gen.bcast_S8192x1_S8192x1024_0_1 (Host.rsqrt (addf (Host.divf (broadcastInDim Cert.LossRefIdeal.S8192x1 ![0] Cert.LossRefIdeal.Gen.bcast_S8192_S8192x1_0 (Host.reduceAdd (mulf (addf a2 (Host.dotGeneral Cert.LossRefIdeal.dot_S8192x2816_S2816x1024_S8192x1024_1_0_0_1_n_n none (extf .f32 a0 Cert.LossRefIdeal.Gen.bitsLt_bf16_f32) (extf .f32 a1 Cert.LossRefIdeal.Gen.bitsLt_bf16_f32))) (addf a2 (Host.dotGeneral Cert.LossRefIdeal.dot_S8192x2816_S2816x1024_S8192x1024_1_0_0_1_n_n none (extf .f32 a0 Cert.LossRefIdeal.Gen.bitsLt_bf16_f32) (extf .f32 a1 Cert.LossRefIdeal.Gen.bitsLt_bf16_f32)))) (constant Cert.LossRefIdeal.S_ .f32 0x00000000#32) Cert.LossRefIdeal.Gen.reducesTo_S8192x1024_S8192_d1 Cert.LossRefIdeal.Gen.h_S_)) (broadcastInDim Cert.LossRefIdeal.S8192x1 ![] Cert.LossRefIdeal.Gen.bcast_S_S8192x1 (constant Cert.LossRefIdeal.S_ .f32 0x44800000#32))) (broadcastInDim Cert.LossRefIdeal.S8192x1 ![] Cert.LossRefIdeal.Gen.bcast_S_S8192x1 (constant Cert.LossRefIdeal.S_ .f32 0x358637BD#32)))))) (broadcastInDim Cert.LossRefIdeal.S8192x1024 ![0, 1] Cert.LossRefIdeal.Gen.bcast_S1x1024_S8192x1024_0_1 (broadcastInDim Cert.LossRefIdeal.S1x1024 ![1] Cert.LossRefIdeal.Gen.bcast_S1024_S1x1024_1 (shapeCast _ a4 Cert.LossRefIdeal.Gen.shapeCasts_S1x1024_S1024)))) a3) (subf (mulf (mulf (addf a2 (Host.dotGeneral Cert.LossRefIdeal.dot_S8192x2816_S2816x1024_S8192x1024_1_0_0_1_n_n none (extf .f32 a0 Cert.LossRefIdeal.Gen.bitsLt_bf16_f32) (extf .f32 a1 Cert.LossRefIdeal.Gen.bitsLt_bf16_f32))) (broadcastInDim Cert.LossRefIdeal.S8192x1024 ![0, 1] Cert.LossRefIdeal.Gen.bcast_S8192x1_S8192x1024_0_1 (Host.rsqrt (addf (Host.divf (broadcastInDim Cert.LossRefIdeal.S8192x1 ![0] Cert.LossRefIdeal.Gen.bcast_S8192_S8192x1_0 (Host.reduceAdd (mulf (addf a2 (Host.dotGeneral Cert.LossRefIdeal.dot_S8192x2816_S2816x1024_S8192x1024_1_0_0_1_n_n none (extf .f32 a0 Cert.LossRefIdeal.Gen.bitsLt_bf16_f32) (extf .f32 a1 Cert.LossRefIdeal.Gen.bitsLt_bf16_f32))) (addf a2 (Host.dotGeneral Cert.LossRefIdeal.dot_S8192x2816_S2816x1024_S8192x1024_1_0_0_1_n_n none (extf .f32 a0 Cert.LossRefIdeal.Gen.bitsLt_bf16_f32) (extf .f32 a1 Cert.LossRefIdeal.Gen.bitsLt_bf16_f32)))) (constant Cert.LossRefIdeal.S_ .f32 0x00000000#32) Cert.LossRefIdeal.Gen.reducesTo_S8192x1024_S8192_d1 Cert.LossRefIdeal.Gen.h_S_)) (broadcastInDim Cert.LossRefIdeal.S8192x1 ![] Cert.LossRefIdeal.Gen.bcast_S_S8192x1 (constant Cert.LossRefIdeal.S_ .f32 0x44800000#32))) (broadcastInDim Cert.LossRefIdeal.S8192x1 ![] Cert.LossRefIdeal.Gen.bcast_S_S8192x1 (constant Cert.LossRefIdeal.S_ .f32 0x358637BD#32)))))) (broadcastInDim Cert.LossRefIdeal.S8192x1024 ![0, 1] Cert.LossRefIdeal.Gen.bcast_S1x1024_S8192x1024_0_1 (broadcastInDim Cert.LossRefIdeal.S1x1024 ![1] Cert.LossRefIdeal.Gen.bcast_S1024_S1x1024_1 (shapeCast _ a4 Cert.LossRefIdeal.Gen.shapeCasts_S1x1024_S1024)))) a3)) (constant Cert.LossRefIdeal.S_ .f32 0x00000000#32) Cert.LossRefIdeal.Gen.reducesTo_S8192x1024_S8192_d1 Cert.LossRefIdeal.Gen.h_S_) (broadcastInDim Cert.LossRefIdeal.S8192 ![] Cert.LossRefIdeal.Gen.bcast_S_S8192 (constant Cert.LossRefIdeal.S_ .f32 0x44800000#32))) (constant Cert.LossRefIdeal.S_ .f32 0x00000000#32) Cert.LossRefIdeal.Gen.reducesTo_S8192_S_d0 Cert.LossRefIdeal.Gen.h_S_))

/-- Which block every window is at, for all points of the grid. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0]
    ∧ win0_6.index t = ![0, 0] ∧ win0_7.index t = ![0, 0] :=
  (by decide +kernel : ∀ t : Fin grid0.N, _)

/-- Every row of a block is a row of the array. -/
theorem row_lt (t : Fin cfg0.N) (p : Fin 512) : t.val * 512 + p.val < 8192 := by
  have hN : t.val < 16 := t.isLt
  omega

/-- The call's arguments, each with its shape. -/
abbrev A0 (c : Dev nD) : FVec Ideal S8192x2816 .bf16 := m ((c : Thread nD τ).loc main_arg0)
abbrev A1 (c : Dev nD) : FVec Ideal S2816x1024 .bf16 := m ((c : Thread nD τ).loc main_arg1)
abbrev A2 (c : Dev nD) : FVec Ideal S8192x1024 .f32 := m ((c : Thread nD τ).loc main_arg2)
abbrev A3 (c : Dev nD) : FVec Ideal S8192x1024 .f32 := m ((c : Thread nD τ).loc main_arg3)
abbrev A4 (c : Dev nD) : FVec Ideal S1x1024 .f32 := m ((c : Thread nD τ).loc main_arg4)

/-- The operands' blocks at a point. -/
def B0 (c : Dev nD) (t : Fin cfg0.N) : FVec Ideal S512x2816 .bf16 := iblk m c 0 t
def B1 (c : Dev nD) (t : Fin cfg0.N) : FVec Ideal S2816x1024 .bf16 := iblk m c 1 t
def B2 (c : Dev nD) (t : Fin cfg0.N) : FVec Ideal S512x1024 .f32 := iblk m c 2 t
def B3 (c : Dev nD) (t : Fin cfg0.N) : FVec Ideal S512x1024 .f32 := iblk m c 3 t
def B4 (c : Dev nD) (t : Fin cfg0.N) : FVec Ideal S1x1024 .f32 := iblk m c 4 t

theorem B0_at (c : Dev nD) (t : Fin cfg0.N) (p : Fin 512) (k : Fin 2816) :
    B0 m c t (ix2 p k) = A0 m c (ix2 ⟨t.val * 512 + p.val, row_lt t p⟩ k) := by
  unfold B0
  blk_point [iblk, V, idx t]

theorem B1_at (c : Dev nD) (t : Fin cfg0.N) (k : Fin 2816) (q : Fin 1024) : B1 m c t (ix2 k q) = A1 m c (ix2 k q) := by
  unfold B1
  blk_point [iblk, V, idx t]

theorem B2_at (c : Dev nD) (t : Fin cfg0.N) (p : Fin 512) (q : Fin 1024) :
    B2 m c t (ix2 p q) = A2 m c (ix2 ⟨t.val * 512 + p.val, row_lt t p⟩ q) := by
  unfold B2
  blk_point [iblk, V, idx t]

theorem B3_at (c : Dev nD) (t : Fin cfg0.N) (p : Fin 512) (q : Fin 1024) :
    B3 m c t (ix2 p q) = A3 m c (ix2 ⟨t.val * 512 + p.val, row_lt t p⟩ q) := by
  unfold B3
  blk_point [iblk, V, idx t]

theorem B4_at (c : Dev nD) (t : Fin cfg0.N) (q : Fin 1024) : B4 m c t (ix2 0 q) = A4 m c (ix2 0 q) := by
  unfold B4
  blk_point [iblk, V, idx t]

/-- The residual stream behind the down projection. -/
def X (c : Dev nD) (p : Fin 8192) (q : Fin 1024) : EReal :=
  A2 m c (ix2 p q) + ∑ k : Fin 2816, A0 m c (ix2 p k) * A1 m c (ix2 k q)

/-- Its block at a point. -/
def XB (c : Dev nD) (t : Fin cfg0.N) : FVec Ideal S512x1024 .f32 := k0_pay6 (F := Ideal) (B2 m c t) (B0 m c t) (B1 m c t)

theorem XB_at (c : Dev nD) (t : Fin cfg0.N) (p : Fin 512) (q : Fin 1024) :
    XB m c t (ix2 p q) = X m c ⟨t.val * 512 + p.val, row_lt t p⟩ q := by
  unfold XB X
  pointwise [k0_pay6]
  simp only [B0_at, B1_at, B2_at]

/-- One element of the gradient's block. -/
theorem dx_at (x1 : FVec Ideal S512x1024 .f32) (a : FVec Ideal S512x2816 .bf16) (w : FVec Ideal S2816x1024 .bf16)
    (tg : FVec Ideal S512x1024 .f32) (g : FVec Ideal S1x1024 .f32) (p : Fin 512) (q : Fin 1024) :
    k0_pay2 (F := Ideal) g (k0_pay7 x1 a w) (k0_pay8 x1 a w) (k0_pay9 g x1 a w tg) (ix2 p q)
      = Rms.DX (fun k => k0_pay6 (F := Ideal) x1 a w (ix2 p k)) (fun k => g (ix2 0 k)) (fun k => tg (ix2 p k)) q := by
  pointwise [k0_pay1, k0_pay2, k0_pay7, k0_pay8, k0_pay9]
  exact Rms.dx_eq0 (fun k => k0_pay6 (F := Ideal) x1 a w (ix2 p k))
    (fun k => Rms.dy (fun k => k0_pay6 (F := Ideal) x1 a w (ix2 p k)) (fun k => g (ix2 0 k)) (fun k => tg (ix2 p k)) k * g (ix2 0 k)) _ _

/-- What one block of rows adds to the gradient of the norm's weight. -/
theorem dg_at (x1 : FVec Ideal S512x1024 .f32) (a : FVec Ideal S512x2816 .bf16) (w : FVec Ideal S2816x1024 .bf16)
    (tg : FVec Ideal S512x1024 .f32) (g : FVec Ideal S1x1024 .f32) (acc : FVec Ideal S1x1024 .f32) (q : Fin 1024) :
    k0_pay3 (F := Ideal) (k0_pay8 x1 a w) (k0_pay9 g x1 a w tg) acc (ix2 0 q)
      = acc (ix2 0 q) + ∑ p : Fin 512, k0_pay6 (F := Ideal) x1 a w (ix2 p q) * Ideal.rsqrt (Rms.v fun k => k0_pay6 (F := Ideal) x1 a w (ix2 p k))
          * Rms.dy (fun k => k0_pay6 (F := Ideal) x1 a w (ix2 p k)) (fun k => g (ix2 0 k)) (fun k => tg (ix2 p k)) q := by
  pointwise [k0_pay1, k0_pay3, k0_pay7, k0_pay8, k0_pay9]
  exact congrArg (acc (ix2 0 q) + ·) (Finset.sum_congr rfl fun _ _ => mul_comm _ _)

/-- What one block of rows adds to the loss. -/
theorem ls_at (x1 : FVec Ideal S512x1024 .f32) (a : FVec Ideal S512x2816 .bf16) (w : FVec Ideal S2816x1024 .bf16)
    (tg : FVec Ideal S512x1024 .f32) (g : FVec Ideal S1x1024 .f32) (acc : FVec Ideal S1x128 .f32) (q : Fin 128) :
    k0_pay10 (F := Ideal) g x1 a w tg acc (ix2 0 q)
      = acc (ix2 0 q) + Rms.H2 * ∑ p : Fin 512, Ideal.div (∑ k,
          Rms.err (fun k => k0_pay6 (F := Ideal) x1 a w (ix2 p k)) (fun k => g (ix2 0 k)) (fun k => tg (ix2 p k)) k
          * Rms.err (fun k => k0_pay6 (F := Ideal) x1 a w (ix2 p k)) (fun k => g (ix2 0 k)) (fun k => tg (ix2 p k)) k) Rms.K := by
  pointwise [k0_pay1, k0_pay10, k0_pay7, k0_pay8, k0_pay9]
  rfl

/-- The zero fills. -/
theorem zero4_at (j : S1x1024.Idx) : k0_pay4 (F := Ideal) j = 0 := by pointwise [k0_pay4]
theorem zero5_at (j : S1x128.Idx) : k0_pay5 (F := Ideal) j = 0 := by pointwise [k0_pay5]

/-- A row of the residual stream, the norm's weight, a row of the target. -/
abbrev xr (c : Dev nD) (p : Fin 8192) : Fin 1024 → EReal := X m c p
abbrev gr (c : Dev nD) : Fin 1024 → EReal := fun k => A4 m c (ix2 0 k)
abbrev tr (c : Dev nD) (p : Fin 8192) : Fin 1024 → EReal := fun k => A3 m c (ix2 p k)

/-- One row's part of the loss, before the half. -/
def LS (c : Dev nD) (p : Fin 8192) : EReal :=
  Ideal.div (∑ k, Rms.err (xr m c p) (gr m c) (tr m c p) k * Rms.err (xr m c p) (gr m c) (tr m c p) k) Rms.K

/-- One row's part of the weight gradient. -/
def WG (c : Dev nD) (p : Fin 8192) (q : Fin 1024) : EReal :=
  X m c p q * Ideal.rsqrt (Rms.v (xr m c p)) * Rms.dy (xr m c p) (gr m c) (tr m c p) q

/-- The reference's results at an index. -/
theorem ref_at (c : Dev nD) (p : Fin 8192) (q : Fin 1024) :
    REF (m ((c : Thread nD τ).loc main_arg0)) (m ((c : Thread nD τ).loc main_arg1)) (m ((c : Thread nD τ).loc main_arg2)) (m ((c : Thread nD τ).loc main_arg3)) (m ((c : Thread nD τ).loc main_arg4)) (ix2 p q) = Rms.DX (xr m c p) (gr m c) (tr m c p) q := by
  pointwise [REF]
  simp only [Rms.dy_eq]
  rfl

theorem ref1_at (c : Dev nD) (q : Fin 1024) : REF1 (m ((c : Thread nD τ).loc main_arg0)) (m ((c : Thread nD τ).loc main_arg1)) (m ((c : Thread nD τ).loc main_arg2)) (m ((c : Thread nD τ).loc main_arg3)) (m ((c : Thread nD τ).loc main_arg4)) (ix2 0 q) = ∑ p, WG m c p q := by
  pointwise [REF1]
  simp only [Rms.dy_eq]
  rw [Fin.sum_univ_one]
  rfl

theorem ref2_at (c : Dev nD) (q : Fin 128) : REF2 (m ((c : Thread nD τ).loc main_arg0)) (m ((c : Thread nD τ).loc main_arg1)) (m ((c : Thread nD τ).loc main_arg2)) (m ((c : Thread nD τ).loc main_arg3)) (m ((c : Thread nD τ).loc main_arg4)) (ix2 0 q) = Rms.H2 * ∑ p, LS m c p := by
  pointwise [REF2]
  rfl

/-- Where an element of a block lies. -/
theorem emb5 (t : Fin cfg0.N) (p : Fin 512) (q : Fin 1024) :
    (win0_5.blk t).view.emb (ix2 p q) = ix2 ⟨t.val * 512 + p.val, row_lt t p⟩ q := by
  blk_point [idx t]
theorem emb6 (t : Fin cfg0.N) (q : Fin 1024) : (win0_6.blk t).view.emb (ix2 0 q) = ix2 0 q := by
  blk_point [idx t]
theorem emb7 (t : Fin cfg0.N) (q : Fin 128) : (win0_7.blk t).view.emb (ix2 0 q) = ix2 0 q := by
  blk_point [idx t]

/-- The gradient's block at a point. -/
theorem dx_block (c : Dev nD) (t : Fin cfg0.N) (p : Fin 512) (q : Fin 1024) :
    (outsAt0 m c t.val t.isLt).1 (ix2 p q)
      = Rms.DX (xr m c ⟨t.val * 512 + p.val, row_lt t p⟩) (gr m c) (tr m c ⟨t.val * 512 + p.val, row_lt t p⟩) q := by
  have e : (outsAt0 m c t.val t.isLt).1 (ix2 p q)
      = Rms.DX (fun k => XB m c t (ix2 p k)) (fun k => B4 m c t (ix2 0 k)) (fun k => B3 m c t (ix2 p k)) q := by
    by_cases h : t.val % 16 = 0
    · rw [outsAt0_A m c t h]; frame_out; exact dx_at _ _ _ _ _ p q
    · rw [outsAt0_B m c t h]; frame_out; exact dx_at _ _ _ _ _ p q
  rw [e]
  simp only [XB_at, B4_at, B3_at]

/-- The gradient's array. -/
theorem final (c : Dev nD) : (dats m 0 c).arrAt 5 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  obtain ⟨p, q, rfl⟩ : ∃ (p : Fin 512) (q : Fin 1024), y = ix2 p q := ⟨y 0, y 1, eq_ix2 y⟩
  blk_simp
  rw [after0_5, emb5, ref_at, dx_block]

/-- A point's part of the weight gradient. -/
theorem dg_part (c : Dev nD) (t : Fin cfg0.N) (acc : FVec Ideal S1x1024 .f32) (q : Fin 1024) :
    k0_pay3 (F := Ideal) (k0_pay8 (B2 m c t) (B0 m c t) (B1 m c t)) (k0_pay9 (B4 m c t) (B2 m c t) (B0 m c t) (B1 m c t) (B3 m c t)) acc (ix2 0 q)
      = acc (ix2 0 q) + ∑ p : Fin 512, WG m c ⟨t.val * 512 + p.val, row_lt t p⟩ q := by
  refine (dg_at _ _ _ _ _ acc q).trans (congrArg (acc (ix2 0 q) + ·) (Finset.sum_congr rfl fun p _ => ?_))
  show XB m c t (ix2 p q) * Ideal.rsqrt (Rms.v fun k => XB m c t (ix2 p k))
    * Rms.dy (fun k => XB m c t (ix2 p k)) (fun k => B4 m c t (ix2 0 k)) (fun k => B3 m c t (ix2 p k)) q = _
  simp only [XB_at, B4_at, B3_at]
  rfl

/-- A point's part of the loss. -/
theorem ls_part (c : Dev nD) (t : Fin cfg0.N) (acc : FVec Ideal S1x128 .f32) (q : Fin 128) :
    k0_pay10 (F := Ideal) (B4 m c t) (B2 m c t) (B0 m c t) (B1 m c t) (B3 m c t) acc (ix2 0 q)
      = acc (ix2 0 q) + Rms.H2 * ∑ p : Fin 512, LS m c ⟨t.val * 512 + p.val, row_lt t p⟩ := by
  refine (ls_at _ _ _ _ _ acc q).trans (congrArg (fun z => acc (ix2 0 q) + Rms.H2 * z) (Finset.sum_congr rfl fun p _ => ?_))
  show Ideal.div (∑ k, Rms.err (fun k => XB m c t (ix2 p k)) (fun k => B4 m c t (ix2 0 k)) (fun k => B3 m c t (ix2 p k)) k
    * Rms.err (fun k => XB m c t (ix2 p k)) (fun k => B4 m c t (ix2 0 k)) (fun k => B3 m c t (ix2 p k)) k) Rms.K = _
  simp only [XB_at, B4_at, B3_at]
  rfl

/-- The points of the one run are the grid's. -/
theorem pts (t : Fin cfg0.N) (h : ∀ s : Fin 16, 16 * (t.val / 16) + s.val < cfg0.N) :
    (fun s : Fin 16 => (⟨16 * (t.val / 16) + s.val, h s⟩ : Fin cfg0.N)) = fun s => s := by
  have hN : t.val < 16 := t.isLt
  funext s
  apply Fin.ext
  show 16 * (t.val / 16) + s.val = s.val
  omega

/-- The weight gradient's array. -/
theorem final1 (c : Dev nD) : (dats m 0 c).arrAt 6 (cfgs 0).N = REF1 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  obtain ⟨z, q, rfl⟩ : ∃ (z : Fin 1) (q : Fin 1024), y = ix2 z q := ⟨y 0, y 1, eq_ix2 y⟩
  obtain rfl : z = 0 := Subsingleton.elim _ _
  blk_simp
  rw [after0_6, emb6, ref1_at,
    Pipeline.eq_sum_fin_of_reset_step_apply_of_flush (fun n h => (outsAt0 m c n h).2.1) 16 (fun _ => 0)
    (fun t j => ∑ p : Fin 512, WG m c ⟨t.val * 512 + p.val, row_lt t p⟩ (j 1))
    (fun t h j => by
      obtain ⟨z, q, rfl⟩ : ∃ (z : Fin 1) (q : Fin 1024), j = ix2 z q := ⟨j 0, j 1, eq_ix2 j⟩
      obtain rfl : z = 0 := Subsingleton.elim _ _
      rw [outsAt0_A m c t h]; frame_out; refine (dg_part m c t _ q).trans ?_; rw [zero4_at]; rfl)
    (fun t h j => by
      obtain ⟨z, q, rfl⟩ : ∃ (z : Fin 1) (q : Fin 1024), j = ix2 z q := ⟨j 0, j 1, eq_ix2 j⟩
      obtain rfl : z = 0 := Subsingleton.elim _ _
      rw [outsAt0_B m c t h]; frame_out; exact dg_part m c t _ q)
    t ((flush0_6 t).mp hf) _, zero_add]
  refine (congrArg (fun f : Fin 16 → Fin cfg0.N => ∑ s, ∑ p : Fin 512, WG m c ⟨(f s).val * 512 + p.val, row_lt (f s) p⟩ q) (pts t _)).trans ?_
  exact Fin.sum_mul_add_congr (S := 16) (n := 512) (f := fun x : Fin 8192 => WG m c x q) fun s p hl => rfl

/-- The loss, in every lane. -/
theorem final2 (c : Dev nD) : (dats m 0 c).arrAt 7 (cfgs 0).N = REF2 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  obtain ⟨z, q, rfl⟩ : ∃ (z : Fin 1) (q : Fin 128), y = ix2 z q := ⟨y 0, y 1, eq_ix2 y⟩
  obtain rfl : z = 0 := Subsingleton.elim _ _
  blk_simp
  rw [after0_7, emb7, ref2_at,
    Pipeline.eq_sum_fin_of_reset_step_apply_of_flush (fun n h => (outsAt0 m c n h).2.2) 16 (fun _ => 0)
    (fun t j => Rms.H2 * ∑ p : Fin 512, LS m c ⟨t.val * 512 + p.val, row_lt t p⟩)
    (fun t h j => by
      obtain ⟨z, q, rfl⟩ : ∃ (z : Fin 1) (q : Fin 128), j = ix2 z q := ⟨j 0, j 1, eq_ix2 j⟩
      obtain rfl : z = 0 := Subsingleton.elim _ _
      rw [outsAt0_A m c t h]; frame_out; refine (ls_part m c t _ q).trans ?_; rw [zero5_at])
    (fun t h j => by
      obtain ⟨z, q, rfl⟩ : ∃ (z : Fin 1) (q : Fin 128), j = ix2 z q := ⟨j 0, j 1, eq_ix2 j⟩
      obtain rfl : z = 0 := Subsingleton.elim _ _
      rw [outsAt0_B m c t h]; frame_out; exact ls_part m c t _ q)
    t ((flush0_7 t).mp hf) _, zero_add]
  refine (congrArg (fun f : Fin 16 → Fin cfg0.N => ∑ s, Rms.H2 * ∑ p : Fin 512, LS m c ⟨(f s).val * 512 + p.val, row_lt (f s) p⟩) (pts t _)).trans ?_
  have hs : ∑ s : Fin 16, ∑ p : Fin 512, LS m c ⟨s.val * 512 + p.val, by omega⟩ = ∑ x : Fin 8192, LS m c x :=
    Fin.sum_mul_add_congr (S := 16) (n := 512) (f := fun x : Fin 8192 => LS m c x) fun s p hl => rfl
  rw [← hs, Rms.H2_eq, Rms.coe_mul_sum (by norm_num)]

/-- The claim: the call's three results are the reference's. -/
theorem algebraic : Cert.algebraic_LossIdeal_LossRefIdeal := by
  pair_intro
  · run_from Cert.LossIdeal.Value.run_blocks m g
  · run_from Cert.LossRefIdeal.Value.run (F := Ideal) m' g'
    · obtain ⟨h0, h1, h2, h3, h4⟩ := hagree c
      refine Eq.trans ?_ (final m c).symm
      unfold Cert.LossRefIdeal.Value.res_main_v55
      rw [h0, h1, h2, h3, h4]
    · exact (final1 m c).symm
    · exact (final2 m c).symm

end Cert.LossIdeal.Alg

end
-- ==== Proof.DwDownValue.lean ====
/- The gradient of the down projection in its weight: eight blocks of rows, their products accumulated in a scratch
  array and written back, rounded, after the last. -/
module

public import proofs.«01_k».proof.Defs
public import proofs.«01_k».proof.Proof.Gen.DwDownIdeal.Value
public import proofs.«01_k».proof.Proof.Gen.DwDownRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwDownIdeal.Alg

open Cert.DwDownIdeal Cert.DwDownIdeal.Gen

variable (m : (ℓ : Loc nD τ sig) → Buf (Elt Ideal) ℓ)

/-- The reference's term over the call's arguments. -/
abbrev REF (a0 : FVec Ideal Cert.DwDownRefIdeal.S8192x2816 .bf16) (a1 : FVec Ideal Cert.DwDownRefIdeal.S8192x1024 .f32) :
    FVec Ideal Cert.DwDownRefIdeal.S2816x1024 .bf16 :=
  truncf .bf16 (transpose Cert.DwDownRefIdeal.S2816x1024 [1, 0] (Host.dotGeneral Cert.DwDownRefIdeal.dot_S8192x1024_S8192x2816_S1024x2816_0_0_1_1_n_n none a1 (extf .f32 a0 Cert.DwDownRefIdeal.Gen.bitsLt_bf16_f32)) Cert.DwDownRefIdeal.Gen.transposes_S1024x2816_S2816x1024_1_0) Cert.DwDownRefIdeal.Gen.bitsLt_bf16_f32

/-- Which block every window is at, for all points of the grid. -/
theorem idx : ∀ t : Fin cfg0.N, win0_0.index t = ![t.val % 8, 0] ∧ win0_1.index t = ![t.val % 8, 0]
    ∧ win0_2.index t = ![0, 0] :=
  (by decide +kernel : ∀ t : Fin grid0.N, _)

/-- The zero fill. -/
theorem zero_at (j : S2816x1024.Idx) : k0_pay1 (F := Ideal) j = 0 := by pointwise [k0_pay1]

/-- One step: what the scratch held plus the product of the two staged blocks, over the block's 1024 rows. -/
theorem step_at (acc : FVec Ideal S2816x1024 .f32) (x0 : FVec Ideal S1024x2816 .bf16) (x1 : FVec Ideal S1024x1024 .f32) (j : S2816x1024.Idx) :
    k0_pay2 (F := Ideal) acc x0 x1 j = acc j + ∑ k : Fin 1024, x1 (ix2 k (j 1)) * x0 (ix2 k (j 0)) := by
  pointwise [k0_pay2]
  exact congrArg (acc j + ·) (Finset.sum_congr rfl fun _ _ => mul_comm _ _)

/-- At the last point of a run the result's block is the scratch array. -/
theorem last (c : Dev nD) (t : Fin cfg0.N) (h : t.val % 8 = 7) :
    (outsAt0 m c t.val t.isLt).1 = (outsAt0 m c t.val t.isLt).2 := by
  rw [outsAt0_C m c t (by omega) h]
  frame_out
  funext j
  pointwise [k0_pay3]

/-- The result array. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2, last m c t ((flush0_2 t).mp hf),
    Pipeline.eq_sum_fin_of_reset_step_apply_of_flush (fun n h => (outsAt0 m c n h).2) 8 (fun _ => 0) _
    (fun t h j => by rw [outsAt0_A m c t h (by omega)]; frame_out; rw [step_at, zero_at])
    (fun t h j => by
      by_cases h7 : t.val % 8 = 7
      · rw [outsAt0_C m c t h h7]; frame_out; rw [step_at, read_unread_whole]
      · rw [outsAt0_B m c t h h7]; frame_out; rw [step_at, read_unread_whole])
    t ((flush0_2 t).mp hf) _, zero_add]
  pointwise [REF]
  refine Fin.sum_mul_add_congr fun s k hl => ?_
  blk_point [iblk, V, idx t, idx ⟨_, Pipeline.run_point_lt_of_flush t ((flush0_2 t).mp hf) s⟩]

/-- The claim: the call's result array is the reference's. -/
theorem algebraic : Cert.algebraic_DwDownIdeal_DwDownRefIdeal := by
  pair_intro
  · run_from Cert.DwDownIdeal.Value.run_blocks m g
  · run_from Cert.DwDownRefIdeal.Value.run (F := Ideal) m' g'
    exact (final m c).symm

end Cert.DwDownIdeal.Alg

end
-- ==== Proof.DactValue.lean ====
/- The gradient of the down projection in its input: one block of the cotangent times one block of the weight, a whole
  contraction at every point of the grid. -/
module

public import proofs.«01_k».proof.Defs
public import proofs.«01_k».proof.Proof.Gen.DactIdeal.Value
public import proofs.«01_k».proof.Proof.Gen.DactRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DactIdeal.Alg

open Cert.DactIdeal Cert.DactIdeal.Gen

variable (m : (ℓ : Loc nD τ sig) → Buf (Elt Ideal) ℓ)

/-- The reference's term over the call's arguments. -/
abbrev REF (a0 : FVec Ideal Cert.DactRefIdeal.S8192x1024 .f32) (a1 : FVec Ideal Cert.DactRefIdeal.S2816x1024 .bf16) :
    FVec Ideal Cert.DactRefIdeal.S8192x2816 .f32 :=
  Host.dotGeneral Cert.DactRefIdeal.dot_S8192x1024_S2816x1024_S8192x2816_1_1_0_0_n_n none a0 (extf .f32 a1 Cert.DactRefIdeal.Gen.bitsLt_bf16_f32)

/-- Which block every window is at, for all points of the grid. -/
theorem idx : ∀ t : Fin cfg0.N, win0_0.index t = ![t.val % 8, 0] ∧ win0_1.index t = ![t.val / 8, 0]
    ∧ win0_2.index t = ![t.val % 8, t.val / 8] :=
  (by decide +kernel : ∀ t : Fin grid0.N, _)

/-- The result array: the blocks tile it, and a block holds zero plus the product of the two staged blocks. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2]
  unfold Gen.outsAt0
  frame_out
  pointwise [k0_pay1, k0_pay2, REF]
  blk_point [iblk, V, idx t]

/-- The claim: the call's result array is the reference's. -/
theorem algebraic : Cert.algebraic_DactIdeal_DactRefIdeal := by
  pair_intro
  · run_from Cert.DactIdeal.Value.run_blocks m g
  · run_from Cert.DactRefIdeal.Value.run (F := Ideal) m' g'
    exact (final m c).symm

end Cert.DactIdeal.Alg

end
-- ==== Proof.DwUpAValue.lean ====
/- The gradient of the first half of the up projection in its weight: eight blocks of rows, their products accumulated in a scratch
  array and written back, rounded, after the last. -/
module

public import proofs.«01_k».proof.Defs
public import proofs.«01_k».proof.Proof.Gen.DwUpAIdeal.Value
public import proofs.«01_k».proof.Proof.Gen.DwUpARefIdeal.Run
public import proofs.«01_k».proof.Proof.Gen.On_rows_written
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwUpAIdeal.Alg

open Cert.DwUpAIdeal Cert.DwUpAIdeal.Gen

variable (m : (ℓ : Loc nD τ sig) → Buf (Elt Ideal) ℓ)

/-- The reference's term over the call's arguments. -/
abbrev REF (a0 : FVec Ideal Cert.DwUpARefIdeal.S8192x2816 .bf16) (a1 : FVec Ideal Cert.DwUpARefIdeal.S8192x1024 .bf16) :
    FVec Ideal Cert.DwUpARefIdeal.S5632x1024 .bf16 :=
  concatenate Cert.DwUpARefIdeal.S5632x1024 0 [⟨Cert.DwUpARefIdeal.S2816x1024, (truncf .bf16 (transpose Cert.DwUpARefIdeal.S2816x1024 [1, 0] (transpose Cert.DwUpARefIdeal.S1024x2816 [1, 0] (Host.dotGeneral Cert.DwUpARefIdeal.dot_S8192x2816_S8192x1024_S2816x1024_0_0_1_1_n_n none (extf .f32 a0 Cert.DwUpARefIdeal.Gen.bitsLt_bf16_f32) (extf .f32 a1 Cert.DwUpARefIdeal.Gen.bitsLt_bf16_f32)) Cert.DwUpARefIdeal.Gen.transposes_S2816x1024_S1024x2816_1_0) Cert.DwUpARefIdeal.Gen.transposes_S1024x2816_S2816x1024_1_0) Cert.DwUpARefIdeal.Gen.bitsLt_bf16_f32)⟩, ⟨Cert.DwUpARefIdeal.S2816x1024, (broadcastInDim Cert.DwUpARefIdeal.S2816x1024 ![] Cert.DwUpARefIdeal.Gen.bcast_S_S2816x1024 (constant Cert.DwUpARefIdeal.S_ .bf16 0x0000#16))⟩] Cert.DwUpARefIdeal.Gen.concatenates_S2816x1024_S2816x1024_S5632x1024_d0

/-- Which block every window is at, for all points of the grid. -/
theorem idx : ∀ t : Fin cfg0.N, win0_0.index t = ![t.val % 8, 0] ∧ win0_1.index t = ![t.val % 8, 0]
    ∧ win0_2.index t = ![0, 0] :=
  (by decide +kernel : ∀ t : Fin grid0.N, _)

/-- The zero fill. -/
theorem zero_at (j : S2816x1024.Idx) : k0_pay1 (F := Ideal) j = 0 := by pointwise [k0_pay1]

/-- One step: what the scratch held plus the product of the two staged blocks, over the block's 1024 rows. -/
theorem step_at (acc : FVec Ideal S2816x1024 .f32) (x0 : FVec Ideal S1024x2816 .bf16) (x1 : FVec Ideal S1024x1024 .bf16) (j : S2816x1024.Idx) :
    k0_pay2 (F := Ideal) acc x0 x1 j = acc j + ∑ k : Fin 1024, x0 (ix2 k (j 0)) * x1 (ix2 k (j 1)) := by
  pointwise [k0_pay2]

/-- At the last point of a run the result's block is the scratch array. -/
theorem last (c : Dev nD) (t : Fin cfg0.N) (h : t.val % 8 = 7) :
    (outsAt0 m c t.val t.isLt).1 = (outsAt0 m c t.val t.isLt).2 := by
  rw [outsAt0_C m c t (by omega) h]
  frame_out
  funext j
  pointwise [k0_pay3]

/-- The result array: the rows of its half are the product, the other half is as it was. -/
theorem final (c : Dev nD) : (dats m 0 c).arrAt 2 (cfgs 0).N
    = fun i => if (i 0 : ℕ) < 2816 then REF (m ((c : Thread nD τ).loc main_arg0)) (m ((c : Thread nD τ).loc main_arg1)) i else V m c main_v0 i := by
  refine (dats m 0 c).arrAt_eq_of_coversWhere 2 _ (fun β => β 0 = 0) (by decide +kernel) (fun t hf y => ?_)
    (fun j => by blk_simp [Pipeline.Window.cell_apply]; omega)
  blk_simp
  rw [after0_2, last m c t ((flush0_2 t).mp hf),
    Pipeline.eq_sum_fin_of_reset_step_apply_of_flush (fun n h => (outsAt0 m c n h).2) 8 (fun _ => 0) _
    (fun t h j => by rw [outsAt0_A m c t h (by omega)]; frame_out; rw [step_at, zero_at])
    (fun t h j => by
      by_cases h7 : t.val % 8 = 7
      · rw [outsAt0_C m c t h h7]; frame_out; rw [step_at, read_unread_whole]
      · rw [outsAt0_B m c t h h7]; frame_out; rw [step_at, read_unread_whole])
    t ((flush0_2 t).mp hf) _, zero_add]
  pointwise [REF]
  have hy : (y 0 : ℕ) < 2816 := (y 0).isLt
  rw [dif_pos (show ((((View.whole main_v0).slice (win0_2.rect t)).emb y) 0 : ℕ) < 2816 by blk_simp [idx t]; omega)]
  refine Fin.sum_mul_add_congr fun s k hl => ?_
  blk_point [iblk, V, idx t, idx ⟨_, Pipeline.run_point_lt_of_flush t ((flush0_2 t).mp hf) s⟩]

/-- The rows the claim is about are those of the first half. -/
theorem row_lt {a0 a1 i} (h : Cert.On_rows_written.fn (F := Ideal) a0 a1 i = 1#1) : (i 0 : ℕ) < 2816 := by
  have hb : (i 0 : ℕ) < 5632 := (i 0).isLt
  revert h
  pointwise [Cert.On_rows_written.fn]
  simp only [IntOp.cmpi, WordCmp.ofBool_eq_one_iff, BitVec.slt_eq_decide, decide_eq_true_eq]
  intro h
  have e1 : (BitVec.ofNat 32 (i 0 : ℕ)).toInt = (i 0 : ℕ) := by
    rw [BitVec.toInt_eq_toNat_of_lt] <;> rw [BitVec.toNat_ofNat, Nat.mod_eq_of_lt (by omega)]; omega
  have e2 : (2816#32 : BitVec 32).toInt = 2816 := by decide
  rw [e1, e2] at h
  omega

/-- The claim: the call's result array is the reference's. -/
theorem algebraic : Cert.algebraic_DwUpAIdeal_DwUpARefIdeal_on_rows_written := by
  intro m g m' g' _ hagree
  refine ⟨fun c => REF (m (c.tc.loc main_arg0)) (m (c.tc.loc main_arg1)), ?_, ?_⟩
  · run_from Cert.DwUpAIdeal.Value.run_blocks m g
    intro i hi
    rw [final m c]
    exact if_pos (row_lt hi)
  · run_from Cert.DwUpARefIdeal.Value.run (F := Ideal) m' g'
    exact fun _ _ => trivial

end Cert.DwUpAIdeal.Alg

end
-- ==== Proof.DwUpVValue.lean ====
/- The gradient of the second half of the up projection in its weight: eight blocks of rows, their products accumulated in a scratch
  array and written back, rounded, after the last. -/
module

public import proofs.«01_k».proof.Defs
public import proofs.«01_k».proof.Proof.Gen.DwUpVIdeal.Value
public import proofs.«01_k».proof.Proof.Gen.DwUpVRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwUpVIdeal.Alg

open Cert.DwUpVIdeal Cert.DwUpVIdeal.Gen

variable (m : (ℓ : Loc nD τ sig) → Buf (Elt Ideal) ℓ)

/-- The reference's term over the call's arguments. -/
abbrev REF (a0 : FVec Ideal Cert.DwUpVRefIdeal.S8192x2816 .bf16) (a1 : FVec Ideal Cert.DwUpVRefIdeal.S8192x1024 .bf16) (a2 : FVec Ideal Cert.DwUpVRefIdeal.S5632x1024 .bf16) :
    FVec Ideal Cert.DwUpVRefIdeal.S5632x1024 .bf16 :=
  concatenate Cert.DwUpVRefIdeal.S5632x1024 0 [⟨Cert.DwUpVRefIdeal.S2816x1024, (extractStridedSlice Cert.DwUpVRefIdeal.S2816x1024 ![0, 0] a2 Cert.DwUpVRefIdeal.Gen.slices_S5632x1024_S2816x1024_0_0)⟩, ⟨Cert.DwUpVRefIdeal.S2816x1024, (truncf .bf16 (transpose Cert.DwUpVRefIdeal.S2816x1024 [1, 0] (transpose Cert.DwUpVRefIdeal.S1024x2816 [1, 0] (Host.dotGeneral Cert.DwUpVRefIdeal.dot_S8192x2816_S8192x1024_S2816x1024_0_0_1_1_n_n none (extf .f32 a0 Cert.DwUpVRefIdeal.Gen.bitsLt_bf16_f32) (extf .f32 a1 Cert.DwUpVRefIdeal.Gen.bitsLt_bf16_f32)) Cert.DwUpVRefIdeal.Gen.transposes_S2816x1024_S1024x2816_1_0) Cert.DwUpVRefIdeal.Gen.transposes_S1024x2816_S2816x1024_1_0) Cert.DwUpVRefIdeal.Gen.bitsLt_bf16_f32)⟩] Cert.DwUpVRefIdeal.Gen.concatenates_S2816x1024_S2816x1024_S5632x1024_d0

/-- Which block every window is at, for all points of the grid. -/
theorem idx : ∀ t : Fin cfg0.N, win0_0.index t = ![t.val % 8, 0] ∧ win0_1.index t = ![t.val % 8, 0]
    ∧ win0_2.index t = ![1, 0] :=
  (by decide +kernel : ∀ t : Fin grid0.N, _)

/-- The zero fill. -/
theorem zero_at (j : S2816x1024.Idx) : k0_pay1 (F := Ideal) j = 0 := by pointwise [k0_pay1]

/-- One step: what the scratch held plus the product of the two staged blocks, over the block's 1024 rows. -/
theorem step_at (acc : FVec Ideal S2816x1024 .f32) (x0 : FVec Ideal S1024x2816 .bf16) (x1 : FVec Ideal S1024x1024 .bf16) (j : S2816x1024.Idx) :
    k0_pay2 (F := Ideal) acc x0 x1 j = acc j + ∑ k : Fin 1024, x0 (ix2 k (j 0)) * x1 (ix2 k (j 1)) := by
  pointwise [k0_pay2]

/-- At the last point of a run the result's block is the scratch array. -/
theorem last (c : Dev nD) (t : Fin cfg0.N) (h : t.val % 8 = 7) :
    (outsAt0 m c t.val t.isLt).1 = (outsAt0 m c t.val t.isLt).2 := by
  rw [outsAt0_C m c t (by omega) h]
  frame_out
  funext j
  pointwise [k0_pay3]

/-- The result array: the rows of its half are the product, the other half is as it was. -/
theorem final (c : Dev nD) : (dats m 0 c).arrAt 2 (cfgs 0).N
    = fun i => if 2816 ≤ (i 0 : ℕ) then REF (m ((c : Thread nD τ).loc main_arg0)) (m ((c : Thread nD τ).loc main_arg1)) (m ((c : Thread nD τ).loc main_arg2)) i else V m c main_v0 i := by
  refine (dats m 0 c).arrAt_eq_of_coversWhere 2 _ (fun β => β 0 = 1) (by decide +kernel) (fun t hf y => ?_)
    (fun j => by blk_simp [Pipeline.Window.cell_apply]; have h0 : (j 0 : ℕ) < 5632 := (j 0).isLt; omega)
  blk_simp
  rw [after0_2, last m c t ((flush0_2 t).mp hf),
    Pipeline.eq_sum_fin_of_reset_step_apply_of_flush (fun n h => (outsAt0 m c n h).2) 8 (fun _ => 0) _
    (fun t h j => by rw [outsAt0_A m c t h (by omega)]; frame_out; rw [step_at, zero_at])
    (fun t h j => by
      by_cases h7 : t.val % 8 = 7
      · rw [outsAt0_C m c t h h7]; frame_out; rw [step_at, read_unread_whole]
      · rw [outsAt0_B m c t h h7]; frame_out; rw [step_at, read_unread_whole])
    t ((flush0_2 t).mp hf) _, zero_add]
  pointwise [REF]
  have hy : (y 0 : ℕ) < 2816 := (y 0).isLt
  rw [dif_neg (show ¬ ((((View.whole main_v0).slice (win0_2.rect t)).emb y) 0 : ℕ) < 2816 by blk_simp [idx t]; omega)]
  refine Fin.sum_mul_add_congr fun s k hl => ?_
  blk_point [iblk, V, idx t, idx ⟨_, Pipeline.run_point_lt_of_flush t ((flush0_2 t).mp hf) s⟩]

/-- The claim: the call's result array is the reference's. -/
theorem algebraic : Cert.algebraic_DwUpVIdeal_DwUpVRefIdeal := by
  pair_intro
  · run_from Cert.DwUpVIdeal.Value.run_blocks m g
  · run_from Cert.DwUpVRefIdeal.Value.run (F := Ideal) m' g'
    rw [final m c, (hagree c).2.2]
    funext i
    by_cases hi : 2816 ≤ (i 0 : ℕ)
    · exact (if_pos hi).symm
    · refine Eq.trans ?_ (if_neg hi).symm
      entry_read
      pointwise
      exact dif_pos (by omega)

end Cert.DwUpVIdeal.Alg

end
-- ==== Proof.DwOutValue.lean ====
/- The gradient of the output projection in its weight: eight blocks of rows, their products accumulated in a scratch
  array and written back, rounded, after the last. -/
module

public import proofs.«01_k».proof.Defs
public import proofs.«01_k».proof.Proof.Gen.DwOutIdeal.Value
public import proofs.«01_k».proof.Proof.Gen.DwOutRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwOutIdeal.Alg

open Cert.DwOutIdeal Cert.DwOutIdeal.Gen

variable (m : (ℓ : Loc nD τ sig) → Buf (Elt Ideal) ℓ)

/-- The reference's term over the call's arguments. -/
abbrev REF (a0 : FVec Ideal Cert.DwOutRefIdeal.S8192x1024 .bf16) (a1 : FVec Ideal Cert.DwOutRefIdeal.S8192x1024 .f32) :
    FVec Ideal Cert.DwOutRefIdeal.S1024x1024 .bf16 :=
  truncf .bf16 (transpose Cert.DwOutRefIdeal.S1024x1024 [1, 0] (Host.dotGeneral Cert.DwOutRefIdeal.dot_S8192x1024_S8192x1024_S1024x1024_0_0_1_1_n_n none a1 (extf .f32 a0 Cert.DwOutRefIdeal.Gen.bitsLt_bf16_f32)) Cert.DwOutRefIdeal.Gen.transposes_S1024x1024_S1024x1024_1_0) Cert.DwOutRefIdeal.Gen.bitsLt_bf16_f32

/-- Which block every window is at, for all points of the grid. -/
theorem idx : ∀ t : Fin cfg0.N, win0_0.index t = ![t.val % 8, 0] ∧ win0_1.index t = ![t.val % 8, 0]
    ∧ win0_2.index t = ![0, 0] :=
  (by decide +kernel : ∀ t : Fin grid0.N, _)

/-- The zero fill. -/
theorem zero_at (j : S1024x1024.Idx) : k0_pay1 (F := Ideal) j = 0 := by pointwise [k0_pay1]

/-- One step: what the scratch held plus the product of the two staged blocks, over the block's 1024 rows. -/
theorem step_at (acc : FVec Ideal S1024x1024 .f32) (x0 : FVec Ideal S1024x1024 .bf16) (x1 : FVec Ideal S1024x1024 .f32) (j : S1024x1024.Idx) :
    k0_pay2 (F := Ideal) acc x0 x1 j = acc j + ∑ k : Fin 1024, x1 (ix2 k (j 1)) * x0 (ix2 k (j 0)) := by
  pointwise [k0_pay2]
  exact congrArg (acc j + ·) (Finset.sum_congr rfl fun _ _ => mul_comm _ _)

/-- At the last point of a run the result's block is the scratch array. -/
theorem last (c : Dev nD) (t : Fin cfg0.N) (h : t.val % 8 = 7) :
    (outsAt0 m c t.val t.isLt).1 = (outsAt0 m c t.val t.isLt).2 := by
  rw [outsAt0_C m c t (by omega) h]
  frame_out
  funext j
  pointwise [k0_pay3]

/-- The result array. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2, last m c t ((flush0_2 t).mp hf),
    Pipeline.eq_sum_fin_of_reset_step_apply_of_flush (fun n h => (outsAt0 m c n h).2) 8 (fun _ => 0) _
    (fun t h j => by rw [outsAt0_A m c t h (by omega)]; frame_out; rw [step_at, zero_at])
    (fun t h j => by
      by_cases h7 : t.val % 8 = 7
      · rw [outsAt0_C m c t h h7]; frame_out; rw [step_at, read_unread_whole]
      · rw [outsAt0_B m c t h h7]; frame_out; rw [step_at, read_unread_whole])
    t ((flush0_2 t).mp hf) _, zero_add]
  pointwise [REF]
  refine Fin.sum_mul_add_congr fun s k hl => ?_
  blk_point [iblk, V, idx t, idx ⟨_, Pipeline.run_point_lt_of_flush t ((flush0_2 t).mp hf) s⟩]

/-- The claim: the call's result array is the reference's. -/
theorem algebraic : Cert.algebraic_DwOutIdeal_DwOutRefIdeal := by
  pair_intro
  · run_from Cert.DwOutIdeal.Value.run_blocks m g
  · run_from Cert.DwOutRefIdeal.Value.run (F := Ideal) m' g'
    exact (final m c).symm

end Cert.DwOutIdeal.Alg

end
-- ==== Proof.DocatValue.lean ====
/- The gradient of the output projection in its input: one block of the cotangent times the whole weight at every point. -/
module

public import proofs.«01_k».proof.Defs
public import proofs.«01_k».proof.Proof.Gen.DocatIdeal.Value
public import proofs.«01_k».proof.Proof.Gen.DocatRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DocatIdeal.Alg

open Cert.DocatIdeal Cert.DocatIdeal.Gen

variable (m : (ℓ : Loc nD τ sig) → Buf (Elt Ideal) ℓ)

/-- The reference's term over the call's arguments. -/
abbrev REF (a0 : FVec Ideal Cert.DocatRefIdeal.S8192x1024 .f32) (a1 : FVec Ideal Cert.DocatRefIdeal.S1024x1024 .bf16) :
    FVec Ideal Cert.DocatRefIdeal.S8192x1024 .f32 :=
  Host.dotGeneral Cert.DocatRefIdeal.dot_S8192x1024_S1024x1024_S8192x1024_1_1_0_0_n_n none a0 (extf .f32 a1 Cert.DocatRefIdeal.Gen.bitsLt_bf16_f32)

/-- Which block every window is at, for all points of the grid. -/
theorem idx : ∀ t : Fin cfg0.N, win0_0.index t = ![t.val, 0] ∧ win0_1.index t = ![0, 0]
    ∧ win0_2.index t = ![t.val, 0] :=
  (by decide +kernel : ∀ t : Fin grid0.N, _)

/-- The result array: the blocks tile it, and a block holds zero plus the product of the two staged blocks. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2]
  unfold Gen.outsAt0
  frame_out
  pointwise [k0_pay1, k0_pay2, REF]
  blk_point [iblk, V, idx t]

/-- The claim: the call's result array is the reference's. -/
theorem algebraic : Cert.algebraic_DocatIdeal_DocatRefIdeal := by
  pair_intro
  · run_from Cert.DocatIdeal.Value.run_blocks m g
  · run_from Cert.DocatRefIdeal.Value.run (F := Ideal) m' g'
    exact (final m c).symm

end Cert.DocatIdeal.Alg

end
-- ==== Proof.DwInValue.lean ====
/- The gradient of the input projection in its weight: eight blocks of rows, their products accumulated in a scratch
  array and written back, rounded, after the last. -/
module

public import proofs.«01_k».proof.Defs
public import proofs.«01_k».proof.Proof.Gen.DwInIdeal.Value
public import proofs.«01_k».proof.Proof.Gen.DwInRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwInIdeal.Alg

open Cert.DwInIdeal Cert.DwInIdeal.Gen

variable (m : (ℓ : Loc nD τ sig) → Buf (Elt Ideal) ℓ)

/-- The reference's term over the call's arguments. -/
abbrev REF (a0 : FVec Ideal Cert.DwInRefIdeal.S8192x3200 .bf16) (a1 : FVec Ideal Cert.DwInRefIdeal.S8192x1024 .bf16) :
    FVec Ideal Cert.DwInRefIdeal.S3200x1024 .bf16 :=
  truncf .bf16 (transpose Cert.DwInRefIdeal.S3200x1024 [1, 0] (transpose Cert.DwInRefIdeal.S1024x3200 [1, 0] (Host.dotGeneral Cert.DwInRefIdeal.dot_S8192x3200_S8192x1024_S3200x1024_0_0_1_1_n_n none (extf .f32 a0 Cert.DwInRefIdeal.Gen.bitsLt_bf16_f32) (extf .f32 a1 Cert.DwInRefIdeal.Gen.bitsLt_bf16_f32)) Cert.DwInRefIdeal.Gen.transposes_S3200x1024_S1024x3200_1_0) Cert.DwInRefIdeal.Gen.transposes_S1024x3200_S3200x1024_1_0) Cert.DwInRefIdeal.Gen.bitsLt_bf16_f32

/-- Which block every window is at, for all points of the grid. -/
theorem idx : ∀ t : Fin cfg0.N, win0_0.index t = ![t.val % 8, 0] ∧ win0_1.index t = ![t.val % 8, 0]
    ∧ win0_2.index t = ![0, 0] :=
  (by decide +kernel : ∀ t : Fin grid0.N, _)

/-- The zero fill. -/
theorem zero_at (j : S3200x1024.Idx) : k0_pay1 (F := Ideal) j = 0 := by pointwise [k0_pay1]

/-- One step: what the scratch held plus the product of the two staged blocks, over the block's 1024 rows. -/
theorem step_at (acc : FVec Ideal S3200x1024 .f32) (x0 : FVec Ideal S1024x3200 .bf16) (x1 : FVec Ideal S1024x1024 .bf16) (j : S3200x1024.Idx) :
    k0_pay2 (F := Ideal) acc x0 x1 j = acc j + ∑ k : Fin 1024, x0 (ix2 k (j 0)) * x1 (ix2 k (j 1)) := by
  pointwise [k0_pay2]

/-- At the last point of a run the result's block is the scratch array. -/
theorem last (c : Dev nD) (t : Fin cfg0.N) (h : t.val % 8 = 7) :
    (outsAt0 m c t.val t.isLt).1 = (outsAt0 m c t.val t.isLt).2 := by
  rw [outsAt0_C m c t (by omega) h]
  frame_out
  funext j
  pointwise [k0_pay3]

/-- The result array. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2, last m c t ((flush0_2 t).mp hf),
    Pipeline.eq_sum_fin_of_reset_step_apply_of_flush (fun n h => (outsAt0 m c n h).2) 8 (fun _ => 0) _
    (fun t h j => by rw [outsAt0_A m c t h (by omega)]; frame_out; rw [step_at, zero_at])
    (fun t h j => by
      by_cases h7 : t.val % 8 = 7
      · rw [outsAt0_C m c t h h7]; frame_out; rw [step_at, read_unread_whole]
      · rw [outsAt0_B m c t h h7]; frame_out; rw [step_at, read_unread_whole])
    t ((flush0_2 t).mp hf) _, zero_add]
  pointwise [REF]
  refine Fin.sum_mul_add_congr fun s k hl => ?_
  blk_point [iblk, V, idx t, idx ⟨_, Pipeline.run_point_lt_of_flush t ((flush0_2 t).mp hf) s⟩]

/-- The claim: the call's result array is the reference's. -/
theorem algebraic : Cert.algebraic_DwInIdeal_DwInRefIdeal := by
  pair_intro
  · run_from Cert.DwInIdeal.Value.run_blocks m g
  · run_from Cert.DwInRefIdeal.Value.run (F := Ideal) m' g'
    exact (final m c).symm

end Cert.DwInIdeal.Alg

end
-- ==== Proof.GateValue.lean ====
/- The gradient of the low-rank gate: row blocks one by one, the two weight gradients summed over them. -/
module

public import proofs.«01_k».proof.Defs
public import proofs.«01_k».proof.Proof.Gen.GateIdeal.Value
public import proofs.«01_k».proof.Proof.Gen.GateRefIdeal.Run
public import Idealize.ShloMosaic.Lib.Pipeline.ValueKit
public import Idealize.ShloMosaic.Lib.Pipeline.ReadBack
public import Idealize.ShloMosaic.Lib.Claim
public import proofs.«01_k».proof.Proof.Rms

@[expose] public section

set_option maxRecDepth 16384

noncomputable section

open Idealize.ShloMosaic Idealize.ShloMosaic.TcCoe Idealize.SL.Sem
open Idealize.ShloMosaic.Pipeline (Dat)

namespace Cert.GateIdeal.Alg

open Cert.GateIdeal Cert.GateIdeal.Gen

variable (m : (ℓ : Loc nD τ sig) → Buf (Elt Ideal) ℓ)

/-- The reference's first result, over the call's arguments. -/
abbrev REF (a0 : FVec Ideal Cert.GateRefIdeal.S8192x256 .f32) (a1 : FVec Ideal Cert.GateRefIdeal.S8192x3200 .f32) (a2 : FVec Ideal Cert.GateRefIdeal.S128x256 .f32) (a3 : FVec Ideal Cert.GateRefIdeal.S8192x3200 .bf16) :
    FVec Ideal Cert.GateRefIdeal.S8192x3200 .bf16 :=
  concatenate Cert.GateRefIdeal.S8192x3200 1 [⟨Cert.GateRefIdeal.S8192x3072, (extractStridedSlice Cert.GateRefIdeal.S8192x3072 ![0, 0] a3 Cert.GateRefIdeal.Gen.slices_S8192x3200_S8192x3072_0_0)⟩, ⟨Cert.GateRefIdeal.S8192x128, (truncf .bf16 (Host.dotGeneral Cert.GateRefIdeal.dot_S8192x256_S128x256_S8192x128_1_1_0_0_n_n none (shapeCast _ a0 Cert.GateRefIdeal.Gen.shapeCasts_S8192x256_S8192x256) a2) Cert.GateRefIdeal.Gen.bitsLt_bf16_f32)⟩] Cert.GateRefIdeal.Gen.concatenates_S8192x3072_S8192x128_S8192x3200_d1

/-- Its result 2. -/
abbrev REF1 (a0 : FVec Ideal Cert.GateRefIdeal.S8192x256 .f32) (a1 : FVec Ideal Cert.GateRefIdeal.S8192x3200 .f32) (a2 : FVec Ideal Cert.GateRefIdeal.S128x256 .f32) (a3 : FVec Ideal Cert.GateRefIdeal.S8192x3200 .bf16) :
    FVec Ideal Cert.GateRefIdeal.S128x256 .f32 :=
  transpose Cert.GateRefIdeal.S128x256 [1, 0] (Host.dotGeneral Cert.GateRefIdeal.dot_S8192x256_S8192x128_S256x128_0_0_1_1_n_n none (shapeCast _ a0 Cert.GateRefIdeal.Gen.shapeCasts_S8192x256_S8192x256) (extractStridedSlice Cert.GateRefIdeal.S8192x128 ![0, 3072] a1 Cert.GateRefIdeal.Gen.slices_S8192x3200_S8192x128_0_3072)) Cert.GateRefIdeal.Gen.transposes_S256x128_S128x256_1_0

/-- Its result 3. -/
abbrev REF2 (a0 : FVec Ideal Cert.GateRefIdeal.S8192x256 .f32) (a1 : FVec Ideal Cert.GateRefIdeal.S8192x3200 .f32) (a2 : FVec Ideal Cert.GateRefIdeal.S128x256 .f32) (a3 : FVec Ideal Cert.GateRefIdeal.S8192x3200 .bf16) :
    FVec Ideal Cert.GateRefIdeal.S1x256 .f32 :=
  broadcastInDim Cert.GateRefIdeal.S1x256 ![1] Cert.GateRefIdeal.Gen.bcast_S256_S1x256_1 (Host.reduceAdd (shapeCast _ (Host.reduceAdd a0 (constant Cert.GateRefIdeal.S_ .f32 0x00000000#32) Cert.GateRefIdeal.Gen.reducesTo_S8192x256_S256_d0 Cert.GateRefIdeal.Gen.h_S_) Cert.GateRefIdeal.Gen.shapeCasts_S256_S1x256) (constant Cert.GateRefIdeal.S_ .f32 0x00000000#32) Cert.GateRefIdeal.Gen.reducesTo_S1x256_S256_d0 Cert.GateRefIdeal.Gen.h_S_)

/-- Which block every window is at, for all points of the grid. -/
theorem idx : ∀ t : Fin cfg0.N, win0_0.index t = ![t.val, 0] ∧ win0_1.index t = ![t.val, 24] ∧ win0_2.index t = ![0, 0]
    ∧ win0_3.index t = ![t.val, 24] ∧ win0_4.index t = ![0, 0] ∧ win0_5.index t = ![0, 0] :=
  (by decide +kernel : ∀ t : Fin grid0.N, _)

/-- Every row of a block is a row of the array. -/
theorem row_lt (t : Fin cfg0.N) (p : Fin 512) : t.val * 512 + p.val < 8192 := by
  have hN : t.val < 16 := t.isLt
  omega

/-- Every column of the gate's block is a column of the array. -/
theorem col_lt (q : Fin 128) : 3072 + q.val < 3200 := by omega

/-- The call's arguments, each with its shape. -/
abbrev A0 (c : Dev nD) : FVec Ideal S8192x256 .f32 := m ((c : Thread nD τ).loc main_arg0)
abbrev A1 (c : Dev nD) : FVec Ideal S8192x3200 .f32 := m ((c : Thread nD τ).loc main_arg1)
abbrev A2 (c : Dev nD) : FVec Ideal S128x256 .f32 := m ((c : Thread nD τ).loc main_arg2)
abbrev A3 (c : Dev nD) : FVec Ideal S8192x3200 .bf16 := m ((c : Thread nD τ).loc main_arg3)

/-- The operands' blocks at a point. -/
def B0 (c : Dev nD) (t : Fin cfg0.N) : FVec Ideal S512x256 .f32 := iblk m c 0 t
def B1 (c : Dev nD) (t : Fin cfg0.N) : FVec Ideal S512x128 .f32 := iblk m c 1 t
def B2 (c : Dev nD) (t : Fin cfg0.N) : FVec Ideal S128x256 .f32 := iblk m c 2 t

theorem B0_at (c : Dev nD) (t : Fin cfg0.N) (p : Fin 512) (k : Fin 256) :
    B0 m c t (ix2 p k) = A0 m c (ix2 ⟨t.val * 512 + p.val, row_lt t p⟩ k) := by
  unfold B0
  blk_point [iblk, V, idx t]

theorem B1_at (c : Dev nD) (t : Fin cfg0.N) (p : Fin 512) (q : Fin 128) :
    B1 m c t (ix2 p q) = A1 m c (ix2 ⟨t.val * 512 + p.val, row_lt t p⟩ ⟨3072 + q.val, col_lt q⟩) := by
  unfold B1
  blk_point [iblk, V, idx t]

theorem B2_at (c : Dev nD) (t : Fin cfg0.N) (q : Fin 128) (k : Fin 256) : B2 m c t (ix2 q k) = A2 m c (ix2 q k) := by
  unfold B2
  blk_point [iblk, V, idx t]

theorem dp_at (x : FVec Ideal S512x256 .f32) (w : FVec Ideal S128x256 .f32) (p : Fin 512) (q : Fin 128) :
    k0_pay3 (F := Ideal) x w (ix2 p q) = ∑ k : Fin 256, x (ix2 p k) * w (ix2 q k) := by
  pointwise [k0_pay3]

theorem dw_at (x : FVec Ideal S512x256 .f32) (acc : FVec Ideal S128x256 .f32) (y : FVec Ideal S512x128 .f32) (p : Fin 128) (q : Fin 256) :
    k0_pay4 (F := Ideal) x acc y (ix2 p q) = acc (ix2 p q) + ∑ r : Fin 512, y (ix2 r p) * x (ix2 r q) := by
  pointwise [k0_pay4]

theorem db_at (x : FVec Ideal S512x256 .f32) (acc : FVec Ideal S1x256 .f32) (q : Fin 256) :
    k0_pay5 (F := Ideal) x acc (ix2 0 q) = acc (ix2 0 q) + ∑ r : Fin 512, x (ix2 r q) := by
  pointwise [k0_pay5]

/-- The zero fills. -/
theorem zero1_at (j : S128x256.Idx) : k0_pay1 (F := Ideal) j = 0 := by pointwise [k0_pay1]
theorem zero2_at (j : S1x256.Idx) : k0_pay2 (F := Ideal) j = 0 := by pointwise [k0_pay2]

/-- The reference's results at an index: the gate's columns of the first, and the columns it keeps. -/
theorem ref_at (c : Dev nD) (p : Fin 8192) (q : Fin 128) :
    REF (m ((c : Thread nD τ).loc main_arg0)) (m ((c : Thread nD τ).loc main_arg1)) (m ((c : Thread nD τ).loc main_arg2)) (m ((c : Thread nD τ).loc main_arg3)) (ix2 p ⟨3072 + q.val, col_lt q⟩) = ∑ k : Fin 256, A0 m c (ix2 p k) * A2 m c (ix2 q k) := by
  pointwise [REF]

theorem ref_kept (c : Dev nD) (i : S8192x3200.Idx) (h : ¬ 3072 ≤ (i 1 : ℕ)) : REF (m ((c : Thread nD τ).loc main_arg0)) (m ((c : Thread nD τ).loc main_arg1)) (m ((c : Thread nD τ).loc main_arg2)) (m ((c : Thread nD τ).loc main_arg3)) i = A3 m c i := by
  pointwise [REF]
  exact dif_pos (by omega)

theorem ref1_at (c : Dev nD) (p : Fin 128) (q : Fin 256) :
    REF1 (m ((c : Thread nD τ).loc main_arg0)) (m ((c : Thread nD τ).loc main_arg1)) (m ((c : Thread nD τ).loc main_arg2)) (m ((c : Thread nD τ).loc main_arg3)) (ix2 p q) = ∑ r : Fin 8192, A1 m c (ix2 r ⟨3072 + p.val, col_lt p⟩) * A0 m c (ix2 r q) := by
  pointwise [REF1]
  exact Finset.sum_congr rfl fun _ _ => mul_comm _ _

theorem ref2_at (c : Dev nD) (q : Fin 256) : REF2 (m ((c : Thread nD τ).loc main_arg0)) (m ((c : Thread nD τ).loc main_arg1)) (m ((c : Thread nD τ).loc main_arg2)) (m ((c : Thread nD τ).loc main_arg3)) (ix2 0 q) = ∑ r : Fin 8192, A0 m c (ix2 r q) := by
  pointwise [REF2]
  exact Fin.sum_univ_one _

/-- Where an element of a block lies. -/
theorem emb3 (t : Fin cfg0.N) (p : Fin 512) (q : Fin 128) :
    (win0_3.blk t).view.emb (ix2 p q) = ix2 ⟨t.val * 512 + p.val, row_lt t p⟩ ⟨3072 + q.val, col_lt q⟩ := by
  blk_point [idx t]
theorem emb4 (t : Fin cfg0.N) (p : Fin 128) (q : Fin 256) : (win0_4.blk t).view.emb (ix2 p q) = ix2 p q := by
  blk_point [idx t]
theorem emb5 (t : Fin cfg0.N) (q : Fin 256) : (win0_5.blk t).view.emb (ix2 0 q) = ix2 0 q := by
  blk_point [idx t]

/-- The gradient's block at a point. -/
theorem dp_block (c : Dev nD) (t : Fin cfg0.N) (p : Fin 512) (q : Fin 128) :
    (outsAt0 m c t.val t.isLt).1 (ix2 p q) = ∑ k : Fin 256, B0 m c t (ix2 p k) * B2 m c t (ix2 q k) := by
  by_cases h : t.val % 16 = 0
  · rw [outsAt0_A m c t h]; frame_out; exact dp_at _ _ p q
  · rw [outsAt0_B m c t h]; frame_out; exact dp_at _ _ p q

/-- The gradient's array: the gate's columns are new, the others as they came. -/
theorem final (c : Dev nD) : (dats m 0 c).arrAt 3 (cfgs 0).N
    = fun i => if 3072 ≤ (i 1 : ℕ) then REF (m ((c : Thread nD τ).loc main_arg0)) (m ((c : Thread nD τ).loc main_arg1)) (m ((c : Thread nD τ).loc main_arg2)) (m ((c : Thread nD τ).loc main_arg3)) i else V m c main_v0_0 i := by
  refine (dats m 0 c).arrAt_eq_of_coversWhere 3 _ (fun β => β 1 = 24) (by decide +kernel) (fun t hf y => ?_)
    (fun j => by blk_simp [Pipeline.Window.cell_apply]; have h0 : (j 1 : ℕ) < 3200 := (j 1).isLt; omega)
  obtain ⟨p, q, rfl⟩ : ∃ (p : Fin 512) (q : Fin 128), y = ix2 p q := ⟨y 0, y 1, eq_ix2 y⟩
  blk_simp
  rw [after0_3, emb3, ref_at, dp_block]
  simp only [B0_at, B2_at]

/-- The points of the one run are the grid's. -/
theorem pts (t : Fin cfg0.N) (h : ∀ s : Fin 16, 16 * (t.val / 16) + s.val < cfg0.N) :
    (fun s : Fin 16 => (⟨16 * (t.val / 16) + s.val, h s⟩ : Fin cfg0.N)) = fun s => s := by
  have hN : t.val < 16 := t.isLt
  funext s
  apply Fin.ext
  show 16 * (t.val / 16) + s.val = s.val
  omega

/-- A point's part of the weight's gradient. -/
theorem dw_part (c : Dev nD) (t : Fin cfg0.N) (acc : FVec Ideal S128x256 .f32) (p : Fin 128) (q : Fin 256) :
    k0_pay4 (F := Ideal) (B0 m c t) acc (B1 m c t) (ix2 p q) = acc (ix2 p q)
      + ∑ r : Fin 512, A1 m c (ix2 ⟨t.val * 512 + r.val, row_lt t r⟩ ⟨3072 + p.val, col_lt p⟩) * A0 m c (ix2 ⟨t.val * 512 + r.val, row_lt t r⟩ q) := by
  rw [dw_at]
  simp only [B0_at, B1_at]

/-- A point's part of the bias's gradient. -/
theorem db_part (c : Dev nD) (t : Fin cfg0.N) (acc : FVec Ideal S1x256 .f32) (q : Fin 256) :
    k0_pay5 (F := Ideal) (B0 m c t) acc (ix2 0 q) = acc (ix2 0 q)
      + ∑ r : Fin 512, A0 m c (ix2 ⟨t.val * 512 + r.val, row_lt t r⟩ q) := by
  rw [db_at]
  simp only [B0_at]

/-- The weight gradient's array. -/
theorem final1 (c : Dev nD) : (dats m 0 c).arrAt 4 (cfgs 0).N = REF1 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  obtain ⟨p, q, rfl⟩ : ∃ (p : Fin 128) (q : Fin 256), y = ix2 p q := ⟨y 0, y 1, eq_ix2 y⟩
  blk_simp
  rw [after0_4, emb4, ref1_at,
    Pipeline.eq_sum_fin_of_reset_step_apply_of_flush (fun n h => (outsAt0 m c n h).2.1) 16 (fun _ => 0)
    (fun t j => ∑ r : Fin 512, A1 m c (ix2 ⟨t.val * 512 + r.val, row_lt t r⟩ ⟨3072 + (j 0 : Fin 128).val, col_lt (j 0)⟩) * A0 m c (ix2 ⟨t.val * 512 + r.val, row_lt t r⟩ (j 1)))
    (fun t h j => by
      obtain ⟨p, q, rfl⟩ : ∃ (p : Fin 128) (q : Fin 256), j = ix2 p q := ⟨j 0, j 1, eq_ix2 j⟩
      rw [outsAt0_A m c t h]; frame_out; refine (dw_part m c t _ p q).trans ?_; rw [zero1_at]; rfl)
    (fun t h j => by
      obtain ⟨p, q, rfl⟩ : ∃ (p : Fin 128) (q : Fin 256), j = ix2 p q := ⟨j 0, j 1, eq_ix2 j⟩
      rw [outsAt0_B m c t h]; frame_out; exact dw_part m c t _ p q)
    t ((flush0_4 t).mp hf) _, zero_add]
  refine (congrArg (fun f : Fin 16 → Fin cfg0.N => ∑ s, ∑ r : Fin 512, A1 m c (ix2 ⟨(f s).val * 512 + r.val, row_lt (f s) r⟩ ⟨3072 + p.val, col_lt p⟩) * A0 m c (ix2 ⟨(f s).val * 512 + r.val, row_lt (f s) r⟩ q)) (pts t _)).trans ?_
  exact Fin.sum_mul_add_congr (S := 16) (n := 512) (f := fun x : Fin 8192 => A1 m c (ix2 x ⟨3072 + p.val, col_lt p⟩) * A0 m c (ix2 x q)) fun s p hl => rfl

/-- The bias gradient's array. -/
theorem final2 (c : Dev nD) : (dats m 0 c).arrAt 5 (cfgs 0).N = REF2 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  obtain ⟨z, q, rfl⟩ : ∃ (z : Fin 1) (q : Fin 256), y = ix2 z q := ⟨y 0, y 1, eq_ix2 y⟩
  obtain rfl : z = 0 := Subsingleton.elim _ _
  blk_simp
  rw [after0_5, emb5, ref2_at,
    Pipeline.eq_sum_fin_of_reset_step_apply_of_flush (fun n h => (outsAt0 m c n h).2.2) 16 (fun _ => 0)
    (fun t j => ∑ r : Fin 512, A0 m c (ix2 ⟨t.val * 512 + r.val, row_lt t r⟩ (j 1)))
    (fun t h j => by
      obtain ⟨z, q, rfl⟩ : ∃ (z : Fin 1) (q : Fin 256), j = ix2 z q := ⟨j 0, j 1, eq_ix2 j⟩
      obtain rfl : z = 0 := Subsingleton.elim _ _
      rw [outsAt0_A m c t h]; frame_out; refine (db_part m c t _ q).trans ?_; rw [zero2_at]; rfl)
    (fun t h j => by
      obtain ⟨z, q, rfl⟩ : ∃ (z : Fin 1) (q : Fin 256), j = ix2 z q := ⟨j 0, j 1, eq_ix2 j⟩
      obtain rfl : z = 0 := Subsingleton.elim _ _
      rw [outsAt0_B m c t h]; frame_out; exact db_part m c t _ q)
    t ((flush0_5 t).mp hf) _, zero_add]
  refine (congrArg (fun f : Fin 16 → Fin cfg0.N => ∑ s, ∑ r : Fin 512, A0 m c (ix2 ⟨(f s).val * 512 + r.val, row_lt (f s) r⟩ q)) (pts t _)).trans ?_
  exact Fin.sum_mul_add_congr (S := 16) (n := 512) (f := fun x : Fin 8192 => A0 m c (ix2 x q)) fun s p hl => rfl

/-- The claim: the call's three results are the reference's. -/
theorem algebraic : Cert.algebraic_GateIdeal_GateRefIdeal := by
  pair_intro
  · run_from Cert.GateIdeal.Value.run_blocks m g
  · run_from Cert.GateRefIdeal.Value.run (F := Ideal) m' g'
    · obtain ⟨h0, h1, h2, h3⟩ := hagree c
      rw [final m c, h2, h3]
      funext i
      by_cases hi : 3072 ≤ (i 1 : ℕ)
      · exact (if_pos hi).symm
      · refine Eq.trans (ref_kept m c i hi) ?_
        refine Eq.trans ?_ (if_neg hi).symm
        entry_read
        rfl
    · exact (final1 m c).symm
    · exact (final2 m c).symm

end Cert.GateIdeal.Alg

end
-- ==== Proof.UpValue.lean ====
/- The up projection of the forward pass: a block of rows times a block of the stored (transposed) weight at every point. -/
module

public import proofs.«01_k».proof.Defs
public import proofs.«01_k».proof.Proof.Gen.UpIdeal.Value
public import proofs.«01_k».proof.Proof.Gen.UpRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.UpIdeal.Alg

open Cert.UpIdeal Cert.UpIdeal.Gen

variable (m : (ℓ : Loc nD τ sig) → Buf (Elt Ideal) ℓ)

/-- The reference's term over the call's arguments. -/
abbrev REF (a0 : FVec Ideal Cert.UpRefIdeal.S8192x1024 .bf16) (a1 : FVec Ideal Cert.UpRefIdeal.S5632x1024 .bf16) :
    FVec Ideal Cert.UpRefIdeal.S8192x5632 .f32 :=
  Host.dotGeneral Cert.UpRefIdeal.dot_S8192x1024_S1024x5632_S8192x5632_1_0_0_1_n_n none (extf .f32 a0 Cert.UpRefIdeal.Gen.bitsLt_bf16_f32) (transpose Cert.UpRefIdeal.S1024x5632 [1, 0] (extf .f32 a1 Cert.UpRefIdeal.Gen.bitsLt_bf16_f32) Cert.UpRefIdeal.Gen.transposes_S5632x1024_S1024x5632_1_0)

/-- Which block every window is at, for all points of the grid. -/
theorem idx : ∀ t : Fin cfg0.N, win0_0.index t = ![t.val % 8, 0] ∧ win0_1.index t = ![t.val / 8, 0]
    ∧ win0_2.index t = ![t.val % 8, t.val / 8] :=
  (by decide +kernel : ∀ t : Fin grid0.N, _)

/-- The result array: the blocks tile it, and a block holds zero plus the product of the two staged blocks. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2]
  unfold Gen.outsAt0
  frame_out
  pointwise [k0_pay1, k0_pay2, REF]
  blk_point [iblk, V, idx t]

/-- The claim: the call's result array is the reference's. -/
theorem algebraic : Cert.algebraic_UpIdeal_UpRefIdeal := by
  pair_intro
  · run_from Cert.UpIdeal.Value.run_blocks m g
  · run_from Cert.UpRefIdeal.Value.run (F := Ideal) m' g'
    exact (final m c).symm

end Cert.UpIdeal.Alg

end
-- ==== Proof.ProjValue.lean ====
/- The norm and the input projection: row blocks, each with the whole weight. -/
module

public import proofs.«01_k».proof.Defs
public import proofs.«01_k».proof.Proof.Gen.ProjIdeal.Value
public import proofs.«01_k».proof.Proof.Gen.ProjRefIdeal.Run
public import Idealize.ShloMosaic.Lib.Pipeline.ValueKit
public import Idealize.ShloMosaic.Lib.Pipeline.ReadBack
public import Idealize.ShloMosaic.Lib.Claim
public import proofs.«01_k».proof.Proof.Rms

@[expose] public section

set_option maxRecDepth 16384

noncomputable section

open Idealize.ShloMosaic Idealize.ShloMosaic.TcCoe Idealize.SL.Sem
open Idealize.ShloMosaic.Pipeline (Dat)

namespace Cert.ProjIdeal.Alg

open Cert.ProjIdeal Cert.ProjIdeal.Gen

variable (m : (ℓ : Loc nD τ sig) → Buf (Elt Ideal) ℓ)

/-- The reference's first result, over the call's arguments. -/
abbrev REF (a0 : FVec Ideal Cert.ProjRefIdeal.S8192x1024 .f32) (a1 : FVec Ideal Cert.ProjRefIdeal.S1x1024 .f32) (a2 : FVec Ideal Cert.ProjRefIdeal.S3200x1024 .bf16) :
    FVec Ideal Cert.ProjRefIdeal.S8192x3200 .f32 :=
  Host.dotGeneral Cert.ProjRefIdeal.dot_S8192x1024_S1024x3200_S8192x3200_1_0_0_1_n_n none (mulf (mulf a0 (broadcastInDim Cert.ProjRefIdeal.S8192x1024 ![0, 1] Cert.ProjRefIdeal.Gen.bcast_S8192x1_S8192x1024_0_1 (Host.rsqrt (addf (Host.divf (broadcastInDim Cert.ProjRefIdeal.S8192x1 ![0] Cert.ProjRefIdeal.Gen.bcast_S8192_S8192x1_0 (Host.reduceAdd (mulf a0 a0) (constant Cert.ProjRefIdeal.S_ .f32 0x00000000#32) Cert.ProjRefIdeal.Gen.reducesTo_S8192x1024_S8192_d1 Cert.ProjRefIdeal.Gen.h_S_)) (broadcastInDim Cert.ProjRefIdeal.S8192x1 ![] Cert.ProjRefIdeal.Gen.bcast_S_S8192x1 (constant Cert.ProjRefIdeal.S_ .f32 0x44800000#32))) (broadcastInDim Cert.ProjRefIdeal.S8192x1 ![] Cert.ProjRefIdeal.Gen.bcast_S_S8192x1 (constant Cert.ProjRefIdeal.S_ .f32 0x358637BD#32)))))) (broadcastInDim Cert.ProjRefIdeal.S8192x1024 ![0, 1] Cert.ProjRefIdeal.Gen.bcast_S1x1024_S8192x1024_0_1 (broadcastInDim Cert.ProjRefIdeal.S1x1024 ![1] Cert.ProjRefIdeal.Gen.bcast_S1024_S1x1024_1 (shapeCast _ a1 Cert.ProjRefIdeal.Gen.shapeCasts_S1x1024_S1024)))) (transpose Cert.ProjRefIdeal.S1024x3200 [1, 0] (extf .f32 a2 Cert.ProjRefIdeal.Gen.bitsLt_bf16_f32) Cert.ProjRefIdeal.Gen.transposes_S3200x1024_S1024x3200_1_0)

/-- Its result 2. -/
abbrev REF1 (a0 : FVec Ideal Cert.ProjRefIdeal.S8192x1024 .f32) (a1 : FVec Ideal Cert.ProjRefIdeal.S1x1024 .f32) (a2 : FVec Ideal Cert.ProjRefIdeal.S3200x1024 .bf16) :
    FVec Ideal Cert.ProjRefIdeal.S8192x1024 .bf16 :=
  truncf .bf16 (mulf (mulf a0 (broadcastInDim Cert.ProjRefIdeal.S8192x1024 ![0, 1] Cert.ProjRefIdeal.Gen.bcast_S8192x1_S8192x1024_0_1 (Host.rsqrt (addf (Host.divf (broadcastInDim Cert.ProjRefIdeal.S8192x1 ![0] Cert.ProjRefIdeal.Gen.bcast_S8192_S8192x1_0 (Host.reduceAdd (mulf a0 a0) (constant Cert.ProjRefIdeal.S_ .f32 0x00000000#32) Cert.ProjRefIdeal.Gen.reducesTo_S8192x1024_S8192_d1 Cert.ProjRefIdeal.Gen.h_S_)) (broadcastInDim Cert.ProjRefIdeal.S8192x1 ![] Cert.ProjRefIdeal.Gen.bcast_S_S8192x1 (constant Cert.ProjRefIdeal.S_ .f32 0x44800000#32))) (broadcastInDim Cert.ProjRefIdeal.S8192x1 ![] Cert.ProjRefIdeal.Gen.bcast_S_S8192x1 (constant Cert.ProjRefIdeal.S_ .f32 0x358637BD#32)))))) (broadcastInDim Cert.ProjRefIdeal.S8192x1024 ![0, 1] Cert.ProjRefIdeal.Gen.bcast_S1x1024_S8192x1024_0_1 (broadcastInDim Cert.ProjRefIdeal.S1x1024 ![1] Cert.ProjRefIdeal.Gen.bcast_S1024_S1x1024_1 (shapeCast _ a1 Cert.ProjRefIdeal.Gen.shapeCasts_S1x1024_S1024)))) Cert.ProjRefIdeal.Gen.bitsLt_bf16_f32

/-- Which block every window is at, for all points of the grid. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

/-- Every row of a block is a row of the array. -/
theorem row_lt (t : Fin cfg0.N) (p : Fin 512) : t.val * 512 + p.val < 8192 := by
  have hN : t.val < 16 := t.isLt
  omega

/-- The call's arguments, each with its shape. -/
abbrev A0 (c : Dev nD) : FVec Ideal S8192x1024 .f32 := m ((c : Thread nD τ).loc main_arg0)
abbrev A1 (c : Dev nD) : FVec Ideal S1x1024 .f32 := m ((c : Thread nD τ).loc main_arg1)
abbrev A2 (c : Dev nD) : FVec Ideal S3200x1024 .bf16 := m ((c : Thread nD τ).loc main_arg2)

/-- The operands' blocks at a point. -/
def B0 (c : Dev nD) (t : Fin cfg0.N) : FVec Ideal S512x1024 .f32 := iblk m c 0 t
def B1 (c : Dev nD) (t : Fin cfg0.N) : FVec Ideal S1x1024 .f32 := iblk m c 1 t
def B2 (c : Dev nD) (t : Fin cfg0.N) : FVec Ideal S3200x1024 .bf16 := iblk m c 2 t

theorem B0_at (c : Dev nD) (t : Fin cfg0.N) (p : Fin 512) (k : Fin 1024) :
    B0 m c t (ix2 p k) = A0 m c (ix2 ⟨t.val * 512 + p.val, row_lt t p⟩ k) := by
  unfold B0
  blk_point [iblk, V, idx t]

theorem B1_at (c : Dev nD) (t : Fin cfg0.N) (q : Fin 1024) : B1 m c t (ix2 0 q) = A1 m c (ix2 0 q) := by
  unfold B1
  blk_point [iblk, V, idx t]

theorem B2_at (c : Dev nD) (t : Fin cfg0.N) (q : Fin 3200) (k : Fin 1024) : B2 m c t (ix2 q k) = A2 m c (ix2 q k) := by
  unfold B2
  blk_point [iblk, V, idx t]

/-- One element of a row's norm. -/
def nrm (x g : Fin 1024 → EReal) (k : Fin 1024) : EReal := x k * Ideal.rsqrt (Rms.v x) * g k

theorem h_at (x : FVec Ideal S512x1024 .f32) (g : FVec Ideal S1x1024 .f32) (p : Fin 512) (q : Fin 1024) :
    k0_pay1 (F := Ideal) x g (ix2 p q) = nrm (fun k => x (ix2 p k)) (fun k => g (ix2 0 k)) q := by
  pointwise [k0_pay1]
  rfl

theorem p_at (x : FVec Ideal S512x1024 .f32) (g : FVec Ideal S1x1024 .f32) (w : FVec Ideal S3200x1024 .bf16) (p : Fin 512) (q : Fin 3200) :
    k0_pay2 (F := Ideal) x g w (ix2 p q) = ∑ k, nrm (fun k => x (ix2 p k)) (fun k => g (ix2 0 k)) k * w (ix2 q k) := by
  pointwise [k0_pay2, k0_pay1]
  rfl

/-- The reference's results at an index. -/
theorem ref_at (c : Dev nD) (p : Fin 8192) (q : Fin 3200) :
    REF (m ((c : Thread nD τ).loc main_arg0)) (m ((c : Thread nD τ).loc main_arg1)) (m ((c : Thread nD τ).loc main_arg2)) (ix2 p q) = ∑ k, nrm (fun k => A0 m c (ix2 p k)) (fun k => A1 m c (ix2 0 k)) k * A2 m c (ix2 q k) := by
  pointwise [REF]
  rfl

theorem ref1_at (c : Dev nD) (p : Fin 8192) (q : Fin 1024) :
    REF1 (m ((c : Thread nD τ).loc main_arg0)) (m ((c : Thread nD τ).loc main_arg1)) (m ((c : Thread nD τ).loc main_arg2)) (ix2 p q) = nrm (fun k => A0 m c (ix2 p k)) (fun k => A1 m c (ix2 0 k)) q := by
  pointwise [REF1]
  rfl

/-- Where an element of a block lies. -/
theorem emb3 (t : Fin cfg0.N) (p : Fin 512) (q : Fin 3200) :
    (win0_3.blk t).view.emb (ix2 p q) = ix2 ⟨t.val * 512 + p.val, row_lt t p⟩ q := by
  blk_point [idx t]
theorem emb4 (t : Fin cfg0.N) (p : Fin 512) (q : Fin 1024) :
    (win0_4.blk t).view.emb (ix2 p q) = ix2 ⟨t.val * 512 + p.val, row_lt t p⟩ q := by
  blk_point [idx t]

/-- The projection's array. -/
theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨p, q, rfl⟩ : ∃ (p : Fin 512) (q : Fin 3200), y = ix2 p q := ⟨y 0, y 1, eq_ix2 y⟩
  blk_simp
  rw [after0_3, emb3, ref_at]
  have e : out0_3 (F := Ideal) (B0 m c t) (B1 m c t) (B2 m c t) (ix2 p q)
      = ∑ k, nrm (fun k => B0 m c t (ix2 p k)) (fun k => B1 m c t (ix2 0 k)) k * B2 m c t (ix2 q k) := by
    frame_out
    exact p_at _ _ _ p q
  refine e.trans ?_
  simp only [B0_at, B1_at, B2_at]

/-- The norm's array. -/
theorem final1 (c : Dev nD) : (dats m 0 c).arrAt 4 (cfgs 0).N = REF1 (m ((c : Thread nD τ).loc main_arg0)) (m ((c : Thread nD τ).loc main_arg1)) (m ((c : Thread nD τ).loc main_arg2)) := by
  refine (dats m 0 c).arrAt_eq_of_covers 4 _ (by decide +kernel) fun t hf y => ?_
  obtain ⟨p, q, rfl⟩ : ∃ (p : Fin 512) (q : Fin 1024), y = ix2 p q := ⟨y 0, y 1, eq_ix2 y⟩
  blk_simp
  rw [after0_4, emb4, ref1_at]
  have e : out0_4 (F := Ideal) (B0 m c t) (B1 m c t) (B2 m c t) (ix2 p q) = nrm (fun k => B0 m c t (ix2 p k)) (fun k => B1 m c t (ix2 0 k)) q := by
    frame_out
    exact h_at _ _ p q
  refine e.trans ?_
  simp only [B0_at, B1_at]

/-- The claim: the call's two results are the reference's. -/
theorem algebraic : Cert.algebraic_ProjIdeal_ProjRefIdeal := by
  pair_intro
  · run_from Cert.ProjIdeal.Value.run_blocks m g
  · run_from Cert.ProjRefIdeal.Value.run (F := Ideal) m' g'
    · exact (final m c).symm
    · exact (final1 m c).symm

end Cert.ProjIdeal.Alg

end
-- ==== Proof.HeadNorm.lean ====
/- The head norms' gradient, in the extended reals. A product by parts with a block of ones is the sum over one head; the
   gradient of a head's norm has the same two forms as that of a row's norm. -/
module

public import proofs.«01_k».proof.Proof.Rms
public import Idealize.ShloMosaic.Lib.Pipeline.ValueKit

@[expose] public section

noncomputable section

open Idealize.ShloMosaic

namespace Cert.HeadNorm

/-- A column of a head is a column of the row. -/
theorem col_lt {S n : ℕ} (h : Fin S) (i : Fin n) : h.val * n + i.val < S * n :=
  calc h.val * n + i.val < h.val * n + n := Nat.add_lt_add_left i.isLt _
    _ = (h.val + 1) * n := (Nat.succ_mul _ _).symm
    _ ≤ S * n := Nat.mul_le_mul_right _ h.isLt

/-- A number of the extended reals that is a real. -/
def IsReal (x : EReal) : Prop := ∃ r : ℝ, x = r

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.add {x y : EReal} (hx : IsReal x) (hy : IsReal y) : IsReal (x + y) := by
  obtain ⟨a, rfl⟩ := hx; obtain ⟨b, rfl⟩ := hy
  exact ⟨a + b, (EReal.coe_add a b).symm⟩

/-- The product by parts with the ones of one head: the second part takes the numbers from themselves, so it is zero
    for reals, and the first is the head's sum. -/
theorem split_sum {S n : ℕ} (f M : Fin (S * n) → EReal) (hf : ∀ k, IsReal (f k)) (h : Fin S)
    (hM : ∀ k, M k = if k.val / n = h.val then 1 else 0) :
    ∑ k, f k * M k + ∑ k, (f k - f k) * M k = ∑ i : Fin n, f ⟨h.val * n + i.val, col_lt h i⟩ := by
  have z : ∑ k, (f k - f k) * M k = 0 := Finset.sum_eq_zero fun k _ => by
    obtain ⟨r, hr⟩ := hf k
    rw [hr, ← EReal.coe_sub, sub_self, EReal.coe_zero, zero_mul]
  rw [z, add_zero]
  have e : ∑ s : Fin S, ∑ i : Fin n, (if s = h then f ⟨s.val * n + i.val, col_lt s i⟩ else 0) = ∑ k, f k * M k := by
    refine Fin.sum_mul_add_congr (f := fun k => f k * M k) (fun s i hl => ?_) rfl
    have hn : 0 < n := lt_of_le_of_lt (Nat.zero_le _) i.isLt
    have hd : (s.val * n + i.val) / n = s.val := by
      rw [Nat.mul_comm, Nat.mul_add_div hn, Nat.div_eq_of_lt i.isLt, Nat.add_zero]
    show _ = f ⟨s.val * n + i.val, _⟩ * M ⟨s.val * n + i.val, _⟩
    rw [hM]
    dsimp only
    rw [hd]
    by_cases hs : s = h
    · rw [if_pos hs, if_pos (congrArg Fin.val hs), mul_one]
    · rw [if_neg hs, if_neg (fun e => hs (Fin.ext e)), mul_zero]
  rw [← e, Finset.sum_eq_single h]
  · simp
  · intro s _ hs
    exact Finset.sum_eq_zero fun i _ => if_neg hs
  · intro hh; exact absurd (Finset.mem_univ h) hh

/-- The gradient of one element of a head, in its two forms, for any positive number under the root. -/
theorem dx_eq {n : ℕ} {w : EReal} (hv : 0 < w) {c : ℝ} (hc : 0 < c) (x a : Fin n → EReal) (xi ai : EReal) :
    Ideal.rsqrt w * (ai - xi * Ideal.rsqrt w * ((∑ k, a k * (x k * Ideal.rsqrt w)) * (c : EReal)))
      = ai * Ideal.rsqrt w
          + xi * (∑ _z : Fin 1, (∑ k, x k * a k) * (Rms.H * Ideal.div (Ideal.rsqrt w) w) * (c : EReal))
          + (∑ _z : Fin 1, (∑ k, x k * a k) * (Rms.H * Ideal.div (Ideal.rsqrt w) w) * (c : EReal)) * xi := by
  rw [Fin.sum_univ_one]
  induction w with
  | bot => exact absurd hv (by simp)
  | top => simp [Ideal.div]
  | coe w =>
    have hw : 0 < w := by exact_mod_cast hv
    have hr : Ideal.rsqrt (w : EReal) = (((Real.sqrt w)⁻¹ : ℝ) : EReal) := by
      rw [Ideal.rsqrt_coe, if_neg (not_lt.mpr hw.le), if_neg hw.ne']
    rw [hr]
    set r : ℝ := (Real.sqrt w)⁻¹ with hrd
    have r0 : 0 ≤ r := by positivity
    have rw' : w⁻¹ = r * r := by
      rw [hrd, ← mul_inv, Real.mul_self_sqrt hw.le]
    have r0' : (0 : EReal) ≤ (r : EReal) := by exact_mod_cast r0
    have hd : Ideal.div (r : EReal) (w : EReal) = ((r * (r * r) : ℝ) : EReal) := by
      rw [Ideal.div, if_neg (by exact_mod_cast hw.ne'), ← EReal.coe_inv, ← EReal.coe_mul, rw']
    have hs : ∑ k, a k * (x k * (r : EReal)) = (r : EReal) * ∑ k, x k * a k := by
      rw [Rms.coe_mul_sum r0]
      exact Finset.sum_congr rfl fun k _ => by rw [← mul_assoc, mul_comm, mul_comm (a k)]
    rw [hd, hs, Rms.H_eq]
    generalize ∑ k, x k * a k = S
    have e1 : xi * (S * (((-(1 / 2) : ℝ) : EReal) * ((r * (r * r) : ℝ) : EReal)) * (c : EReal))
        = (xi * S) * ((-((r * (r * r) * c) / 2) : ℝ) : EReal) := by
      rw [← EReal.coe_mul, mul_assoc S, ← EReal.coe_mul, mul_assoc (-(1 / 2) : ℝ)]
      rw [show -(1 / 2) * (r * (r * r) * c) = -((r * (r * r) * c) / 2) by ring, mul_assoc xi]
    have e2 : (r : EReal) * (xi * (r : EReal) * ((r : EReal) * S * (c : EReal)))
        = (xi * S) * ((r * (r * r) * c : ℝ) : EReal) := by
      have : ((r * (r * r) * c : ℝ) : EReal) = (r : EReal) * ((r : EReal) * (r : EReal)) * (c : EReal) := by
        rw [← EReal.coe_mul, ← EReal.coe_mul, ← EReal.coe_mul]
      rw [this]
      ac_rfl
    rw [mul_comm _ xi, e1, add_assoc (ai * _), Rms.half_half _ (by positivity), sub_eq_add_neg,
      EReal.left_distrib_of_nonneg_of_ne_top r0' (EReal.coe_ne_top r), mul_neg, e2, mul_comm ai]

/-- The numbers that the two sides divide and multiply by. -/
abbrev C64 : EReal := Ideal.ofBits .f32 0x3C800000#32
abbrev C128 : EReal := Ideal.ofBits .f32 0x3C000000#32
abbrev K64 : EReal := Ideal.ofBits .f32 0x42800000#32
abbrev K128 : EReal := Ideal.ofBits .f32 0x43000000#32

theorem C64_eq : C64 = ((1 / 64 : ℝ) : EReal) := by
  simp [C64, Ideal.ofBits, Ideal.ieee, -EReal.coe_mul]; norm_num

theorem C128_eq : C128 = ((1 / 128 : ℝ) : EReal) := by
  simp [C128, Ideal.ofBits, Ideal.ieee, -EReal.coe_mul]; norm_num

theorem div_K64 (x : EReal) : Ideal.div x K64 = x * ((1 / 64 : ℝ) : EReal) := by
  have e : K64 = ((64 : ℝ) : EReal) := by
    simp [K64, Ideal.ofBits, Ideal.ieee, -EReal.coe_mul]; norm_num
  rw [e, Ideal.div, if_neg (by norm_num), ← EReal.coe_inv]
  norm_num

theorem div_K128 (x : EReal) : Ideal.div x K128 = x * ((1 / 128 : ℝ) : EReal) := by
  have e : K128 = ((128 : ℝ) : EReal) := by
    simp [K128, Ideal.ofBits, Ideal.ieee, -EReal.coe_mul]; norm_num
  rw [e, Ideal.div, if_neg (by norm_num), ← EReal.coe_inv]
  norm_num

/-- The mean square of a head plus the small number. -/
def v {n : ℕ} (c : ℝ) (x : Fin n → EReal) : EReal := (∑ k, x k * x k) * (c : EReal) + Rms.E

theorem v_pos {n : ℕ} {c : ℝ} (hc : 0 < c) (x : Fin n → EReal) : 0 < v c x :=
  lt_of_lt_of_le Rms.E_pos (le_add_of_nonneg_left
    (mul_nonneg (Finset.sum_nonneg fun k _ => Rms.sq_nonneg _) (by exact_mod_cast hc.le)))

/-- The root's inverse is a real where the head is. -/
theorem isReal_rsqrt {w : EReal} (hw : 0 < w) : IsReal (Ideal.rsqrt w) := by
  induction w with
  | bot => exact absurd hw (by simp)
  | top => exact ⟨0, rfl⟩
  | coe w =>
    have h : 0 < w := by exact_mod_cast hw
    rw [Ideal.rsqrt_coe, if_neg (not_lt.mpr h.le), if_neg h.ne']
    exact ⟨_, rfl⟩

/-- The gradient of a head's norm at one element, as the kernel writes it. -/
def DX {n : ℕ} (c : ℝ) (x a : Fin n → EReal) (xi ai : EReal) : EReal :=
  Ideal.rsqrt (v c x) * (ai - xi * Ideal.rsqrt (v c x) * ((∑ k, a k * (x k * Ideal.rsqrt (v c x))) * (c : EReal)))

/-- The head of a row that a column lies in. -/
def hd64 (X : Fin 512 → EReal) (q : Fin 512) (i : Fin 64) : EReal := X ⟨q.val / 64 * 64 + i.val, by omega⟩
def hd128 (X : Fin 512 → EReal) (q : Fin 512) (i : Fin 128) : EReal := X ⟨q.val / 128 * 128 + i.val, by omega⟩

/-- The inverse root of a head's mean square. -/
def R64 (X : Fin 512 → EReal) (q : Fin 512) : EReal := Ideal.rsqrt (v (1 / 64) (hd64 X q))
def R128 (X : Fin 512 → EReal) (q : Fin 512) : EReal := Ideal.rsqrt (v (1 / 128) (hd128 X q))

/-- A row's gradient at one column, from the row's gradient before the norms. -/
def DX64 (X A : Fin 512 → EReal) (q : Fin 512) : EReal := DX (1 / 64) (hd64 X q) (hd64 A q) (X q) (A q)
def DX128 (X A : Fin 512 → EReal) (q : Fin 512) : EReal := DX (1 / 128) (hd128 X q) (hd128 A q) (X q) (A q)

end Cert.HeadNorm

end
-- ==== Proof.MixPoint.lean ====
/- The head norms' backward call at one point: what it computes of a block of 512 rows, at an index. -/
module

public import proofs.«01_k».proof.Defs
public import proofs.«01_k».proof.Proof.Gen.MixIdeal.Frame
public import Idealize.ShloMosaic.Lib.Pipeline.ValueKit
public import Idealize.ShloMosaic.Lib.Pipeline.ReadBack
public import Idealize.ShloMosaic.Lib.Claim
public import proofs.«01_k».proof.Proof.HeadNorm

@[expose] public section

set_option maxRecDepth 16384

noncomputable section

open Idealize.ShloMosaic Idealize.ShloMosaic.TcCoe Idealize.SL.Sem

namespace Cert.MixIdeal.Alg

open Cert.MixIdeal Cert.MixIdeal.Gen Cert.HeadNorm

/-- The ones of the heads of 64 columns. -/
def M64 : FVec Ideal S512x512 .bf16 :=
  k0_pay10 (F := Ideal) k0_pay6 (iota .tc S512x512 32 [1] iota_S512x512_d1_w32) 64#32 k0_pay7 k0_pay8 k0_pay9

/-- The ones of the heads of 128 columns. -/
def M128 : FVec Ideal S512x512 .bf16 :=
  k0_pay14 (F := Ideal) k0_pay11 (iota .tc S512x512 32 [1] iota_S512x512_d1_w32) 128#32 k0_pay12 k0_pay13

/-- A word divided, rounded down, as the kernel writes it. -/
def fl (c n : BitVec 32) : BitVec 32 :=
  Scalar.select
    (IntOp.andi
      (IntOp.cmpi CmpIPredicate.ne
        (IntOp.subi (BitVec.setWidth 32 (IntOp.cmpi CmpIPredicate.sgt n 0#32))
          (BitVec.setWidth 32 (IntOp.cmpi CmpIPredicate.slt n 0#32)))
        (Scalar.subi (Scalar.extui (Scalar.cmpi CmpIPredicate.sgt c 0#32))
          (Scalar.extui (Scalar.cmpi CmpIPredicate.slt c 0#32))))
      (IntOp.cmpi CmpIPredicate.ne (IntOp.remsi ArithUnit.vector n c) 0#32))
    (IntOp.subi (IntOp.divsi ArithUnit.vector n c) 1#32)
    (IntOp.divsi ArithUnit.vector n c)

theorem fl64 : ∀ k : Fin 512, fl 64#32 (BitVec.ofNat 32 k.val) = BitVec.ofNat 32 (k.val / 64) := by decide +kernel
theorem fl128 : ∀ k : Fin 512, fl 128#32 (BitVec.ofNat 32 k.val) = BitVec.ofNat 32 (k.val / 128) := by decide +kernel

/-- A comparison of two small words, as a number. -/
theorem eq_at (a b : ℕ) (ha : a < 512) (hb : b < 512) :
    FloatOps.sitofp (F := Ideal) FTy.f32 (BitVec.setWidth 32 (IntOp.cmpi CmpIPredicate.eq (BitVec.ofNat 32 a) (BitVec.ofNat 32 b)))
      = if a = b then (1 : EReal) else 0 := by
  by_cases h : a = b
  · rw [if_pos h, h]
    have e : IntOp.cmpi CmpIPredicate.eq (BitVec.ofNat 32 b) (BitVec.ofNat 32 b) = 1#1 := by simp [IntOp.cmpi]
    rw [e]
    simp [FloatOps.sitofp]
  · rw [if_neg h]
    have hne : ¬ BitVec.ofNat 32 a = BitVec.ofNat 32 b := fun e => h (by
      have := congrArg BitVec.toNat e
      rw [BitVec.toNat_ofNat, BitVec.toNat_ofNat, Nat.mod_eq_of_lt (by omega), Nat.mod_eq_of_lt (by omega)] at this
      exact this)
    have e : IntOp.cmpi CmpIPredicate.eq (BitVec.ofNat 32 a) (BitVec.ofNat 32 b) = 0#1 := by
      simp only [IntOp.cmpi, beq_eq_false_iff_ne.mpr hne]
      rfl
    rw [e]
    simp [FloatOps.sitofp]

theorem M64_at (k q : Fin 512) : M64 (ix2 k q) = if k.val / 64 = q.val / 64 then 1 else 0 := by
  unfold M64
  pointwise [k0_pay10, k0_pay6, k0_pay7, k0_pay8, k0_pay9]
  refine Eq.trans ?_ (eq_at (k.val / 64) (q.val / 64) (by omega) (by omega))
  rw [← fl64 k, ← fl64 q]
  rfl

theorem M128_at (k q : Fin 512) : M128 (ix2 k q) = if k.val / 128 = q.val / 128 then 1 else 0 := by
  unfold M128
  pointwise [k0_pay14, k0_pay11, k0_pay12, k0_pay13]
  refine Eq.trans ?_ (eq_at (k.val / 128) (q.val / 128) (by omega) (by omega))
  rw [← fl128 k, ← fl128 q]
  rfl

/-- A product by parts with the ones is the head's sum. -/
theorem sum64 (f : Fin 512 → EReal) (hf : ∀ k, IsReal (f k)) (q : Fin 512) :
    ∑ k : Fin 512, f k * M64 (ix2 k q) + ∑ k : Fin 512, (f k - f k) * M64 (ix2 k q) = ∑ i, hd64 f q i :=
  split_sum (S := 8) (n := 64) f (fun k => M64 (ix2 k q)) hf ⟨q.val / 64, by omega⟩ fun k => M64_at k q

theorem sum128 (f : Fin 512 → EReal) (hf : ∀ k, IsReal (f k)) (q : Fin 512) :
    ∑ k : Fin 512, f k * M128 (ix2 k q) + ∑ k : Fin 512, (f k - f k) * M128 (ix2 k q) = ∑ i, hd128 f q i :=
  split_sum (S := 4) (n := 128) f (fun k => M128 (ix2 k q)) hf ⟨q.val / 128, by omega⟩ fun k => M128_at k q

/-- A block's row. -/
abbrev brow (x : FVec Ideal S512x512 .f32) (p : Fin 512) : Fin 512 → EReal := fun k => x (ix2 p k)

/-- Every number of a block is a real. -/
def Real2 {s : Shape} {φ : FTy} (x : FVec Ideal s φ) : Prop := ∀ i, IsReal (x i)

/-- The inverse root of a head's mean square. -/
theorem r64_at (x : FVec Ideal S512x512 .f32) (hx : Real2 x) (p q : Fin 512) :
    k0_pay15 M64 x (ix2 p q) = R64 (brow x p) q := by
  pointwise [k0_pay15]
  rw [sum64 (fun k => x (ix2 p k) * x (ix2 p k)) (fun k => (hx _).mul (hx _)) q]
  show Ideal.rsqrt (_ * C64 + Rms.E) = _
  rw [C64_eq]
  rfl

theorem r128_at (x : FVec Ideal S512x512 .f32) (hx : Real2 x) (p q : Fin 512) :
    k0_pay22 M128 x (ix2 p q) = R128 (brow x p) q := by
  pointwise [k0_pay22]
  rw [sum128 (fun k => x (ix2 p k) * x (ix2 p k)) (fun k => (hx _).mul (hx _)) q]
  show Ideal.rsqrt (_ * C128 + Rms.E) = _
  rw [C128_eq]
  rfl

theorem isReal_R64 (X : Fin 512 → EReal) (q : Fin 512) : IsReal (R64 X q) := isReal_rsqrt (v_pos (by norm_num) _)
theorem isReal_R128 (X : Fin 512 → EReal) (q : Fin 512) : IsReal (R128 X q) := isReal_rsqrt (v_pos (by norm_num) _)

/-- The columns of one head share its inverse root. -/
theorem hd64_hd (X : Fin 512 → EReal) (q : Fin 512) (i : Fin 64) (h : q.val / 64 * 64 + i.val < 512) :
    R64 X ⟨q.val / 64 * 64 + i.val, h⟩ = R64 X q := by
  have e : (q.val / 64 * 64 + i.val) / 64 = q.val / 64 := by omega
  unfold R64 hd64
  simp only [e]

theorem hd128_hd (X : Fin 512 → EReal) (q : Fin 512) (i : Fin 128) (h : q.val / 128 * 128 + i.val < 512) :
    R128 X ⟨q.val / 128 * 128 + i.val, h⟩ = R128 X q := by
  have e : (q.val / 128 * 128 + i.val) / 128 = q.val / 128 := by omega
  unfold R128 hd128
  simp only [e]

/-- The gradient at the first attention's output. -/
theorem dsb_at (x d : FVec Ideal S512x512 .f32) (g : FVec Ideal S1x512 .f32) (hx : Real2 x) (hd : Real2 d) (hg : Real2 g) (p q : Fin 512) :
    k0_pay21 M64 (k0_pay15 M64 x) (k0_pay16 M64 x) (k0_pay17 d g) (ix2 p q)
      = DX64 (brow x p) (fun k => d (ix2 p k) * g (ix2 0 k)) q := by
  have en (k : Fin 512) : k0_pay16 M64 x (ix2 p k) = x (ix2 p k) * R64 (brow x p) k := by
    refine Eq.trans ?_ (congrArg (x (ix2 p k) * ·) (r64_at x hx p k))
    pointwise [k0_pay16]
  have ed (k : Fin 512) : k0_pay17 d g (ix2 p k) = d (ix2 p k) * g (ix2 0 k) := by pointwise [k0_pay17]
  pointwise [k0_pay21]
  simp only [en, ed, r64_at x hx p q]
  rw [sum64 (fun k => d (ix2 p k) * g (ix2 0 k) * (x (ix2 p k) * R64 (brow x p) k))
    (fun k => ((hd _).mul (hg _)).mul ((hx _).mul (isReal_R64 _ _))) q]
  show R64 (brow x p) q * (_ - _ * (_ * C64)) = _
  rw [C64_eq]
  unfold hd64
  simp only [hd64_hd]
  rfl

/-- The weight gradient of the first head norm: what a block adds. -/
theorem dgsb_at (x d : FVec Ideal S512x512 .f32) (acc : FVec Ideal S1x512 .f32) (hx : Real2 x) (q : Fin 512) :
    k0_pay20 (k0_pay18 acc) (k0_pay19 M64 d x) (ix2 0 q)
      = acc (ix2 0 q) + ∑ p : Fin 512, d (ix2 p q) * (x (ix2 p q) * R64 (brow x p) q) := by
  have en (p : Fin 512) : k0_pay16 M64 x (ix2 p q) = x (ix2 p q) * R64 (brow x p) q := by
    refine Eq.trans ?_ (congrArg (x (ix2 p q) * ·) (r64_at x hx p q))
    pointwise [k0_pay16]
  pointwise [k0_pay20, k0_pay18, k0_pay19]
  simp only [en]

theorem n128_at (x : FVec Ideal S512x512 .f32) (hx : Real2 x) (p q : Fin 512) :
    k0_pay23 M128 x (ix2 p q) = x (ix2 p q) * R128 (brow x p) q := by
  refine Eq.trans ?_ (congrArg (x (ix2 p q) * ·) (r128_at x hx p q))
  pointwise [k0_pay23]

/-- The gradient behind the output gate. -/
theorem dm_at (d og : FVec Ideal S512x512 .f32) (p q : Fin 512) :
    k0_pay25 d og (ix2 p q) = d (ix2 p q) * (og (ix2 p q) * Ideal.logistic (og (ix2 p q))) := by
  pointwise [k0_pay25, k0_pay24]

/-- The gradient at the output gate. -/
theorem dog_at (d og o : FVec Ideal S512x512 .f32) (g : FVec Ideal S1x512 .f32) (ho : Real2 o) (p q : Fin 512) :
    k0_pay1 d og (k0_pay24 og) (k0_pay26 M128 o g) (ix2 p q)
      = d (ix2 p q) * (o (ix2 p q) * R128 (brow o p) q * g (ix2 0 q))
        * (Ideal.logistic (og (ix2 p q)) * (1 + og (ix2 p q) * (1 - Ideal.logistic (og (ix2 p q))))) := by
  have e : k0_pay26 M128 o g (ix2 p q) = o (ix2 p q) * R128 (brow o p) q * g (ix2 0 q) := by
    refine Eq.trans ?_ (congrArg (· * g (ix2 0 q)) (n128_at o ho p q))
    pointwise [k0_pay26]
  have el : k0_pay24 (F := Ideal) og (ix2 p q) = Ideal.logistic (og (ix2 p q)) := by pointwise [k0_pay24]
  pointwise [k0_pay1]
  rw [e, el]

/-- The weight gradient of the second head norm: what a block adds. -/
theorem dggl_at (d og o : FVec Ideal S512x512 .f32) (acc : FVec Ideal S1x512 .f32) (ho : Real2 o) (q : Fin 512) :
    k0_pay2 (k0_pay23 M128 o) (k0_pay25 d og) acc (ix2 0 q)
      = acc (ix2 0 q) + ∑ p : Fin 512, d (ix2 p q) * (og (ix2 p q) * Ideal.logistic (og (ix2 p q))) * (o (ix2 p q) * R128 (brow o p) q) := by
  pointwise [k0_pay2]
  simp only [n128_at o ho, dm_at]

/-- The gradient at the second attention's output. -/
theorem dgl_at (d og o : FVec Ideal S512x512 .f32) (g : FVec Ideal S1x512 .f32) (ho : Real2 o) (hd : Real2 d) (hog : Real2 og) (hg : Real2 g)
    (hl : ∀ i, IsReal (Ideal.logistic (og i))) (p q : Fin 512) :
    k0_pay3 M128 (k0_pay22 M128 o) (k0_pay23 M128 o) (k0_pay25 d og) g (ix2 p q)
      = DX128 (brow o p) (fun k => d (ix2 p k) * (og (ix2 p k) * Ideal.logistic (og (ix2 p k))) * g (ix2 0 k)) q := by
  pointwise [k0_pay3]
  simp only [n128_at o ho, dm_at, r128_at o ho p q]
  rw [sum128 (fun k => d (ix2 p k) * (og (ix2 p k) * Ideal.logistic (og (ix2 p k))) * g (ix2 0 k) * (o (ix2 p k) * R128 (brow o p) k))
    (fun k => (((hd _).mul ((hog _).mul (hl _))).mul (hg _)).mul ((ho _).mul (isReal_R128 _ _))) q]
  show R128 (brow o p) q * (_ - _ * (_ * C128)) = _
  rw [C128_eq]
  unfold hd128
  simp only [hd128_hd]
  rfl

/-- The zero fills. -/
theorem zero4_at (j : S1x512.Idx) : k0_pay4 (F := Ideal) j = 0 := by pointwise [k0_pay4]
theorem zero5_at (j : S1x512.Idx) : k0_pay5 (F := Ideal) j = 0 := by pointwise [k0_pay5]

end Cert.MixIdeal.Alg

end
-- ==== Proof.MixFinite.lean ====
/- What the precondition and the mask of the head norms' gradient say, and the two forms of the gate's gradient. -/
module

public import proofs.«01_k».proof.Pre_finite_mix
public import proofs.«01_k».proof.On_gate_written
public import proofs.«01_k».proof.Proof.Gen.On_gate_written
public import proofs.«01_k».proof.Proof.HeadNorm
public import Idealize.ShloMosaic.Lib.Pipeline.ValueKit
public import Idealize.ShloMosaic.Lib.Claim

@[expose] public section

set_option maxRecDepth 16384

noncomputable section

open Idealize.ShloMosaic Idealize.ShloMosaic.TcCoe

namespace Cert.MixIdeal.Alg

open Cert.HeadNorm

theorem finiteFacts : Cert.Pre_finite_mix.Facts where
  bcast_S_S8192x1024 := by decide
  bcast_S_S8192x512 := by decide
  slices_S8192x3200_S8192x512_0_2560 := by decide
  bcast_S_S1x512 := by decide

/-- What the precondition says of one element. -/
theorem real_of_lt {x : EReal} (h : BitVec.ofBool (decide (FloatOps.absf (F := Ideal) (φ := .f32) x < Ideal.ofBits .f32 0x7F800000#32)) = 1#1) : IsReal x := by
  have ht : Ideal.ofBits .f32 0x7F800000#32 = ⊤ := by simp [Ideal.ofBits, Ideal.ieee]
  rw [ht] at h
  have h : max x (-x) < ⊤ := by
    by_contra hn
    have e : decide (FloatOps.absf (F := Ideal) (φ := .f32) x < (⊤ : EReal)) = false := decide_eq_false hn
    rw [e] at h
    exact absurd h (by decide)
  induction x using EReal.rec with
  | bot => simp at h
  | top => simp at h
  | coe r => exact ⟨r, rfl⟩

/-- The logistic of a real is a real. -/
theorem isReal_logistic {x : EReal} (h : IsReal x) : IsReal (Ideal.logistic x) := by
  obtain ⟨r, rfl⟩ := h
  rw [Ideal.logistic_coe]
  exact ⟨_, rfl⟩

/-- The two forms of the gradient at the output gate. -/
theorem gate_eq {d n x : EReal} (hd : IsReal d) (hn : IsReal n) (hx : IsReal x) :
    d * n * (Ideal.logistic x * (1 + x * (1 - Ideal.logistic x)))
      = n * d * Ideal.logistic x + x * (n * d) * (Ideal.logistic x * (1 - Ideal.logistic x)) := by
  obtain ⟨d, rfl⟩ := hd; obtain ⟨n, rfl⟩ := hn; obtain ⟨x, rfl⟩ := hx
  rw [Ideal.logistic_coe]
  norm_cast
  ring

/-- Both bits of a one. -/
theorem and1 : ∀ a b : BitVec 1, IntOp.andi a b = 1#1 → a = 1#1 ∧ b = 1#1 := by decide

theorem bit_one (b : Bool) : BitVec.ofBool b = 1#1 ↔ b = true := by cases b <;> decide

/-- The columns the claim is about are the gate's. -/
theorem col_of_mask {a0 a1 a2 a3 a4 a5 i} (h : (Cert.On_gate_written.fn (F := Ideal) a0 a1 a2 a3 a4 a5).2.2.1 i = 1#1) :
    2560 ≤ (i 1 : ℕ) ∧ (i 1 : ℕ) < 3072 := by
  have hb : (i 1 : ℕ) < 3200 := (i 1).isLt
  revert h
  pointwise [Cert.On_gate_written.fn]
  intro h
  obtain ⟨h1, h2⟩ := and1 _ _ h
  revert h1 h2
  simp only [IntOp.cmpi, bit_one, BitVec.slt_eq_decide, BitVec.sle_eq_decide, decide_eq_true_eq]
  have e1 : (BitVec.ofNat 32 (i 1 : ℕ)).toInt = (i 1 : ℕ) := by
    rw [BitVec.toInt_eq_toNat_of_lt] <;> rw [BitVec.toNat_ofNat, Nat.mod_eq_of_lt (by omega)]; omega
  have e2 : (2560#32 : BitVec 32).toInt = 2560 := by decide
  have e3 : (3072#32 : BitVec 32).toInt = 3072 := by decide
  rw [e1, e2, e3]
  omega

section pre

attribute [local instance] finiteFacts

variable (a0 : FVec Ideal Cert.Pre_finite_mix.S8192x1024 .f32) (a1 a2 : FVec Ideal Cert.Pre_finite_mix.S8192x512 .f32)
  (a3 : FVec Ideal Cert.Pre_finite_mix.S8192x3200 .f32) (a4 a5 : FVec Ideal Cert.Pre_finite_mix.S1x512 .f32)

theorem pre0 (h : (Cert.Pre_finite_mix.fn (F := Ideal) a0 a1 a2 a3 a4 a5).1 = fun _ => 1#1) (i) : IsReal (a0 i) := by
  have h' := congrFun h i
  revert h'
  pointwise [Cert.Pre_finite_mix.fn, Cert.Pre_finite_mix.fn_part1]
  exact real_of_lt

theorem pre1 (h : (Cert.Pre_finite_mix.fn (F := Ideal) a0 a1 a2 a3 a4 a5).2.1 = fun _ => 1#1) (i) : IsReal (a1 i) := by
  have h' := congrFun h i
  revert h'
  pointwise [Cert.Pre_finite_mix.fn, Cert.Pre_finite_mix.fn_part1]
  exact real_of_lt

theorem pre2 (h : (Cert.Pre_finite_mix.fn (F := Ideal) a0 a1 a2 a3 a4 a5).2.2.1 = fun _ => 1#1) (i) : IsReal (a2 i) := by
  have h' := congrFun h i
  revert h'
  pointwise [Cert.Pre_finite_mix.fn, Cert.Pre_finite_mix.fn_part1]
  exact real_of_lt

theorem pre3 (h : (Cert.Pre_finite_mix.fn (F := Ideal) a0 a1 a2 a3 a4 a5).2.2.2.1 = fun _ => 1#1) (p : Fin 8192) (k : Fin 512) :
    IsReal (a3 (ix2 p ⟨2560 + k.val, by omega⟩)) := by
  have h' := congrFun h (ix2 p k)
  revert h'
  pointwise [Cert.Pre_finite_mix.fn, Cert.Pre_finite_mix.fn_part1]
  exact real_of_lt

theorem pre4 (h : (Cert.Pre_finite_mix.fn (F := Ideal) a0 a1 a2 a3 a4 a5).2.2.2.2.1 = fun _ => 1#1) (i) : IsReal (a4 i) := by
  have h' := congrFun h i
  revert h'
  pointwise [Cert.Pre_finite_mix.fn, Cert.Pre_finite_mix.fn_part1]
  exact real_of_lt

theorem pre5 (h : (Cert.Pre_finite_mix.fn (F := Ideal) a0 a1 a2 a3 a4 a5).2.2.2.2.2 = fun _ => 1#1) (i) : IsReal (a5 i) := by
  have h' := congrFun h i
  revert h'
  pointwise [Cert.Pre_finite_mix.fn, Cert.Pre_finite_mix.fn_part1]
  exact real_of_lt

end pre

end Cert.MixIdeal.Alg

end
-- ==== Proof.MixRef.lean ====
/- The reference of the head norms' backward call, at an index. -/
module

public import proofs.«01_k».proof.Proof.Gen.MixRefIdeal.Run
public import proofs.«01_k».proof.Proof.Gen.MixRefIdeal.Read
public import Idealize.ShloMosaic.Lib.Pipeline.ValueKit
public import Idealize.ShloMosaic.Lib.Claim
public import proofs.«01_k».proof.Proof.HeadNorm

@[expose] public section

set_option maxRecDepth 16384

noncomputable section

open Idealize.ShloMosaic Idealize.ShloMosaic.TcCoe Idealize.SL.Sem

namespace Cert.MixRefIdeal.Alg

open Cert.MixRefIdeal Cert.MixRefIdeal.Read

variable (x0 : FVec Ideal S8192x1024 .f32) (x1 x2 : FVec Ideal S8192x512 .f32) (x3 : FVec Ideal S8192x3200 .f32) (x4 x5 : FVec Ideal S1x512 .f32)

/-- The rows of the two attentions' outputs, of the gradients that arrive and of the gate's logistic. -/
abbrev row (x : FVec Ideal S8192x512 .f32) (p : Fin 8192) : Fin 512 → EReal := fun k => x (ix2 p k)
abbrev dS (p : Fin 8192) : Fin 512 → EReal := fun k => x0 (ix2 p ⟨k.val, by omega⟩)
abbrev dG (p : Fin 8192) : Fin 512 → EReal := fun k => x0 (ix2 p ⟨512 + k.val, by omega⟩)
abbrev og (p : Fin 8192) : Fin 512 → EReal := fun k => x3 (ix2 p ⟨2560 + k.val, by omega⟩)

/-- A head's mean square plus the small number. -/
theorem v9_at (p : Fin 8192) (q : Fin 512) (z : Fin 1) :
    val_main_v9 (F := Ideal) x1 (ix3 p ⟨q.val / 64, by omega⟩ z) = HeadNorm.v (1 / 64) (HeadNorm.hd64 (row x1 p) q) := by
  unfold HeadNorm.v
  rw [← HeadNorm.div_K64]
  pointwise [val_main_v2, val_main_v3, val_main_cst, val_main_v4, val_main_v5, val_main_cst_0, val_main_v6, val_main_v7, val_main_cst_1, val_main_v8, val_main_v9]
  rfl

theorem v28_at (p : Fin 8192) (q : Fin 512) (z : Fin 1) :
    val_main_v28 (F := Ideal) x2 (ix3 p ⟨q.val / 128, by omega⟩ z) = HeadNorm.v (1 / 128) (HeadNorm.hd128 (row x2 p) q) := by
  unfold HeadNorm.v
  rw [← HeadNorm.div_K128]
  pointwise [val_main_v21, val_main_v22, val_main_cst_3, val_main_v23, val_main_v24, val_main_cst_4, val_main_v25, val_main_v26, val_main_cst_5, val_main_v27, val_main_v28]
  rfl

/-- The gradient at the first attention's output. -/
theorem v91_at (p : Fin 8192) (q : Fin 512) :
    val_main_v91 (F := Ideal) x0 x1 x4 (ix2 p q) = HeadNorm.DX64 (row x1 p) (fun k => dS x0 p k * x4 (ix2 0 k)) q := by
  unfold HeadNorm.DX64 HeadNorm.DX
  rw [HeadNorm.dx_eq (HeadNorm.v_pos (by norm_num) _) (by norm_num)]
  simp only [← HeadNorm.div_K64]
  pointwise [val_main_v1, val_main_v2, val_main_v10, val_main_v11, val_main_cst_2, val_main_v12, val_main_v13, val_main_v17, val_main_v42, val_main_v73, val_main_v74, val_main_v76, val_main_v77, val_main_cst_14, val_main_v78, val_main_v79, val_main_v80, val_main_v81, val_main_v82, val_main_cst_15, val_main_v83, val_main_v84, val_main_cst_16, val_main_v85, val_main_v86, val_main_v87, val_main_v88, val_main_v89, val_main_v90, val_main_v91]
  simp only [v9_at]
  rfl

/-- The gradient at the second attention's output. -/
theorem v68_at (p : Fin 8192) (q : Fin 512) :
    val_main_v68 (F := Ideal) x0 x2 x3 x5 (ix2 p q)
      = HeadNorm.DX128 (row x2 p) (fun k => dG x0 p k * (og x3 p k * Ideal.logistic (og x3 p k)) * x5 (ix2 0 k)) q := by
  unfold HeadNorm.DX128 HeadNorm.DX
  rw [HeadNorm.dx_eq (HeadNorm.v_pos (by norm_num) _) (by norm_num)]
  simp only [← HeadNorm.div_K128]
  pointwise [val_main_v0, val_main_v20, val_main_v21, val_main_v29, val_main_v30, val_main_cst_6, val_main_v31, val_main_v32, val_main_v36, val_main_call0_v0, val_main_call0_v1, val_main_call0_cst, val_main_call0_v2, val_main_call0_v3, val_main_call0_cst_0, val_main_call0_v4, val_main_v39_2, val_main_v39_0, val_main_v43, val_main_v45, val_main_v50, val_main_v51, val_main_v53, val_main_v54, val_main_cst_9, val_main_v55, val_main_v56, val_main_v57, val_main_v58, val_main_v59, val_main_cst_10, val_main_v60, val_main_v61, val_main_cst_11, val_main_v62, val_main_v63, val_main_v64, val_main_v65, val_main_v66, val_main_v67, val_main_v68]
  simp only [v28_at]
  rfl

/-- The two norms' weight gradients. -/
theorem v92_at (q : Fin 512) : val_main_v92 (F := Ideal) x0 x1 (ix2 0 q)
    = ∑ p : Fin 8192, row x1 p q * HeadNorm.R64 (row x1 p) q * dS x0 p q := by
  pointwise [val_main_v2, val_main_v10, val_main_v14, val_main_v15, val_main_v16, val_main_v42, val_main_v70, val_main_cst_12, val_main_v71, val_main_v72, val_main_cst_13, val_main_v75, val_main_v92]
  simp only [v9_at, Fin.sum_univ_one]
  rfl

theorem v69_at (q : Fin 512) : val_main_v69 (F := Ideal) x0 x2 x3 (ix2 0 q)
    = ∑ p : Fin 8192, row x2 p q * HeadNorm.R128 (row x2 p) q * (dG x0 p q * (og x3 p q * Ideal.logistic (og x3 p q))) := by
  pointwise [val_main_v0, val_main_v21, val_main_v29, val_main_v33, val_main_v34, val_main_v35, val_main_call0_v0, val_main_call0_v1, val_main_call0_cst, val_main_call0_v2, val_main_call0_v3, val_main_call0_cst_0, val_main_call0_v4, val_main_v39_2, val_main_v39_0, val_main_v43, val_main_v45, val_main_v47, val_main_cst_7, val_main_v48, val_main_v49, val_main_cst_8, val_main_v52, val_main_v69]
  simp only [v28_at, Fin.sum_univ_one]
  rfl

/-- The gradient at the output gate. -/
theorem v96_at (p : Fin 8192) (q : Fin 512) : val_main_v96 (F := Ideal) x0 x2 x3 x5 (ix2 p ⟨2560 + q.val, by omega⟩)
    = row x2 p q * HeadNorm.R128 (row x2 p) q * x5 (ix2 0 q) * dG x0 p q * Ideal.logistic (og x3 p q)
      + og x3 p q * (row x2 p q * HeadNorm.R128 (row x2 p) q * x5 (ix2 0 q) * dG x0 p q)
        * (Ideal.logistic (og x3 p q) * (1 - Ideal.logistic (og x3 p q))) := by
  pointwise [val_main_v0, val_main_v20, val_main_v21, val_main_v29, val_main_v33, val_main_v34, val_main_v35, val_main_v36, val_main_v37, val_main_v38, val_main_call0_v0, val_main_call0_v1, val_main_call0_cst, val_main_call0_v2, val_main_call0_v3, val_main_call0_cst_0, val_main_call0_v4, val_main_v39_2, val_main_call0_cst_1, val_main_call0_v6, val_main_call0_v7, val_main_v39_1, val_main_v43, val_main_v44, val_main_call1_v0, val_main_call1_v1, val_main_call1_v2, val_main_v46, val_main_cst_17, val_main_v93, val_main_v94, val_main_cst_18, val_main_v95, val_main_v96]
  simp only [v28_at]
  rfl

end Cert.MixRefIdeal.Alg

end
-- ==== Proof.MixValue.lean ====
/- The gradient of the two head norms and of the output gate: row blocks one by one, the two weight gradients summed over them. -/
module

public import proofs.«01_k».proof.Defs
public import proofs.«01_k».proof.Proof.Gen.MixIdeal.Value
public import proofs.«01_k».proof.Proof.Gen.MixRefIdeal.Run
public import Idealize.ShloMosaic.Lib.Pipeline.ValueKit
public import Idealize.ShloMosaic.Lib.Pipeline.ReadBack
public import Idealize.ShloMosaic.Lib.Claim
public import proofs.«01_k».proof.Proof.MixPoint
public import proofs.«01_k».proof.Proof.MixFinite
public import proofs.«01_k».proof.Proof.MixRef

@[expose] public section

set_option maxRecDepth 16384

noncomputable section

open Idealize.ShloMosaic Idealize.ShloMosaic.TcCoe Idealize.SL.Sem
open Idealize.ShloMosaic.Pipeline (Dat)

namespace Cert.MixIdeal.Alg

open Cert.MixIdeal Cert.MixIdeal.Gen Cert.HeadNorm
open Cert.MixRefIdeal.Read Cert.MixRefIdeal.Alg

variable (m : (ℓ : Loc nD τ sig) → Buf (Elt Ideal) ℓ)

/-- Which block every window is at, for all points of the grid. -/
theorem idx : ∀ t : Fin cfg0.N, win0_0.index t = ![t.val, 0] ∧ win0_1.index t = ![t.val, 0] ∧ win0_2.index t = ![t.val, 0]
    ∧ win0_3.index t = ![t.val, 5] ∧ win0_4.index t = ![0, 0] ∧ win0_5.index t = ![0, 0] ∧ win0_6.index t = ![t.val, 0]
    ∧ win0_7.index t = ![t.val, 0] ∧ win0_8.index t = ![t.val, 5] ∧ win0_9.index t = ![0, 0] ∧ win0_10.index t = ![0, 0] :=
  (by decide +kernel : ∀ t : Fin grid0.N, _)

/-- Every row of a block is a row of the array. -/
theorem row_lt (t : Fin cfg0.N) (p : Fin 512) : t.val * 512 + p.val < 8192 := by
  have hN : t.val < 16 := t.isLt
  omega

/-- The row of the array that a row of a block is. -/
abbrev at_ (t : Fin cfg0.N) (p : Fin 512) : Fin 8192 := ⟨t.val * 512 + p.val, row_lt t p⟩

/-- The call's arguments, each with its shape. -/
abbrev A0 (c : Dev nD) : FVec Ideal S8192x1024 .f32 := m ((c : Thread nD τ).loc main_arg0)
abbrev A1 (c : Dev nD) : FVec Ideal S8192x512 .f32 := m ((c : Thread nD τ).loc main_arg1)
abbrev A2 (c : Dev nD) : FVec Ideal S8192x512 .f32 := m ((c : Thread nD τ).loc main_arg2)
abbrev A3 (c : Dev nD) : FVec Ideal S8192x3200 .f32 := m ((c : Thread nD τ).loc main_arg3)
abbrev A4 (c : Dev nD) : FVec Ideal S1x512 .f32 := m ((c : Thread nD τ).loc main_arg4)
abbrev A5 (c : Dev nD) : FVec Ideal S1x512 .f32 := m ((c : Thread nD τ).loc main_arg5)

/-- The operands' blocks at a point. -/
def B0 (c : Dev nD) (t : Fin cfg0.N) : FVec Ideal S512x1024 .f32 := iblk m c 0 t
def B1 (c : Dev nD) (t : Fin cfg0.N) : FVec Ideal S512x512 .f32 := iblk m c 1 t
def B2 (c : Dev nD) (t : Fin cfg0.N) : FVec Ideal S512x512 .f32 := iblk m c 2 t
def B3 (c : Dev nD) (t : Fin cfg0.N) : FVec Ideal S512x512 .f32 := X0_3 m c t
def B4 (c : Dev nD) (t : Fin cfg0.N) : FVec Ideal S1x512 .f32 := iblk m c 4 t
def B5 (c : Dev nD) (t : Fin cfg0.N) : FVec Ideal S1x512 .f32 := iblk m c 5 t

theorem B0_at (c : Dev nD) (t : Fin cfg0.N) (p : Fin 512) (k : Fin 1024) : B0 m c t (ix2 p k) = A0 m c (ix2 (at_ t p) k) := by
  unfold B0
  blk_point [iblk, V, idx t]
theorem B1_at (c : Dev nD) (t : Fin cfg0.N) (p k : Fin 512) : B1 m c t (ix2 p k) = A1 m c (ix2 (at_ t p) k) := by
  unfold B1
  blk_point [iblk, V, idx t]
theorem B2_at (c : Dev nD) (t : Fin cfg0.N) (p k : Fin 512) : B2 m c t (ix2 p k) = A2 m c (ix2 (at_ t p) k) := by
  unfold B2
  blk_point [iblk, V, idx t]
theorem B4_at (c : Dev nD) (t : Fin cfg0.N) (k : Fin 512) : B4 m c t (ix2 0 k) = A4 m c (ix2 0 k) := by
  unfold B4
  blk_point [iblk, V, idx t]
theorem B5_at (c : Dev nD) (t : Fin cfg0.N) (k : Fin 512) : B5 m c t (ix2 0 k) = A5 m c (ix2 0 k) := by
  unfold B5
  blk_point [iblk, V, idx t]
theorem B3_at (c : Dev nD) (t : Fin cfg0.N) (p k : Fin 512) : B3 m c t (ix2 p k) = A3 m c (ix2 (at_ t p) ⟨2560 + k.val, by omega⟩) := by
  unfold B3 X0_3
  blk_point [iblk, V, idx t, Pipeline.Window.fill, moved0_3 t]

/-- The two halves of the gradient that arrives. -/
def Dlo (c : Dev nD) (t : Fin cfg0.N) : FVec Ideal S512x512 .f32 :=
  fun x => B0 m c t ((Rect.unit (s := S512x1024) ![0, 0] ![512, 512] inb_S512x1024_S512x512_0_0).idx x)
def Dhi (c : Dev nD) (t : Fin cfg0.N) : FVec Ideal S512x512 .f32 :=
  fun x => B0 m c t ((Rect.unit (s := S512x1024) ![0, 512] ![512, 512] inb_S512x1024_S512x512_0_512).idx x)

theorem D0_at (c : Dev nD) (t : Fin cfg0.N) (p k : Fin 512) : Dlo m c t (ix2 p k) = dS (A0 m c) (at_ t p) k := by
  refine Eq.trans ?_ (B0_at m c t p ⟨k.val, by omega⟩)
  unfold Dlo
  blk_point [idx t]
  · show 0 + 1 * p.val = p.val
    omega
  · show 0 + 1 * k.val = k.val
    omega
theorem D1_at (c : Dev nD) (t : Fin cfg0.N) (p k : Fin 512) : Dhi m c t (ix2 p k) = dG (A0 m c) (at_ t p) k := by
  refine Eq.trans ?_ (B0_at m c t p ⟨512 + k.val, by omega⟩)
  unfold Dhi
  blk_point [idx t]
  · show 0 + 1 * p.val = p.val
    omega
  · show 512 + 1 * k.val = 512 + k.val
    omega

/-- The arguments are reals; of the projection, the gate's columns. -/
structure Reals (c : Dev nD) : Prop where
  h0 : ∀ i, IsReal (A0 m c i)
  h1 : ∀ i, IsReal (A1 m c i)
  h2 : ∀ i, IsReal (A2 m c i)
  h3 : ∀ (p : Fin 8192) (k : Fin 512), IsReal (A3 m c (ix2 p ⟨2560 + k.val, by omega⟩))
  h4 : ∀ i, IsReal (A4 m c i)
  h5 : ∀ i, IsReal (A5 m c i)

section real

variable {m} {c : Dev nD} (hf : Reals m c) (t : Fin cfg0.N)
include hf

theorem realD0 : Real2 (Dlo m c t) := fun i => by
  obtain ⟨p, q, rfl⟩ : ∃ (p q : Fin 512), i = ix2 p q := ⟨i 0, i 1, eq_ix2 i⟩
  rw [D0_at]; exact hf.h0 _
theorem realD1 : Real2 (Dhi m c t) := fun i => by
  obtain ⟨p, q, rfl⟩ : ∃ (p q : Fin 512), i = ix2 p q := ⟨i 0, i 1, eq_ix2 i⟩
  rw [D1_at]; exact hf.h0 _
theorem realB1 : Real2 (B1 m c t) := fun i => by
  obtain ⟨p, q, rfl⟩ : ∃ (p q : Fin 512), i = ix2 p q := ⟨i 0, i 1, eq_ix2 i⟩
  rw [B1_at]; exact hf.h1 _
theorem realB2 : Real2 (B2 m c t) := fun i => by
  obtain ⟨p, q, rfl⟩ : ∃ (p q : Fin 512), i = ix2 p q := ⟨i 0, i 1, eq_ix2 i⟩
  rw [B2_at]; exact hf.h2 _
theorem realB3 : Real2 (B3 m c t) := fun i => by
  obtain ⟨p, q, rfl⟩ : ∃ (p q : Fin 512), i = ix2 p q := ⟨i 0, i 1, eq_ix2 i⟩
  rw [B3_at]; exact hf.h3 _ _
theorem realB4 : Real2 (B4 m c t) := fun i => by
  obtain ⟨z, q, rfl⟩ : ∃ (z : Fin 1) (q : Fin 512), i = ix2 z q := ⟨i 0, i 1, eq_ix2 i⟩
  obtain rfl : z = 0 := Subsingleton.elim _ _
  rw [B4_at]; exact hf.h4 _
theorem realB5 : Real2 (B5 m c t) := fun i => by
  obtain ⟨z, q, rfl⟩ : ∃ (z : Fin 1) (q : Fin 512), i = ix2 z q := ⟨i 0, i 1, eq_ix2 i⟩
  obtain rfl : z = 0 := Subsingleton.elim _ _
  rw [B5_at]; exact hf.h5 _

end real

/-- The rows of the blocks are rows of the arrays. -/
theorem brow1 (c : Dev nD) (t : Fin cfg0.N) (p : Fin 512) : brow (B1 m c t) p = row (A1 m c) (at_ t p) := funext fun k => B1_at m c t p k
theorem brow2 (c : Dev nD) (t : Fin cfg0.N) (p : Fin 512) : brow (B2 m c t) p = row (A2 m c) (at_ t p) := funext fun k => B2_at m c t p k

/-- The reference's results, over the call's arguments. -/
abbrev R6 (c : Dev nD) : FVec Ideal S8192x512 .f32 := val_main_v91 (F := Ideal) (A0 m c) (A1 m c) (A4 m c)
abbrev R7 (c : Dev nD) : FVec Ideal S8192x512 .f32 := val_main_v68 (F := Ideal) (A0 m c) (A2 m c) (A3 m c) (A5 m c)
abbrev R8 (c : Dev nD) : FVec Ideal S8192x3200 .bf16 := val_main_v96 (F := Ideal) (A0 m c) (A2 m c) (A3 m c) (A5 m c)
abbrev R9 (c : Dev nD) : FVec Ideal S1x512 .f32 := val_main_v92 (F := Ideal) (A0 m c) (A1 m c)
abbrev R10 (c : Dev nD) : FVec Ideal S1x512 .f32 := val_main_v69 (F := Ideal) (A0 m c) (A2 m c) (A3 m c)

/-- What the blocks hold at a point. -/
theorem out6 (c : Dev nD) (t : Fin cfg0.N) : (outsAt0 m c t.val t.isLt).1
    = k0_pay21 M64 (k0_pay15 M64 (B1 m c t)) (k0_pay16 M64 (B1 m c t)) (k0_pay17 (Dlo m c t) (B4 m c t)) := by
  by_cases h : t.val % 16 = 0
  · rw [outsAt0_A m c t h]; frame_out; rfl
  · rw [outsAt0_B m c t h]; frame_out; rfl
theorem out7 (c : Dev nD) (t : Fin cfg0.N) : (outsAt0 m c t.val t.isLt).2.1
    = k0_pay3 M128 (k0_pay22 M128 (B2 m c t)) (k0_pay23 M128 (B2 m c t)) (k0_pay25 (Dhi m c t) (B3 m c t)) (B5 m c t) := by
  by_cases h : t.val % 16 = 0
  · rw [outsAt0_A m c t h]; frame_out; rfl
  · rw [outsAt0_B m c t h]; frame_out; rfl
theorem out8 (c : Dev nD) (t : Fin cfg0.N) : (outsAt0 m c t.val t.isLt).2.2.1
    = k0_pay1 (Dhi m c t) (B3 m c t) (k0_pay24 (B3 m c t)) (k0_pay26 M128 (B2 m c t) (B5 m c t)) := by
  by_cases h : t.val % 16 = 0
  · rw [outsAt0_A m c t h]; frame_out; rfl
  · rw [outsAt0_B m c t h]; frame_out; rfl

/-- Where an element of a block lies. -/
theorem emb6 (t : Fin cfg0.N) (p q : Fin 512) : (win0_6.blk t).view.emb (ix2 p q) = ix2 (at_ t p) q := by
  blk_point [idx t]
theorem emb7 (t : Fin cfg0.N) (p q : Fin 512) : (win0_7.blk t).view.emb (ix2 p q) = ix2 (at_ t p) q := by
  blk_point [idx t]
theorem emb8 (t : Fin cfg0.N) (y : (win0_8.xblock (grid0.coords t)).Idx) (p q : Fin 512) (h : win0_8.xinj (grid0.coords t) y = ix2 p q) :
    (win0_8.blk t).view.emb y = ix2 (at_ t p) ⟨2560 + q.val, by omega⟩ := by
  have h0 : (y 0 : ℕ) = p.val := congrArg (fun j => (j 0 : ℕ)) h
  have h1 : (y 1 : ℕ) = q.val := congrArg (fun j => (j 1 : ℕ)) h
  blk_point [idx t, h0, h1]
theorem emb9 (t : Fin cfg0.N) (q : Fin 512) : (win0_9.blk t).view.emb (ix2 0 q) = ix2 0 q := by
  blk_point [idx t]
theorem emb10 (t : Fin cfg0.N) (q : Fin 512) : (win0_10.blk t).view.emb (ix2 0 q) = ix2 0 q := by
  blk_point [idx t]

/-- The gradient's array at the first attention's output. -/
theorem final6 (c : Dev nD) (hf : Reals m c) : (dats m 0 c).arrAt 6 (cfgs 0).N = R6 m c := by
  refine (dats m 0 c).arrAt_eq_of_covers 6 _ (by decide +kernel) fun t _ y => ?_
  obtain ⟨p, q, rfl⟩ : ∃ (p q : Fin 512), y = ix2 p q := ⟨y 0, y 1, eq_ix2 y⟩
  blk_simp
  rw [after0_6, emb6, out6, R6, v91_at, dsb_at _ _ _ (realB1 hf t) (realD0 hf t) (realB4 hf t), brow1]
  simp only [D0_at, B4_at]

/-- The gradient's array at the second attention's output. -/
theorem final7 (c : Dev nD) (hf : Reals m c) : (dats m 0 c).arrAt 7 (cfgs 0).N = R7 m c := by
  refine (dats m 0 c).arrAt_eq_of_covers 7 _ (by decide +kernel) fun t _ y => ?_
  obtain ⟨p, q, rfl⟩ : ∃ (p q : Fin 512), y = ix2 p q := ⟨y 0, y 1, eq_ix2 y⟩
  blk_simp
  rw [after0_7, emb7, out7, R7, v68_at, dgl_at _ _ _ _ (realB2 hf t) (realD1 hf t) (realB3 hf t) (realB5 hf t) (fun i => isReal_logistic (realB3 hf t i)), brow2]
  simp only [D1_at, B3_at, B5_at]

/-- The gradient's array at the projection: the gate's columns. -/
theorem final8 (c : Dev nD) (hf : Reals m c) : (dats m 0 c).arrAt 8 (cfgs 0).N
    = fun i => if 2560 ≤ (i 1 : ℕ) ∧ (i 1 : ℕ) < 3072 then R8 m c i else V m c main_v0_2 i := by
  refine (dats m 0 c).arrAt_eq_of_coversWhere 8 _ (fun β => β 1 = 5) (by decide +kernel) (fun t _ y => ?_)
    (fun j => by blk_simp [Pipeline.Window.cell_apply]; have h0 : (j 1 : ℕ) < 3200 := (j 1).isLt; omega)
  obtain ⟨p, q, h⟩ : ∃ (p q : Fin 512), win0_8.xinj (grid0.coords t) y = ix2 p q := ⟨_, _, eq_ix2 (win0_8.xinj (grid0.coords t) y)⟩
  blk_simp
  rw [after0_8, emb8 t y p q h, h, out8, R8, v96_at, dog_at _ _ _ _ (realB2 hf t), brow2]
  rw [gate_eq (realD1 hf t _) (((realB2 hf t _).mul (isReal_R128 _ _)).mul (realB5 hf t _)) (realB3 hf t _)]
  simp only [D1_at, B2_at, B3_at, B5_at]

/-- The points of the one run are the grid's. -/
theorem pts (t : Fin cfg0.N) (h : ∀ s : Fin 16, 16 * (t.val / 16) + s.val < cfg0.N) :
    (fun s : Fin 16 => (⟨16 * (t.val / 16) + s.val, h s⟩ : Fin cfg0.N)) = fun s => s := by
  have hN : t.val < 16 := t.isLt
  funext s
  apply Fin.ext
  show 16 * (t.val / 16) + s.val = s.val
  omega

/-- What a row adds to the two weight gradients. -/
def S9 (c : Dev nD) (p : Fin 8192) (q : Fin 512) : EReal :=
  row (A1 m c) p q * R64 (row (A1 m c) p) q * dS (A0 m c) p q
def S10 (c : Dev nD) (p : Fin 8192) (q : Fin 512) : EReal :=
  row (A2 m c) p q * R128 (row (A2 m c) p) q * (dG (A0 m c) p q * (og (A3 m c) p q * Ideal.logistic (og (A3 m c) p q)))

/-- A point's part of the first. -/
theorem part9 (c : Dev nD) (hf : Reals m c) (t : Fin cfg0.N) (acc : FVec Ideal S1x512 .f32) (q : Fin 512) :
    k0_pay20 (k0_pay18 acc) (k0_pay19 M64 (Dlo m c t) (B1 m c t)) (ix2 0 q) = acc (ix2 0 q) + ∑ p : Fin 512, S9 m c (at_ t p) q := by
  rw [dgsb_at _ _ _ (realB1 hf t)]
  simp only [brow1, D0_at, B1_at]
  exact congrArg (acc (ix2 0 q) + ·) (Finset.sum_congr rfl fun _ _ => mul_comm _ _)

/-- A point's part of the second. -/
theorem part10 (c : Dev nD) (hf : Reals m c) (t : Fin cfg0.N) (acc : FVec Ideal S1x512 .f32) (q : Fin 512) :
    k0_pay2 (k0_pay23 M128 (B2 m c t)) (k0_pay25 (Dhi m c t) (B3 m c t)) acc (ix2 0 q) = acc (ix2 0 q) + ∑ p : Fin 512, S10 m c (at_ t p) q := by
  rw [dggl_at _ _ _ _ (realB2 hf t)]
  simp only [brow2, D1_at, B2_at, B3_at]
  exact congrArg (acc (ix2 0 q) + ·) (Finset.sum_congr rfl fun _ _ => mul_comm _ _)

/-- The first norm's weight gradient. -/
theorem final9 (c : Dev nD) (hf : Reals m c) : (dats m 0 c).arrAt 9 (cfgs 0).N = R9 m c := by
  refine (dats m 0 c).arrAt_eq_of_covers 9 _ (by decide +kernel) fun t hfl y => ?_
  obtain ⟨z, q, rfl⟩ : ∃ (z : Fin 1) (q : Fin 512), y = ix2 z q := ⟨y 0, y 1, eq_ix2 y⟩
  obtain rfl : z = 0 := Subsingleton.elim _ _
  blk_simp
  rw [after0_9, emb9, R9, v92_at,
    Pipeline.eq_sum_fin_of_reset_step_apply_of_flush (fun n h => (outsAt0 m c n h).2.2.2.1) 16 (fun _ => 0)
    (fun t j => ∑ p : Fin 512, S9 m c (at_ t p) (j 1))
    (fun t h j => by
      obtain ⟨z, q, rfl⟩ : ∃ (z : Fin 1) (q : Fin 512), j = ix2 z q := ⟨j 0, j 1, eq_ix2 j⟩
      obtain rfl : z = 0 := Subsingleton.elim _ _
      rw [outsAt0_A m c t h]; frame_out; refine (part9 m c hf t _ q).trans ?_; rw [zero4_at]; rfl)
    (fun t h j => by
      obtain ⟨z, q, rfl⟩ : ∃ (z : Fin 1) (q : Fin 512), j = ix2 z q := ⟨j 0, j 1, eq_ix2 j⟩
      obtain rfl : z = 0 := Subsingleton.elim _ _
      rw [outsAt0_B m c t h]; frame_out; exact part9 m c hf t _ q)
    t ((flush0_9 t).mp hfl) _, zero_add]
  refine (congrArg (fun f : Fin 16 → Fin cfg0.N => ∑ s, ∑ p : Fin 512, S9 m c (at_ (f s) p) q) (pts t _)).trans ?_
  exact Fin.sum_mul_add_congr (S := 16) (n := 512) (f := fun x : Fin 8192 => S9 m c x q) fun s p hl => rfl

/-- The second norm's weight gradient. -/
theorem final10 (c : Dev nD) (hf : Reals m c) : (dats m 0 c).arrAt 10 (cfgs 0).N = R10 m c := by
  refine (dats m 0 c).arrAt_eq_of_covers 10 _ (by decide +kernel) fun t hfl y => ?_
  obtain ⟨z, q, rfl⟩ : ∃ (z : Fin 1) (q : Fin 512), y = ix2 z q := ⟨y 0, y 1, eq_ix2 y⟩
  obtain rfl : z = 0 := Subsingleton.elim _ _
  blk_simp
  rw [after0_10, emb10, R10, v69_at,
    Pipeline.eq_sum_fin_of_reset_step_apply_of_flush (fun n h => (outsAt0 m c n h).2.2.2.2) 16 (fun _ => 0)
    (fun t j => ∑ p : Fin 512, S10 m c (at_ t p) (j 1))
    (fun t h j => by
      obtain ⟨z, q, rfl⟩ : ∃ (z : Fin 1) (q : Fin 512), j = ix2 z q := ⟨j 0, j 1, eq_ix2 j⟩
      obtain rfl : z = 0 := Subsingleton.elim _ _
      rw [outsAt0_A m c t h]; frame_out; refine (part10 m c hf t _ q).trans ?_; rw [zero5_at]; rfl)
    (fun t h j => by
      obtain ⟨z, q, rfl⟩ : ∃ (z : Fin 1) (q : Fin 512), j = ix2 z q := ⟨j 0, j 1, eq_ix2 j⟩
      obtain rfl : z = 0 := Subsingleton.elim _ _
      rw [outsAt0_B m c t h]; frame_out; exact part10 m c hf t _ q)
    t ((flush0_10 t).mp hfl) _, zero_add]
  refine (congrArg (fun f : Fin 16 → Fin cfg0.N => ∑ s, ∑ p : Fin 512, S10 m c (at_ (f s) p) q) (pts t _)).trans ?_
  exact Fin.sum_mul_add_congr (S := 16) (n := 512) (f := fun x : Fin 8192 => S10 m c x q) fun s p hl => rfl

attribute [local instance] finiteFacts

/-- The precondition says that the arguments are reals. -/
theorem reals_of (h : Cert.Pre_MixIdeal_finite_mix m) (c : Dev nD) : Reals m c :=
  ⟨pre0 _ _ _ _ _ _ (h c).1, pre1 _ _ _ _ _ _ (h c).2.1, pre2 _ _ _ _ _ _ (h c).2.2.1, pre3 _ _ _ _ _ _ (h c).2.2.2.1,
    pre4 _ _ _ _ _ _ (h c).2.2.2.2.1, pre5 _ _ _ _ _ _ (h c).2.2.2.2.2⟩

set_option maxHeartbeats 2000000 in
/-- The claim: the call's five results are the reference's, of the third the columns the call writes. -/
theorem algebraic : Cert.algebraic_MixIdeal_MixRefIdeal_on_gate_written_pre_finite_mix := by
  intro m g m' g' hpre hagree
  have hf := reals_of m hpre
  refine ⟨fun c => R6 m c, fun c => R7 m c, fun c => R8 m c, fun c => R9 m c, fun c => R10 m c, ?_, ?_⟩
  · refine (θ_run _ _ _).mono (fun r h c => ?_) (Cert.MixIdeal.Value.run_blocks (F := Ideal) m g)
    obtain ⟨r0, r1, r2, r3, r4, rest⟩ := h c
    refine ⟨fun i hi => ?_, fun i hi => ?_, fun i hi => ?_, fun i hi => ?_, fun i hi => ?_, rest⟩
    · exact congrFun (r0.trans (final6 m c (hf c))) i
    · exact congrFun (r1.trans (final7 m c (hf c))) i
    · exact (congrFun (r2.trans (final8 m c (hf c))) i).trans (if_pos (col_of_mask hi))
    · exact congrFun (r3.trans (final9 m c (hf c))) i
    · exact congrFun (r4.trans (final10 m c (hf c))) i
  · refine (θ_run _ _ _).mono (fun r h c => ?_) (Cert.MixRefIdeal.Value.run (F := Ideal) m' g')
    obtain ⟨h0, h1, h2, h3, h4, h5⟩ := hagree c
    obtain ⟨r0, r1, r2, r3, r4, rest⟩ := h c
    refine ⟨fun i hi => congrFun (r0.trans ?_) i, fun i hi => congrFun (r1.trans ?_) i, fun i hi => congrFun (r2.trans ?_) i,
      fun i hi => congrFun (r3.trans ?_) i, fun i hi => congrFun (r4.trans ?_) i, rest⟩
    · rw [val_main_v91_eq, h0, h1, h4]
    · rw [val_main_v68_eq, h0, h2, h3, h5]
    · rw [val_main_v96_eq, h0, h2, h3, h5]
    · rw [val_main_v92_eq, h0, h1]
    · rw [val_main_v69_eq, h0, h2, h3]

end Cert.MixIdeal.Alg

end
-- ==== Proof.lean ====
/- The certificate of the step's backward calls: every frame, then every value claim.

  The frames of the thirteen product, norm and gate calls are the generated ones; the frame of the short convolution's
  backward call is `Cert.KernelIdeal.Conv.frame` (Proof/ConvFrame.lean), proved over any instance for the idealized
  program and read at the hardware's floats for the program itself, whose text is the same. A reference runs host
  operations alone and declares no semaphore. The value claims are each proved in the module of their call. -/
module

public import proofs.«01_k».proof.Defs
public import proofs.«01_k».proof.Proof.ConvFrame
public import proofs.«01_k».proof.Proof.Gen.Kernel
public import proofs.«01_k».proof.Proof.Gen.ReferenceIdeal.Run
public import proofs.«01_k».proof.Proof.Gen.ReferenceIdeal.Read
public import proofs.«01_k».proof.Proof.KernelFrame
public import proofs.«01_k».proof.Proof.ConvValue
public import proofs.«01_k».proof.Proof.Gen.On_rows_written
public import proofs.«01_k».proof.Proof.Gen.On_gate_written
public import proofs.«01_k».proof.Proof.Gen.Dh2.Frame
public import proofs.«01_k».proof.Proof.Gen.Dh2Ideal.Frame
public import proofs.«01_k».proof.Proof.Gen.Dh2RefIdeal.Run
public import proofs.«01_k».proof.Proof.Gen.Dh2Ideal.Value
public import proofs.«01_k».proof.Proof.Gen.Dh2RefIdeal.Read
public import proofs.«01_k».proof.Proof.Dh2Value
public import proofs.«01_k».proof.Proof.Gen.Loss.Frame
public import proofs.«01_k».proof.Proof.Gen.LossIdeal.Frame
public import proofs.«01_k».proof.Proof.Gen.LossRefIdeal.Run
public import proofs.«01_k».proof.Proof.Gen.LossIdeal.Value
public import proofs.«01_k».proof.Proof.Gen.LossRefIdeal.Read
public import proofs.«01_k».proof.Proof.LossValue
public import proofs.«01_k».proof.Proof.Gen.DwDown.Frame
public import proofs.«01_k».proof.Proof.Gen.DwDownIdeal.Frame
public import proofs.«01_k».proof.Proof.Gen.DwDownRefIdeal.Run
public import proofs.«01_k».proof.Proof.Gen.DwDownIdeal.Value
public import proofs.«01_k».proof.Proof.Gen.DwDownRefIdeal.Read
public import proofs.«01_k».proof.Proof.DwDownValue
public import proofs.«01_k».proof.Proof.Gen.Dact.Frame
public import proofs.«01_k».proof.Proof.Gen.DactIdeal.Frame
public import proofs.«01_k».proof.Proof.Gen.DactRefIdeal.Run
public import proofs.«01_k».proof.Proof.Gen.DactIdeal.Value
public import proofs.«01_k».proof.Proof.Gen.DactRefIdeal.Read
public import proofs.«01_k».proof.Proof.DactValue
public import proofs.«01_k».proof.Proof.Gen.DwUpA.Frame
public import proofs.«01_k».proof.Proof.Gen.DwUpAIdeal.Frame
public import proofs.«01_k».proof.Proof.Gen.DwUpARefIdeal.Run
public import proofs.«01_k».proof.Proof.Gen.DwUpAIdeal.Value
public import proofs.«01_k».proof.Proof.Gen.DwUpARefIdeal.Read
public import proofs.«01_k».proof.Proof.DwUpAValue
public import proofs.«01_k».proof.Proof.Gen.DwUpV.Frame
public import proofs.«01_k».proof.Proof.Gen.DwUpVIdeal.Frame
public import proofs.«01_k».proof.Proof.Gen.DwUpVRefIdeal.Run
public import proofs.«01_k».proof.Proof.Gen.DwUpVIdeal.Value
public import proofs.«01_k».proof.Proof.Gen.DwUpVRefIdeal.Read
public import proofs.«01_k».proof.Proof.DwUpVValue
public import proofs.«01_k».proof.Proof.Gen.DwOut.Frame
public import proofs.«01_k».proof.Proof.Gen.DwOutIdeal.Frame
public import proofs.«01_k».proof.Proof.Gen.DwOutRefIdeal.Run
public import proofs.«01_k».proof.Proof.Gen.DwOutIdeal.Value
public import proofs.«01_k».proof.Proof.Gen.DwOutRefIdeal.Read
public import proofs.«01_k».proof.Proof.DwOutValue
public import proofs.«01_k».proof.Proof.Gen.Docat.Frame
public import proofs.«01_k».proof.Proof.Gen.DocatIdeal.Frame
public import proofs.«01_k».proof.Proof.Gen.DocatRefIdeal.Run
public import proofs.«01_k».proof.Proof.Gen.DocatIdeal.Value
public import proofs.«01_k».proof.Proof.Gen.DocatRefIdeal.Read
public import proofs.«01_k».proof.Proof.DocatValue
public import proofs.«01_k».proof.Proof.Gen.DwIn.Frame
public import proofs.«01_k».proof.Proof.Gen.DwInIdeal.Frame
public import proofs.«01_k».proof.Proof.Gen.DwInRefIdeal.Run
public import proofs.«01_k».proof.Proof.Gen.DwInIdeal.Value
public import proofs.«01_k».proof.Proof.Gen.DwInRefIdeal.Read
public import proofs.«01_k».proof.Proof.DwInValue
public import proofs.«01_k».proof.Proof.Gen.Gate.Frame
public import proofs.«01_k».proof.Proof.Gen.GateIdeal.Frame
public import proofs.«01_k».proof.Proof.Gen.GateRefIdeal.Run
public import proofs.«01_k».proof.Proof.Gen.GateIdeal.Value
public import proofs.«01_k».proof.Proof.Gen.GateRefIdeal.Read
public import proofs.«01_k».proof.Proof.GateValue
public import proofs.«01_k».proof.Proof.Gen.Up.Frame
public import proofs.«01_k».proof.Proof.Gen.UpIdeal.Frame
public import proofs.«01_k».proof.Proof.Gen.UpRefIdeal.Run
public import proofs.«01_k».proof.Proof.Gen.UpIdeal.Value
public import proofs.«01_k».proof.Proof.Gen.UpRefIdeal.Read
public import proofs.«01_k».proof.Proof.UpValue
public import proofs.«01_k».proof.Proof.Gen.Proj.Frame
public import proofs.«01_k».proof.Proof.Gen.ProjIdeal.Frame
public import proofs.«01_k».proof.Proof.Gen.ProjRefIdeal.Run
public import proofs.«01_k».proof.Proof.Gen.ProjIdeal.Value
public import proofs.«01_k».proof.Proof.Gen.ProjRefIdeal.Read
public import proofs.«01_k».proof.Proof.ProjValue
public import proofs.«01_k».proof.Proof.Gen.Mix.Frame
public import proofs.«01_k».proof.Proof.Gen.MixIdeal.Frame
public import proofs.«01_k».proof.Proof.Gen.MixRefIdeal.Run
public import proofs.«01_k».proof.Proof.Gen.MixIdeal.Value
public import proofs.«01_k».proof.Proof.Gen.MixRefIdeal.Read
public import proofs.«01_k».proof.Proof.MixValue
public import Idealize.ShloMosaic.Lib.Claim

@[expose] public section

noncomputable section

namespace Cert.Proof

open Idealize.ShloMosaic Idealize.SL.Sem

/-- The convolution's backward call over the extended reals. -/
theorem frame_KernelIdeal : Cert.quiescent_KernelIdeal := fun m ρ _ => Cert.KernelIdeal.Conv.frame m ρ

/-- The reference of this call: host operations alone, no semaphore. -/
theorem frame_ReferenceIdeal : Cert.quiescent_ReferenceIdeal := fun m ρ _ =>
  (θ_run Cert.ReferenceIdeal.defs _ _).mono (fun r h => ⟨fun c => (h c).2.2.2.2.2.2, sem_eq_zero_of_no_sems (by decide) r.2⟩)
    (Cert.ReferenceIdeal.Value.run (F := Ideal) m ρ)

theorem frame_Dh2 : Cert.quiescent_Dh2 := fun m ρ _ => Cert.Dh2.Gen.frame m ρ

theorem frame_Dh2Ideal : Cert.quiescent_Dh2Ideal := fun m ρ _ => Cert.Dh2Ideal.Gen.frame m ρ

/-- The reference of this call: host operations alone, no semaphore. -/
theorem frame_Dh2RefIdeal : Cert.quiescent_Dh2RefIdeal := fun m ρ _ =>
  (θ_run Cert.Dh2RefIdeal.defs _ _).mono (fun r h => ⟨fun c => (h c).2.2, sem_eq_zero_of_no_sems (by decide) r.2⟩)
    (Cert.Dh2RefIdeal.Value.run (F := Ideal) m ρ)

theorem frame_Loss : Cert.quiescent_Loss := fun m ρ _ => Cert.Loss.Gen.frame m ρ

theorem frame_LossIdeal : Cert.quiescent_LossIdeal := fun m ρ _ => Cert.LossIdeal.Gen.frame m ρ

/-- The reference of this call: host operations alone, no semaphore. -/
theorem frame_LossRefIdeal : Cert.quiescent_LossRefIdeal := fun m ρ _ =>
  (θ_run Cert.LossRefIdeal.defs _ _).mono (fun r h => ⟨fun c => (h c).2.2.2, sem_eq_zero_of_no_sems (by decide) r.2⟩)
    (Cert.LossRefIdeal.Value.run (F := Ideal) m ρ)

theorem frame_DwDown : Cert.quiescent_DwDown := fun m ρ _ => Cert.DwDown.Gen.frame m ρ

theorem frame_DwDownIdeal : Cert.quiescent_DwDownIdeal := fun m ρ _ => Cert.DwDownIdeal.Gen.frame m ρ

/-- The reference of this call: host operations alone, no semaphore. -/
theorem frame_DwDownRefIdeal : Cert.quiescent_DwDownRefIdeal := fun m ρ _ =>
  (θ_run Cert.DwDownRefIdeal.defs _ _).mono (fun r h => ⟨fun c => (h c).2, sem_eq_zero_of_no_sems (by decide) r.2⟩)
    (Cert.DwDownRefIdeal.Value.run (F := Ideal) m ρ)

theorem frame_Dact : Cert.quiescent_Dact := fun m ρ _ => Cert.Dact.Gen.frame m ρ

theorem frame_DactIdeal : Cert.quiescent_DactIdeal := fun m ρ _ => Cert.DactIdeal.Gen.frame m ρ

/-- The reference of this call: host operations alone, no semaphore. -/
theorem frame_DactRefIdeal : Cert.quiescent_DactRefIdeal := fun m ρ _ =>
  (θ_run Cert.DactRefIdeal.defs _ _).mono (fun r h => ⟨fun c => (h c).2, sem_eq_zero_of_no_sems (by decide) r.2⟩)
    (Cert.DactRefIdeal.Value.run (F := Ideal) m ρ)

theorem frame_DwUpA : Cert.quiescent_DwUpA := fun m ρ _ => Cert.DwUpA.Gen.frame m ρ

theorem frame_DwUpAIdeal : Cert.quiescent_DwUpAIdeal := fun m ρ _ => Cert.DwUpAIdeal.Gen.frame m ρ

/-- The reference of this call: host operations alone, no semaphore. -/
theorem frame_DwUpARefIdeal : Cert.quiescent_DwUpARefIdeal := fun m ρ _ =>
  (θ_run Cert.DwUpARefIdeal.defs _ _).mono (fun r h => ⟨fun c => (h c).2, sem_eq_zero_of_no_sems (by decide) r.2⟩)
    (Cert.DwUpARefIdeal.Value.run (F := Ideal) m ρ)

theorem frame_DwUpV : Cert.quiescent_DwUpV := fun m ρ _ => Cert.DwUpV.Gen.frame m ρ

theorem frame_DwUpVIdeal : Cert.quiescent_DwUpVIdeal := fun m ρ _ => Cert.DwUpVIdeal.Gen.frame m ρ

/-- The reference of this call: host operations alone, no semaphore. -/
theorem frame_DwUpVRefIdeal : Cert.quiescent_DwUpVRefIdeal := fun m ρ _ =>
  (θ_run Cert.DwUpVRefIdeal.defs _ _).mono (fun r h => ⟨fun c => (h c).2, sem_eq_zero_of_no_sems (by decide) r.2⟩)
    (Cert.DwUpVRefIdeal.Value.run (F := Ideal) m ρ)

theorem frame_DwOut : Cert.quiescent_DwOut := fun m ρ _ => Cert.DwOut.Gen.frame m ρ

theorem frame_DwOutIdeal : Cert.quiescent_DwOutIdeal := fun m ρ _ => Cert.DwOutIdeal.Gen.frame m ρ

/-- The reference of this call: host operations alone, no semaphore. -/
theorem frame_DwOutRefIdeal : Cert.quiescent_DwOutRefIdeal := fun m ρ _ =>
  (θ_run Cert.DwOutRefIdeal.defs _ _).mono (fun r h => ⟨fun c => (h c).2, sem_eq_zero_of_no_sems (by decide) r.2⟩)
    (Cert.DwOutRefIdeal.Value.run (F := Ideal) m ρ)

theorem frame_Docat : Cert.quiescent_Docat := fun m ρ _ => Cert.Docat.Gen.frame m ρ

theorem frame_DocatIdeal : Cert.quiescent_DocatIdeal := fun m ρ _ => Cert.DocatIdeal.Gen.frame m ρ

/-- The reference of this call: host operations alone, no semaphore. -/
theorem frame_DocatRefIdeal : Cert.quiescent_DocatRefIdeal := fun m ρ _ =>
  (θ_run Cert.DocatRefIdeal.defs _ _).mono (fun r h => ⟨fun c => (h c).2, sem_eq_zero_of_no_sems (by decide) r.2⟩)
    (Cert.DocatRefIdeal.Value.run (F := Ideal) m ρ)

theorem frame_DwIn : Cert.quiescent_DwIn := fun m ρ _ => Cert.DwIn.Gen.frame m ρ

theorem frame_DwInIdeal : Cert.quiescent_DwInIdeal := fun m ρ _ => Cert.DwInIdeal.Gen.frame m ρ

/-- The reference of this call: host operations alone, no semaphore. -/
theorem frame_DwInRefIdeal : Cert.quiescent_DwInRefIdeal := fun m ρ _ =>
  (θ_run Cert.DwInRefIdeal.defs _ _).mono (fun r h => ⟨fun c => (h c).2, sem_eq_zero_of_no_sems (by decide) r.2⟩)
    (Cert.DwInRefIdeal.Value.run (F := Ideal) m ρ)

theorem frame_Gate : Cert.quiescent_Gate := fun m ρ _ => Cert.Gate.Gen.frame m ρ

theorem frame_GateIdeal : Cert.quiescent_GateIdeal := fun m ρ _ => Cert.GateIdeal.Gen.frame m ρ

/-- The reference of this call: host operations alone, no semaphore. -/
theorem frame_GateRefIdeal : Cert.quiescent_GateRefIdeal := fun m ρ _ =>
  (θ_run Cert.GateRefIdeal.defs _ _).mono (fun r h => ⟨fun c => (h c).2.2.2, sem_eq_zero_of_no_sems (by decide) r.2⟩)
    (Cert.GateRefIdeal.Value.run (F := Ideal) m ρ)

theorem frame_Up : Cert.quiescent_Up := fun m ρ _ => Cert.Up.Gen.frame m ρ

theorem frame_UpIdeal : Cert.quiescent_UpIdeal := fun m ρ _ => Cert.UpIdeal.Gen.frame m ρ

/-- The reference of this call: host operations alone, no semaphore. -/
theorem frame_UpRefIdeal : Cert.quiescent_UpRefIdeal := fun m ρ _ =>
  (θ_run Cert.UpRefIdeal.defs _ _).mono (fun r h => ⟨fun c => (h c).2, sem_eq_zero_of_no_sems (by decide) r.2⟩)
    (Cert.UpRefIdeal.Value.run (F := Ideal) m ρ)

theorem frame_Proj : Cert.quiescent_Proj := fun m ρ _ => Cert.Proj.Gen.frame m ρ

theorem frame_ProjIdeal : Cert.quiescent_ProjIdeal := fun m ρ _ => Cert.ProjIdeal.Gen.frame m ρ

/-- The reference of this call: host operations alone, no semaphore. -/
theorem frame_ProjRefIdeal : Cert.quiescent_ProjRefIdeal := fun m ρ _ =>
  (θ_run Cert.ProjRefIdeal.defs _ _).mono (fun r h => ⟨fun c => (h c).2.2, sem_eq_zero_of_no_sems (by decide) r.2⟩)
    (Cert.ProjRefIdeal.Value.run (F := Ideal) m ρ)

theorem frame_Mix : Cert.quiescent_Mix := fun m ρ _ => Cert.Mix.Gen.frame m ρ

theorem frame_MixIdeal : Cert.quiescent_MixIdeal := fun m ρ _ => Cert.MixIdeal.Gen.frame m ρ

/-- The reference of this call: host operations alone, no semaphore. -/
theorem frame_MixRefIdeal : Cert.quiescent_MixRefIdeal := fun m ρ _ =>
  (θ_run Cert.MixRefIdeal.defs _ _).mono (fun r h => ⟨fun c => (h c).2.2.2.2.2, sem_eq_zero_of_no_sems (by decide) r.2⟩)
    (Cert.MixRefIdeal.Value.run (F := Ideal) m ρ)

theorem claim : Cert.Claim :=
  ⟨Cert.Kernel.Gen.facts,
    Cert.KernelIdeal.Gen.facts,
    Cert.ReferenceIdeal.Gen.facts,
    Cert.Dh2.Gen.facts,
    Cert.Dh2Ideal.Gen.facts,
    Cert.Dh2RefIdeal.Gen.facts,
    Cert.Loss.Gen.facts,
    Cert.LossIdeal.Gen.facts,
    Cert.LossRefIdeal.Gen.facts,
    Cert.DwDown.Gen.facts,
    Cert.DwDownIdeal.Gen.facts,
    Cert.DwDownRefIdeal.Gen.facts,
    Cert.Dact.Gen.facts,
    Cert.DactIdeal.Gen.facts,
    Cert.DactRefIdeal.Gen.facts,
    Cert.DwUpA.Gen.facts,
    Cert.DwUpAIdeal.Gen.facts,
    Cert.DwUpARefIdeal.Gen.facts,
    Cert.DwUpV.Gen.facts,
    Cert.DwUpVIdeal.Gen.facts,
    Cert.DwUpVRefIdeal.Gen.facts,
    Cert.DwOut.Gen.facts,
    Cert.DwOutIdeal.Gen.facts,
    Cert.DwOutRefIdeal.Gen.facts,
    Cert.Docat.Gen.facts,
    Cert.DocatIdeal.Gen.facts,
    Cert.DocatRefIdeal.Gen.facts,
    Cert.DwIn.Gen.facts,
    Cert.DwInIdeal.Gen.facts,
    Cert.DwInRefIdeal.Gen.facts,
    Cert.Gate.Gen.facts,
    Cert.GateIdeal.Gen.facts,
    Cert.GateRefIdeal.Gen.facts,
    Cert.Up.Gen.facts,
    Cert.UpIdeal.Gen.facts,
    Cert.UpRefIdeal.Gen.facts,
    Cert.Proj.Gen.facts,
    Cert.ProjIdeal.Gen.facts,
    Cert.ProjRefIdeal.Gen.facts,
    Cert.Mix.Gen.facts,
    Cert.MixIdeal.Gen.facts,
    Cert.MixRefIdeal.Gen.facts,
    Cert.KernelIdeal.Conv.finiteFacts,
    Cert.MixIdeal.Alg.finiteFacts,
    Cert.On_rows_written.Gen.facts,
    Cert.On_gate_written.Gen.facts,
    frame_Kernel,
    frame_KernelIdeal,
    fun m ρ _ => frame_KernelIdeal m ρ trivial,
    frame_ReferenceIdeal,
    fun m ρ _ => frame_ReferenceIdeal m ρ trivial,
    frame_Dh2,
    frame_Dh2Ideal,
    frame_Dh2RefIdeal,
    frame_Loss,
    frame_LossIdeal,
    frame_LossRefIdeal,
    frame_DwDown,
    frame_DwDownIdeal,
    frame_DwDownRefIdeal,
    frame_Dact,
    frame_DactIdeal,
    frame_DactRefIdeal,
    frame_DwUpA,
    frame_DwUpAIdeal,
    frame_DwUpARefIdeal,
    frame_DwUpV,
    frame_DwUpVIdeal,
    frame_DwUpVRefIdeal,
    frame_DwOut,
    frame_DwOutIdeal,
    frame_DwOutRefIdeal,
    frame_Docat,
    frame_DocatIdeal,
    frame_DocatRefIdeal,
    frame_DwIn,
    frame_DwInIdeal,
    frame_DwInRefIdeal,
    frame_Gate,
    frame_GateIdeal,
    frame_GateRefIdeal,
    frame_Up,
    frame_UpIdeal,
    frame_UpRefIdeal,
    frame_Proj,
    frame_ProjIdeal,
    frame_ProjRefIdeal,
    frame_Mix,
    frame_MixIdeal,
    fun m ρ _ => frame_MixIdeal m ρ trivial,
    frame_MixRefIdeal,
    fun m ρ _ => frame_MixRefIdeal m ρ trivial,
    trivial,
    Cert.KernelIdeal.Conv.algebraic,
    trivial,
    Cert.Dh2Ideal.Alg.algebraic,
    trivial,
    Cert.LossIdeal.Alg.algebraic,
    trivial,
    Cert.DwDownIdeal.Alg.algebraic,
    trivial,
    Cert.DactIdeal.Alg.algebraic,
    trivial,
    Cert.DwUpAIdeal.Alg.algebraic,
    trivial,
    Cert.DwUpVIdeal.Alg.algebraic,
    trivial,
    Cert.DwOutIdeal.Alg.algebraic,
    trivial,
    Cert.DocatIdeal.Alg.algebraic,
    trivial,
    Cert.DwInIdeal.Alg.algebraic,
    trivial,
    Cert.GateIdeal.Alg.algebraic,
    trivial,
    Cert.UpIdeal.Alg.algebraic,
    trivial,
    Cert.ProjIdeal.Alg.algebraic,
    trivial,
    Cert.MixIdeal.Alg.algebraic⟩

end Cert.Proof

end
